-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_v172) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_v139) = v4 c
          ∧ r.2.mem ((c.tc : Thread Cert.ReferenceIdeal.nD Cert.ReferenceIdeal.τ).loc Cert.ReferenceIdeal.main_v98) = v5 c
          ∧ r.2.mem ((c.tc : Thread Cert.ReferenceIdeal.nD Cert.ReferenceIdeal.τ).loc Cert.ReferenceIdeal.main_v145) = v6 c
          ∧ r.2.mem ((c.tc : Thread Cert.ReferenceIdeal.nD Cert.ReferenceIdeal.τ).loc Cert.ReferenceIdeal.main_v174) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v14_0)) (v1 : (c : Dev Cert.Kernel5Ideal.nD) → Buf (Elt Ideal) ((c.tc : Thread Cert.Kernel5Ideal.nD Cert.Kernel5Ideal.τ).loc Cert.Kernel5Ideal.main_v14_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v14_0) = v0 c
          ∧ r.2.mem ((c.tc : Thread Cert.Kernel5Ideal.nD Cert.Kernel5Ideal.τ).loc Cert.Kernel5Ideal.main_v14_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4096x1024 : Shape := ⟨2, ![4096, 1024]⟩
abbrev S4096x2048 : Shape := ⟨2, ![4096, 2048]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S4096x4096 : Shape := ⟨2, ![4096, 4096]⟩
abbrev S3x4096x1024 : Shape := ⟨3, ![3, 4096, 1024]⟩
abbrev S512x1024 : Shape := ⟨2, ![512, 1024]⟩
abbrev S512x2048 : Shape := ⟨2, ![512, 2048]⟩
abbrev S4096x512 : Shape := ⟨2, ![4096, 512]⟩
abbrev S3x512x1024 : Shape := ⟨3, ![3, 512, 1024]⟩
abbrev S8x1024 : Shape := ⟨2, ![8, 1024]⟩
abbrev S256x2048 : Shape := ⟨2, ![256, 2048]⟩
abbrev S2048x256 : Shape := ⟨2, ![2048, 256]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S32x8x1024 : Shape := ⟨3, ![32, 8, 1024]⟩
abbrev S1x256x1024 : Shape := ⟨3, ![1, 256, 1024]⟩
abbrev S1024 : Shape := ⟨1, ![1024]⟩

abbrev nBuf : Space → Nat
  | .hbm => 18
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4096x1024, .f32⟩
  | .hbm, ⟨3, _⟩ => ⟨S2048x1024, .bf16⟩
  | .hbm, ⟨4, _⟩ => ⟨S1024x1024, .bf16⟩
  | .hbm, ⟨5, _⟩ => ⟨S1024x1024, .bf16⟩
  | .hbm, ⟨6, _⟩ => ⟨S256x1024, .bf16⟩
  | .hbm, ⟨7, _⟩ => ⟨S256x1024, .bf16⟩
  | .hbm, ⟨8, _⟩ => ⟨S1x1024, .f32⟩
  | .hbm, ⟨9, _⟩ => ⟨S1x1024, .f32⟩
  | .hbm, ⟨10, _⟩ => ⟨S4096x2048, .bf16⟩
  | .hbm, ⟨11, _⟩ => ⟨S4096x4096, .bf16⟩
  | .hbm, ⟨12, _⟩ => ⟨S3x4096x1024, .bf16⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S1x1024, .f32⟩
  | .hbm, ⟨17, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S512x2048, .bf16⟩
  | .local _ .vmem, ⟨14, _⟩ => ⟨S512x2048, .bf16⟩
  | .local _ .vmem, ⟨15, _⟩ => ⟨S4096x512, .bf16⟩
  | .local _ .vmem, ⟨16, _⟩ => ⟨S4096x512, .bf16⟩
  | .local _ .vmem, ⟨17, _⟩ => ⟨S3x512x1024, .bf16⟩
  | .local _ .vmem, ⟨18, _⟩ => ⟨S3x512x1024, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .f32⟩
  | .local _ .vmem, ⟨27, _⟩ => ⟨S512x1024, .bf16⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v683 : BitVec 1 := Scalar.cmpi .eq arg0 c7_i32
  let v684 : BitVec 32 := Scalar.extui v683
  let c0_i32_410 : BitVec 32 := 0#32
  let v685 : BitVec 1 := Scalar.cmpi .ne v684 c0_i32_410
  v685

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4096x1024 : Shape := ⟨2, ![4096, 1024]⟩
abbrev S4096x2048 : Shape := ⟨2, ![4096, 2048]⟩
abbrev S2048x1024 : Shape := ⟨2, ![2048, 1024]⟩
abbrev S1024x1024 : Shape := ⟨2, ![1024, 1024]⟩
abbrev S256x1024 : Shape := ⟨2, ![256, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S1024 : Shape := ⟨1, ![1024]⟩
abbrev S4x256x256 : Shape := ⟨3, ![4, 256, 256]⟩
abbrev S4096x4096 : Shape := ⟨2, ![4096, 4096]⟩
abbrev S1x4096x1024 : Shape := ⟨3, ![1, 4096, 1024]⟩
abbrev S3x4096x1024 : Shape := ⟨3, ![3, 4096, 1024]⟩

abbrev nBuf : Space → Nat
  | .hbm => 225
  | .vmem => 0
  | .smem => 0
  | _ => 0

abbrev hbmTy0_0 (i : Nat) : BufTy := match i % 128 with
  | 0 => ⟨S4096x1024, .f32⟩
  | 1 => ⟨S4096x2048, .bf16⟩
  | 2 => ⟨S4096x1024, .f32⟩
  | 3 => ⟨S2048x1024, .bf16⟩
  | 4 => ⟨S1024x1024, .bf16⟩
  | 5 => ⟨S1024x1024, .bf16⟩
  | 6 => ⟨S256x1024, .bf16⟩
  | 7 => ⟨S256x1024, .bf16⟩
  | 8 => ⟨S1x1024, .f32⟩
  | 9 => ⟨S1x1024, .f32⟩
  | 10 => ⟨S4096x2048, .f32⟩
  | 11 => ⟨S2048x1024, .f32⟩
  | 12 => ⟨S1024x1024, .f32⟩
  | 13 => ⟨S1024x1024, .f32⟩
  | 14 => ⟨S256x1024, .f32⟩
  | 15 => ⟨S256x1024, .f32⟩
  | 16 => ⟨S_, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S4096, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096x1, .f32⟩
  | 29 => ⟨S4096x1, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x4x256, .f32⟩
  | 42 => ⟨S256x4x256, .f32⟩
  | 43 => ⟨S256x4x256, .f32⟩
  | 44 => ⟨S4x4096x256, .f32⟩
  | 45 => ⟨S_, .f32⟩
  | 46 => ⟨S4x4096x256, .f32⟩
  | 47 => ⟨S4x4096x256, .f32⟩
  | 48 => ⟨S_, .f32⟩
  | 49 => ⟨S4x4096, .f32⟩
  | 50 => ⟨S4x4096x1, .f32⟩
  | 51 => ⟨S4x4096x256, .f32⟩
  | 52 => ⟨S4x4096x256, .i1⟩
  | 53 => ⟨S4x4096x256, .f32⟩
  | 54 => ⟨S_, .f32⟩
  | 55 => ⟨S4x4096, .f32⟩
  | 56 => ⟨S_, .f32⟩
  | 57 => ⟨S4x4096, .f32⟩
  | 58 => ⟨S4x4096, .f32⟩
  | 59 => ⟨S_, .f32⟩
  | 60 => ⟨S4x4096, .f32⟩
  | 61 => ⟨S4x4096, .i1⟩
  | 62 => ⟨S_, .f32⟩
  | 63 => ⟨S4x4096, .f32⟩
  | 64 => ⟨S4x4096, .i1⟩
  | 65 => ⟨S_, .f32⟩
  | 66 => ⟨S4x4096, .f32⟩
  | 67 => ⟨S_, .f32⟩
  | 68 => ⟨S4x4096, .f32⟩
  | 69 => ⟨S_, .f32⟩
  | 70 => ⟨S4x4096, .f32⟩
  | 71 => ⟨S4x4096, .f32⟩
  | 72 => ⟨S4x4096, .f32⟩
  | 73 => ⟨S4x4096x1, .f32⟩
  | 74 => ⟨S4x4096x256, .f32⟩
  | 75 => ⟨S4x4096x256, .f32⟩
  | 76 => ⟨S4x4096x256, .f32⟩
  | 77 => ⟨S_, .f32⟩
  | 78 => ⟨S4x4096, .f32⟩
  | 79 => ⟨S4x4096x1, .f32⟩
  | 80 => ⟨S4x4096x256, .f32⟩
  | 81 => ⟨S4x4096x256, .f32⟩
  | 82 => ⟨S4x4096x1, .f32⟩
  | 83 => ⟨S_, .f32⟩
  | 84 => ⟨S4x4096x1, .f32⟩
  | 85 => ⟨S4x4096x1, .f32⟩
  | 86 => ⟨S4x256x4096, .f32⟩
  | 87 => ⟨S4096x4x256, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S4096, .f32⟩
  | 95 => ⟨S4096x1, .f32⟩
  | 96 => ⟨S_, .f32⟩
  | 97 => ⟨S4096x1, .f32⟩
  | 98 => ⟨S4096x1, .f32⟩
  | 99 => ⟨S_, .f32⟩
  | 100 => ⟨S4096x1, .f32⟩
  | 101 => ⟨S4096x1, .f32⟩
  | 102 => ⟨S4096x1, .f32⟩
  | 103 => ⟨S4096x1, .f32⟩
  | 104 => ⟨S_, .f32⟩
  | 105 => ⟨S4096x1, .f32⟩
  | 106 => ⟨S4096x1, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096, .f32⟩
  | 118 => ⟨S_, .f32⟩
  | 119 => ⟨S4096, .f32⟩
  | 120 => ⟨S4096, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x1024, .f32⟩

abbrev hbmTy0_1 (i : Nat) : BufTy := match i % 128 with
  | 0 => ⟨S4096, .f32⟩
  | 1 => ⟨S_, .f32⟩
  | 2 => ⟨S4096, .f32⟩
  | 3 => ⟨S4096, .f32⟩
  | 4 => ⟨S4096x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S4096x1024, .f32⟩
  | 12 => ⟨S4096x1024, .f32⟩
  | 13 => ⟨S_, .f32⟩
  | 14 => ⟨S4096, .f32⟩
  | 15 => ⟨S4096x1, .f32⟩
  | 16 => ⟨S4096x1024, .f32⟩
  | 17 => ⟨S4096x1024, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096, .f32⟩
  | 24 => ⟨S4096x1024, .f32⟩
  | 25 => ⟨S4096x1024, .f32⟩
  | 26 => ⟨S4096x1024, .f32⟩
  | 27 => ⟨S4096x1024, .f32⟩
  | 28 => ⟨S4096x1024, .f32⟩
  | 29 => ⟨S4096x1024, .f32⟩
  | 30 => ⟨S4096x4x256, .f32⟩
  | 31 => ⟨S4x256x4096, .f32⟩
  | 32 => ⟨S4x4096x256, .f32⟩
  | 33 => ⟨S4x256x256, .f32⟩
  | 34 => ⟨S256x4x256, .f32⟩
  | 35 => ⟨S4x4096x256, .f32⟩
  | 36 => ⟨S4x4096x256, .f32⟩
  | 37 => ⟨S4x4096x256, .f32⟩
  | 38 => ⟨S_, .f32⟩
  | 39 => ⟨S4x4096, .f32⟩
  | 40 => ⟨S4x4096x1, .f32⟩
  | 41 => ⟨S4x4096x1, .f32⟩
  | 42 => ⟨S4x4096x256, .f32⟩
  | 43 => ⟨S4x4096x256, .f32⟩
  | 44 => ⟨S_, .f32⟩
  | 45 => ⟨S4x4096, .f32⟩
  | 46 => ⟨S4x4096x256, .f32⟩
  | 47 => ⟨S4x4096x256, .f32⟩
  | 48 => ⟨S4x4096x256, .f32⟩
  | 49 => ⟨S_, .f32⟩
  | 50 => ⟨S4x4096x256, .f32⟩
  | 51 => ⟨S4x4096x256, .f32⟩
  | 52 => ⟨S4x256x256, .f32⟩
  | 53 => ⟨S256x4x256, .f32⟩
  | 54 => ⟨S4x4096x256, .f32⟩
  | 55 => ⟨S4096x4x256, .f32⟩
  | 56 => ⟨S256x1024, .f32⟩
  | 57 => ⟨S256x1024, .f32⟩
  | 58 => ⟨S4096x1024, .f32⟩
  | 59 => ⟨S4096x1024, .f32⟩
  | 60 => ⟨S4096x1024, .f32⟩
  | 61 => ⟨S_, .f32⟩
  | 62 => ⟨S1024, .f32⟩
  | 63 => ⟨S1x1024, .f32⟩
  | 64 => ⟨S4096x1024, .f32⟩
  | 65 => ⟨S4096x1024, .f32⟩
  | 66 => ⟨S4096x1024, .f32⟩
  | 67 => ⟨S_, .f32⟩
  | 68 => ⟨S4096, .f32⟩
  | 69 => ⟨S4096x1, .f32⟩
  | 70 => ⟨S4096x1024, .f32⟩
  | 71 => ⟨S4096x1024, .f32⟩
  | 72 => ⟨S4096x1024, .f32⟩
  | 73 => ⟨S4096x1, .f32⟩
  | 74 => ⟨S_, .f32⟩
  | 75 => ⟨S4096x1, .f32⟩
  | 76 => ⟨S4096x1, .f32⟩
  | 77 => ⟨S_, .f32⟩
  | 78 => ⟨S4096, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x2048, .f32⟩
  | 85 => ⟨S4096x4096, .f32⟩
  | 86 => ⟨S4096x4096, .f32⟩
  | 87 => ⟨S1x4096x1024, .f32⟩
  | 88 => ⟨S1x4096x1024, .f32⟩
  | 89 => ⟨S1x4096x1024, .f32⟩
  | 90 => ⟨S3x4096x1024, .f32⟩
  | 91 => ⟨S4096x2048, .bf16⟩
  | 92 => ⟨S4096x4096, .bf16⟩
  | 93 => ⟨S3x4096x1024, .bf16⟩
  | 94 => ⟨S_, .f32⟩
  | 95 => ⟨S1024, .f32⟩
  | 96 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_13 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_15 : Ref sig .tc := ⟨.hbm, 93, rfl⟩
abbrev main_v67 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_cst_20 : Ref sig .tc := ⟨.hbm, 116, rfl⟩
abbrev main_v85 : Ref sig .tc := ⟨.hbm, 117, rfl⟩
abbrev main_cst_21 : Ref sig .tc := ⟨.hbm, 118, rfl⟩
abbrev main_v86 : Ref sig .tc := ⟨.hbm, 119, rfl⟩
abbrev main_v87 : Ref sig .tc := ⟨.hbm, 120, rfl⟩
abbrev main_cst_22 : Ref sig .tc := ⟨.hbm, 121, rfl⟩
abbrev main_v88 : Ref sig .tc := ⟨.hbm, 122, rfl⟩
abbrev main_cst_23 : Ref sig .tc := ⟨.hbm, 123, rfl⟩
abbrev main_v89 : Ref sig .tc := ⟨.hbm, 124, rfl⟩
abbrev main_cst_24 : Ref sig .tc := ⟨.hbm, 125, rfl⟩
abbrev main_cst_25 : Ref sig .tc := ⟨.hbm, 126, rfl⟩
abbrev main_v90 : Ref sig .tc := ⟨.hbm, 127, rfl⟩
abbrev main_v91 : Ref sig .tc := ⟨.hbm, 128, rfl⟩
abbrev main_cst_26 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_27 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_28 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_29 : Ref sig .tc := ⟨.hbm, 147, rfl⟩
abbrev main_v107 : Ref sig .tc := ⟨.hbm, 148, rfl⟩
abbrev main_v108 : Ref sig .tc := ⟨.hbm, 149, rfl⟩
abbrev main_cst_30 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_31 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_32 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_33 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_34 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_35 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_36 : Ref sig .tc := ⟨.hbm, 202, rfl⟩
abbrev main_v155 : Ref sig .tc := ⟨.hbm, 203, rfl⟩
abbrev main_v156 : Ref sig .tc := ⟨.hbm, 204, rfl⟩
abbrev main_cst_37 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_cst_38 : Ref sig .tc := ⟨.hbm, 222, rfl⟩
abbrev main_v173 : Ref sig .tc := ⟨.hbm, 223, rfl⟩
abbrev main_v174 : Ref sig .tc := ⟨.hbm, 224, rfl⟩

abbrev nD : Nat := 1
abbrev τ : Topo := Topo.v7x

variable {F : FTy → Type} [FloatOps F]
-- ==== Kernel2.lean ====
abbrev S4096x7168 : Shape := ⟨2, ![4096, 7168]⟩
abbrev S1024x7168 : Shape := ⟨2, ![1024, 7168]⟩
abbrev S4096x1024 : Shape := ⟨2, ![4096, 1024]⟩
abbrev S3x4096x1024 : Shape := ⟨3, ![3, 4096, 1024]⟩
abbrev S1x1024 : Shape := ⟨2, ![1, 1024]⟩
abbrev S8x128 : Shape := ⟨2, ![8, 128]⟩
abbrev S512x7168 : Shape := ⟨2, ![512, 7168]⟩
abbrev S512x1024 : Shape := ⟨2, ![512, 1024]⟩
abbrev S1x512x1024 : Shape := ⟨3, ![1, 512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S3x4096x1024, .bf16⟩
  | .hbm, ⟨4, _⟩ => ⟨S1x1024, .f32⟩
  | .hbm, ⟨5, _⟩ => ⟨S8x128, .f32⟩
  | .hbm, ⟨6, _⟩ => ⟨S4096x1024, .f32⟩
  | .hbm, ⟨7, _⟩ => ⟨S1x1024, .f32⟩
  | .local _ .vmem, ⟨0, _⟩ => ⟨S512x7168, .bf16⟩
  | .local _ .vmem, ⟨1, _⟩ => ⟨S512x7168, .bf16⟩
  | .local _ .vmem, ⟨2, _⟩ => ⟨S1024x7168, .bf16⟩
  | .local _ .vmem, ⟨3, _⟩ => ⟨S512x1024, .f32⟩
  | .local _ .vmem, ⟨4, _⟩ => ⟨S512x1024, .f32⟩
  | .local _ .vmem, ⟨5, _⟩ => ⟨S1x512x1024, .bf16⟩
  | .local _ .vmem, ⟨6, _⟩ => ⟨S1x512x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S8x1024, .f32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v43 : BitVec 1 := Scalar.cmpi .eq arg0 c7_i32
  let v44 : BitVec 32 := Scalar.extui v43
  let c0_i32_23 : BitVec 32 := 0#32
  let v45 : BitVec 1 := Scalar.cmpi .ne v44 c0_i32_23
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x7168 : Shape := ⟨2, ![4096, 7168]⟩
abbrev S1024x7168 : Shape := ⟨2, ![1024, 7168]⟩
abbrev S4096x1024 : Shape := ⟨2, ![4096, 1024]⟩
abbrev S3x4096x1024 : Shape := ⟨3, ![3, 4096, 1024]⟩
abbrev S1x1024 : Shape := ⟨2, ![1, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1x4096x1024 : Shape := ⟨3, ![1, 4096, 1024]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x7168, .bf16⟩
  | .hbm, ⟨1, _⟩ => ⟨S1024x7168, .bf16⟩
  | .hbm, ⟨2, _⟩ => ⟨S4096x1024, .f32⟩
  | .hbm, ⟨3, _⟩ => ⟨S3x4096x1024, .bf16⟩
  | .hbm, ⟨4, _⟩ => ⟨S1x1024, .f32⟩
  | .hbm, ⟨5, _⟩ => ⟨S8x128, .f32⟩
  | .hbm, ⟨6, _⟩ => ⟨S4096x7168, .f32⟩
  | .hbm, ⟨7, _⟩ => ⟨S1024x7168, .f32⟩
  | .hbm, ⟨8, _⟩ => ⟨S3x4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x7168, .f32⟩
  | .hbm, ⟨29, _⟩ => ⟨S1x4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | _, _ => ⟨S4096x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel3.lean ====
abbrev S1024x4096 : Shape := ⟨2, ![1024, 4096]⟩
abbrev S4096x7168 : Shape := ⟨2, ![4096, 7168]⟩
abbrev S512x7168 : Shape := ⟨2, ![512, 7168]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x7168, .bf16⟩
  | .hbm, ⟨2, _⟩ => ⟨S512x7168, .bf16⟩
  | .local _ .vmem, ⟨0, _⟩ => ⟨S512x4096, .bf16⟩
  | .local _ .vmem, ⟨1, _⟩ => ⟨S4096x1024, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1024x4096 : Shape := ⟨2, ![1024, 4096]⟩
abbrev S4096x7168 : Shape := ⟨2, ![4096, 7168]⟩
abbrev S_ : Shape := ⟨0, ![]⟩
abbrev S1024x7168 : Shape := ⟨2, ![1024, 7168]⟩
abbrev S4096x1024 : Shape := ⟨2, ![4096, 1024]⟩
abbrev S7168x1024 : Shape := ⟨2, ![7168, 1024]⟩
abbrev S512x7168 : Shape := ⟨2, ![512, 7168]⟩

abbrev nBuf : Space → Nat
  | .hbm => 12
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x7168, .bf16⟩
  | .hbm, ⟨2, _⟩ => ⟨S1024x4096, .f32⟩
  | .hbm, ⟨3, _⟩ => ⟨S4096x7168, .f32⟩
  | .hbm, ⟨4, _⟩ => ⟨S_, .f32⟩
  | .hbm, ⟨5, _⟩ => ⟨S1024x7168, .f32⟩
  | .hbm, ⟨6, _⟩ => ⟨S4096x1024, .f32⟩
  | .hbm, ⟨7, _⟩ => ⟨S4096x7168, .f32⟩
  | .hbm, ⟨8, _⟩ => ⟨S7168x1024, .f32⟩
  | .hbm, ⟨9, _⟩ => ⟨S1024x7168, .f32⟩
  | .hbm, ⟨10, _⟩ => ⟨S512x7168, .f32⟩
  | .hbm, ⟨11, _⟩ => ⟨S512x7168, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S256x1024 : Shape := ⟨2, ![256, 1024]⟩
abbrev S1x1024 : Shape := ⟨2, ![1, 1024]⟩
abbrev S1024x2048 : Shape := ⟨2, ![1024, 2048]⟩
abbrev S1024x256 : Shape := ⟨2, ![1024, 256]⟩
abbrev S256 : Shape := ⟨1, ![256]⟩
abbrev S256x1 : Shape := ⟨2, ![256, 1]⟩
abbrev S256x2048 : Shape := ⟨2, ![256, 2048]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .bf16⟩
  | .hbm, ⟨4, _⟩ => ⟨S256x1024, .bf16⟩
  | .hbm, ⟨5, _⟩ => ⟨S1024x256, .bf16⟩
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x1024, .bf16⟩
  | .local _ .vmem, ⟨4, _⟩ => ⟨S256x1024, .bf16⟩
  | .local _ .vmem, ⟨5, _⟩ => ⟨S1024x256, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference4Ideal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S1024x256 : Shape := ⟨2, ![1024, 256]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S1024x2048, .f32⟩
  | .hbm, ⟨19, _⟩ => ⟨S256x2048, .f32⟩
  | .hbm, ⟨20, _⟩ => ⟨S256x1024, .f32⟩
  | .hbm, ⟨21, _⟩ => ⟨S256x1024, .f32⟩
  | .hbm, ⟨22, _⟩ => ⟨S256x1024, .bf16⟩
  | .hbm, ⟨23, _⟩ => ⟨S256x1024, .bf16⟩
  | .hbm, ⟨24, _⟩ => ⟨S1024x256, .f32⟩
  | .hbm, ⟨25, _⟩ => ⟨S1024x256, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel5.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1024x256 : Shape := ⟨2, ![1024, 256]⟩
abbrev S256x2048 : Shape := ⟨2, ![256, 2048]⟩
abbrev S1024 : Shape := ⟨1, ![1024]⟩

abbrev nBuf : Space → Nat
  | .hbm => 24
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S1024x256, .f32⟩
  | .hbm, ⟨21, _⟩ => ⟨S1024x256, .bf16⟩
  | .hbm, ⟨22, _⟩ => ⟨S1024x2048, .bf16⟩
  | .hbm, ⟨23, _⟩ => ⟨S1x1024, .f32⟩
  | .local _ .vmem, ⟨0, _⟩ => ⟨S256x1024, .f32⟩
  | .local _ .vmem, ⟨1, _⟩ => ⟨S1024x2048, .bf16⟩
  | .local _ .vmem, ⟨2, _⟩ => ⟨S1024x256, .bf16⟩
  | .local _ .vmem, ⟨3, _⟩ => ⟨S256x1024, .f32⟩
  | .local _ .vmem, ⟨4, _⟩ => ⟨S256x1024, .f32⟩
  | .local _ .vmem, ⟨5, _⟩ => ⟨S1024x2048, .bf16⟩
  | .local _ .vmem, ⟨6, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference5Ideal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩
abbrev S2048x1024 : Shape := ⟨2, ![2048, 1024]⟩
abbrev S1024 : Shape := ⟨1, ![1024]⟩

abbrev nBuf : Space → Nat
  | .hbm => 33
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .bf16⟩
  | .hbm, ⟨3, _⟩ => ⟨S256x1024, .f32⟩
  | .hbm, ⟨4, _⟩ => ⟨S256x1024, .f32⟩
  | .hbm, ⟨5, _⟩ => ⟨S1024x2048, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x2048, .f32⟩
  | .hbm, ⟨22, _⟩ => ⟨S256x1024, .f32⟩
  | .hbm, ⟨23, _⟩ => ⟨S256x1024, .f32⟩
  | .hbm, ⟨24, _⟩ => ⟨S256x2048, .f32⟩
  | .hbm, ⟨25, _⟩ => ⟨S2048x1024, .f32⟩
  | .hbm, ⟨26, _⟩ => ⟨S1024x2048, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S1024x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Reals.lean ====
/- The laws of the extended reals that the equation needs, and the constants of the two programs. -/
module

public import Idealize.ShloMosaic.Lib.Pipeline.ValueKit
public import Idealize.ShloMosaic.Lib.Pointwise
public import Idealize.ShloMosaic.Lib.Claim

@[expose] public section

set_option maxRecDepth 16384

noncomputable section

namespace Cert.Reals

open Idealize.ShloMosaic

/-- A real factor that is not negative is multiplied into a sum, whatever the terms. -/
theorem mul_add_coe {c : ℝ} (hc : 0 ≤ c) (a b : EReal) : (c : EReal) * (a + b) = c * a + c * b :=
  EReal.left_distrib_of_nonneg_of_ne_top (EReal.coe_nonneg.2 hc) (EReal.coe_ne_top c) a b

theorem mul_sum_coe {c : ℝ} (hc : 0 ≤ c) {ι : Type*} (s : Finset ι) (f : ι → EReal) : (c : EReal) * ∑ i ∈ s, f i = ∑ i ∈ s, (c : EReal) * f i := by
  classical
  induction s using Finset.induction_on with
  | empty => simp
  | insert a s ha ih => rw [Finset.sum_insert ha, Finset.sum_insert ha, mul_add_coe hc, ih]

/-- A finite sum of real numbers, taken in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Half of a product twice is the product. -/
theorem half_twice (x : EReal) (c : ℝ) : x * ((1 / 2 * c : ℝ) : EReal) + x * ((1 / 2 * c : ℝ) : EReal) = x * (c : EReal) := by
  have h : (2 : ℝ) * (1 / 2 * c) = c := by ring
  have hd (z : EReal) : z + z = ((2 : ℝ) : EReal) * z := by
    induction z with
    | bot => rw [EReal.coe_mul_bot_of_pos (by norm_num)]; rfl
    | coe r => rw [← EReal.coe_add, ← EReal.coe_mul, two_mul]
    | top => rw [EReal.coe_mul_top_of_pos (by norm_num)]; rfl
  rw [hd, mul_left_comm, ← EReal.coe_mul, h]

/-- One of the two infinities. -/
def Inf (x : EReal) : Prop := x = ⊤ ∨ x = ⊥

theorem inf_add {a : EReal} (h : Inf a) (b : EReal) : Inf (a + b) := by
  rcases h with rfl | rfl
  · rcases eq_or_ne b ⊥ with rfl | hb
    · exact .inr (EReal.add_bot _)
    · exact .inl (EReal.top_add_of_ne_bot hb)
  · exact .inr (EReal.bot_add _)

/-- A sum with an infinite term is infinite. -/
theorem inf_sum {ι : Type*} [Fintype ι] (f : ι → EReal) (i : ι) (h : Inf (f i)) : Inf (∑ j, f j) := by
  classical
  rw [← Finset.add_sum_erase _ _ (Finset.mem_univ i)]
  exact inf_add h _

/-- An infinity times what is not zero is infinite. -/
theorem inf_mul {x y : EReal} (h : Inf x) (hy : y ≠ 0) : Inf (x * y) := by
  rcases lt_or_gt_of_ne hy with hn | hp
  · rcases h with rfl | rfl
    · exact .inr (EReal.top_mul_of_neg hn)
    · exact .inl (EReal.bot_mul_of_neg hn)
  · rcases h with rfl | rfl
    · exact .inl (EReal.top_mul_of_pos hp)
    · exact .inr (EReal.bot_mul_of_pos hp)

theorem square_nonneg (x : EReal) : 0 ≤ x * x := by
  rcases le_total 0 x with h | h
  · exact EReal.mul_nonneg h h
  · rw [← neg_mul_neg]
    have h' : 0 ≤ -x := by rwa [EReal.le_neg, neg_zero]
    exact EReal.mul_nonneg h' h'

/-- The reciprocal square root of a positive real. -/
theorem rsqrt_coe {a : ℝ} (ha : 0 < a) : Ideal.rsqrt (a : EReal) = (((Real.sqrt a)⁻¹ : ℝ) : EReal) := by
  rw [Ideal.rsqrt_coe, if_neg (not_lt.mpr ha.le), if_neg ha.ne']

theorem div_top (x : EReal) : Ideal.div x ⊤ = 0 := by
  rw [Ideal.div, if_neg EReal.top_ne_zero, EReal.inv_top, mul_zero]

theorem div_zero_zero : Ideal.div 0 0 = ⊥ := by
  rw [Ideal.div, if_pos rfl, if_neg (lt_irrefl _)]

/-! The constants of the two programs. -/

theorem bits_bot : Ideal.ofBits .f32 0xFF800000#32 = ⊥ := by simp [Ideal.ofBits, Ideal.ieee]
theorem bits_half : Ideal.ofBits .f32 0x3F000000#32 = ((1 / 2 : ℝ) : EReal) := by
  simp [Ideal.ofBits, Ideal.ieee]; norm_num [← EReal.coe_mul]
theorem bits_neg_half : Ideal.ofBits .f32 0xBF000000#32 = ((-(1 / 2) : ℝ) : EReal) := by
  simp [Ideal.ofBits, Ideal.ieee]; norm_num [← EReal.coe_mul]
theorem bits_two : Ideal.ofBits .f32 0x40000000#32 = ((2 : ℝ) : EReal) := by
  simp [Ideal.ofBits, Ideal.ieee]; norm_num [← EReal.coe_mul]
theorem bits_1024 : Ideal.ofBits .f32 0x44800000#32 = ((1024 : ℝ) : EReal) := by
  simp [Ideal.ofBits, Ideal.ieee]; norm_num [← EReal.coe_mul]
theorem bits_inv1024 : Ideal.ofBits .f32 0x3A800000#32 = ((1 / 1024 : ℝ) : EReal) := by
  simp [Ideal.ofBits, Ideal.ieee]; norm_num [← EReal.coe_mul]
theorem bits_inv16 : Ideal.ofBits .f32 0x3D800000#32 = ((1 / 16 : ℝ) : EReal) := by
  simp [Ideal.ofBits, Ideal.ieee]; norm_num [← EReal.coe_mul]

/-- The small number the row normalisation adds, exactly. -/
def eps : ℝ := 8796093 / 8796093022208

theorem eps_pos : 0 < eps := by norm_num [eps]

theorem bits_eps : Ideal.ofBits .f32 0x358637BD#32 = ((eps : ℝ) : EReal) := by
  simp [Ideal.ofBits, Ideal.ieee, eps]; norm_num [← EReal.coe_mul]

end Cert.Reals

end
-- ==== Proof.Spec.lean ====
/- The memory cross-attention, forward and backward, over the extended reals: every function acts row by row on a
   matrix of any number of rows, so a block of rows and the whole array have the same text. -/
module

public import proofs.«01_k».proof.Proof.Reals

@[expose] public section

set_option maxRecDepth 16384

noncomputable section

namespace Cert.Spec

open Idealize.ShloMosaic Cert.Reals

abbrev Mat (n m : ℕ) : Type := Fin n → Fin m → EReal

variable {n m k : ℕ}

/-- The product `a b`. -/
def mm (a : Mat n k) (b : Mat k m) : Mat n m := fun i j => ∑ l, a i l * b l j

/-- The product of `a` with the transpose of `b`. -/
def mmT (a : Mat n k) (b : Mat m k) : Mat n m := fun i j => ∑ l, a i l * b j l

/-- The product of the transpose of `a` with `b`. -/
def tmm (a : Mat k n) (b : Mat k m) : Mat n m := fun i j => ∑ l, a l i * b l j

/-- The sum and the difference. -/
def addm (a b : Mat n m) : Mat n m := fun i j => a i j + b i j
def subm (a b : Mat n m) : Mat n m := fun i j => a i j - b i j

/-- The rows `8 a + r` by `a` and `r`. -/
def split8 (a : Mat 256 m) : Fin 32 → Fin 8 → Fin m → EReal := fun l r j => a ⟨l.val * 8 + r.val, by omega⟩ j

/-- The sums over the rows `8 a + r`, and over the eight of them. -/
def fold8 (a : Mat 256 m) : Mat 8 m := fun r j => ∑ l : Fin 32, a ⟨l.val * 8 + r.val, by omega⟩ j
def sum8 (a : Mat 8 m) : Mat 1 m := fun _ j => ∑ r, a r j

/-- The product entry by entry. -/
def mulm (a b : Mat n m) : Mat n m := fun i j => a i j * b i j

/-- The mean square of a row and a small number. -/
def ms (v : Mat n 1024) : Fin n → EReal := fun i => Ideal.div (∑ j, v i j * v i j) ((1024 : ℝ) : EReal) + ((eps : ℝ) : EReal)

/-- The reciprocal root mean square of each row. -/
def inv (v : Mat n 1024) : Fin n → EReal := fun i => Ideal.rsqrt (ms v i)

theorem sq_sum_nonneg (v : Mat n 1024) (i : Fin n) : 0 ≤ ∑ j, v i j * v i j := Finset.sum_nonneg fun j _ => square_nonneg (v i j)

/-- The mean square is a positive real or infinite. -/
theorem ms_cases (v : Mat n 1024) (i : Fin n) : ms v i = ⊤ ∨ ∃ r : ℝ, 0 < r ∧ ms v i = (r : EReal) := by
  have h := sq_sum_nonneg v i
  unfold ms
  rw [Ideal.div_coe (by norm_num)]
  generalize ∑ j, v i j * v i j = s at h
  induction s with
  | bot => exact absurd h (by simp)
  | coe r =>
    have hr : 0 ≤ r := EReal.coe_nonneg.1 h
    refine .inr ⟨r * (1 / 1024) + eps, add_pos_of_nonneg_of_pos (by positivity) eps_pos, ?_⟩
    rw [EReal.coe_add, EReal.coe_mul]
  | top => exact .inl (by rw [EReal.top_mul_coe_of_pos (by norm_num), EReal.top_add_coe])

/-- A row with an infinite entry has an infinite mean square. -/
theorem ms_top (v : Mat n 1024) (i : Fin n) (j : Fin 1024) (h : Inf (v i j)) : ms v i = ⊤ := by
  have h0 : v i j ≠ 0 := by rcases h with h | h <;> simp [h]
  have hs : ∑ j, v i j * v i j = ⊤ := (inf_sum _ j (inf_mul h h0)).resolve_right fun hb => by
    have := sq_sum_nonneg v i
    rw [hb] at this
    exact absurd this (by simp)
  rw [ms, hs, Ideal.div_coe (by norm_num), EReal.top_mul_coe_of_pos (by norm_num), EReal.top_add_coe]

/-- Each row divided by its root mean square. -/
def nrm (v : Mat n 1024) : Mat n 1024 := fun i j => v i j * inv v i

/-- Each column scaled by its gain. -/
def scl (v : Mat n 1024) (g : Mat 1 1024) : Mat n 1024 := fun i j => v i j * g 0 j

/-- The cotangent of a normalised row: `d` the cotangent of the row `w` after normalisation, `r` the reciprocal. -/
def back (d w : Mat n 1024) (r : Fin n → EReal) : Mat n 1024 := fun i j => r i * (d i j - w i j * Ideal.div (∑ l, d i l * w i l) ((1024 : ℝ) : EReal))

/-- The mean square's own cotangent, as differentiation writes it. -/
def msBack (d v : Mat n 1024) : Fin n → EReal := fun i =>
  Ideal.div ((∑ l, v i l * d i l) * (((-(1 / 2) : ℝ) : EReal) * Ideal.div (inv v i) (ms v i))) ((1024 : ℝ) : EReal)

/-- Differentiation's form of the normalised row's cotangent is `back`. -/
theorem back_eq (d v : Mat n 1024) (i : Fin n) (j : Fin 1024) :
    d i j * inv v i + v i j * msBack d v i + msBack d v i * v i j = back d (nrm v) (inv v) i j := by
  have hinv : inv v i = Ideal.rsqrt (ms v i) := rfl
  rcases ms_cases v i with h | ⟨r, hr, h⟩
  · have h0 : inv v i = 0 := by rw [hinv, h]; rfl
    have hb : msBack d v i = 0 := by
      simp only [msBack, h, div_top, mul_zero]
      rw [Ideal.div_coe (by norm_num), zero_mul]
    simp only [back, h0, hb, mul_zero, zero_mul, add_zero]
  · set t : ℝ := (Real.sqrt r)⁻¹ with ht
    have hsq : Real.sqrt r ≠ 0 := (Real.sqrt_pos.2 hr).ne'
    have ht0 : 0 ≤ t := inv_nonneg.2 (Real.sqrt_nonneg r)
    have hi : inv v i = (t : EReal) := by rw [hinv, h, rsqrt_coe hr]
    have hcube : t * (1 / r) = t * t * t := by
      have hq : Real.sqrt r ^ 2 = r := Real.sq_sqrt hr.le
      rw [ht, ← hq, Real.sqrt_sq (Real.sqrt_nonneg _)]
      field_simp
    have hb : msBack d v i = -((∑ l, v i l * d i l) * ((1 / 2 * (t * t * t * (1 / 1024)) : ℝ) : EReal)) := by
      simp only [msBack, h, hi]
      rw [Ideal.div_coe hr.ne', Ideal.div_coe (by norm_num), ← EReal.coe_mul, hcube, ← EReal.coe_mul, mul_assoc, ← EReal.coe_mul,
        show -(1 / 2) * (t * t * t) * (1 / 1024) = -(1 / 2 * (t * t * t * (1 / 1024))) by ring, EReal.coe_neg, mul_neg]
    have hsum : ∑ l, d i l * nrm v i l = (t : EReal) * ∑ l, v i l * d i l := by
      rw [mul_sum_coe ht0]
      exact Finset.sum_congr rfl fun l _ => by rw [nrm, hi]; ac_rfl
    have hn : nrm v i j = v i j * (t : EReal) := by rw [nrm, hi]
    simp only [back, hsum, hb, hi, hn]
    generalize ∑ l, v i l * d i l = S
    rw [Ideal.div_coe (by norm_num), sub_eq_add_neg, mul_add_coe ht0, neg_mul, mul_neg, mul_neg, add_assoc, mul_comm (d i j)]
    congr 1
    have hl : v i j * (S * ((1 / 2 * (t * t * t * (1 / 1024)) : ℝ) : EReal)) = v i j * S * ((1 / 2 * (t * t * t * (1 / 1024)) : ℝ) : EReal) := (mul_assoc _ _ _).symm
    rw [mul_comm (S * _) (v i j), hl, ← mul_neg, ← mul_neg, ← EReal.coe_neg, show -(1 / 2 * (t * t * t * (1 / 1024))) = 1 / 2 * -(t * t * t * (1 / 1024)) by ring, half_twice,
      EReal.coe_neg, mul_neg, mul_neg]
    congr 1
    simp only [EReal.coe_mul]
    ac_rfl

/-- Column `d` of head `h`. -/
def col (h : Fin 4) (d : Fin 256) : Fin 1024 := ⟨h.val * 256 + d.val, by omega⟩

def hd (h : Fin 4) (a : Mat n 1024) : Mat n 256 := fun i d => a i (col h d)

/-- Four heads side by side. -/
def cat4 (f : Fin 4 → Mat n 256) : Mat n 1024 := fun i j => f ⟨j.val / 256, by omega⟩ i ⟨j.val % 256, by omega⟩

theorem hd_cat4 (f : Fin 4 → Mat n 256) (h : Fin 4) : hd h (cat4 f) = f h := by
  funext i d
  simp only [hd, cat4, col]
  have hh : (⟨(h.val * 256 + d.val) / 256, by omega⟩ : Fin 4) = h := Fin.ext (by simp only; omega)
  have hd' : (⟨(h.val * 256 + d.val) % 256, by omega⟩ : Fin 256) = d := Fin.ext (by simp only; omega)
  rw [hh, hd']

/-- The mean's factor. -/
def thou (a : Mat n 1024) : Mat n 1024 := fun i j => a i j * ((1 / 1024 : ℝ) : EReal)

/-- The scaled scores of one head. -/
def score (q : Mat n 256) (k : Mat 256 256) : Mat n 256 := fun i j => mmT q k i j * ((1 / 16 : ℝ) : EReal)

/-- The largest score of a row. -/
def top (s : Mat n 256) : Fin n → EReal := fun i => Finset.univ.fold max ⊥ (s i)

/-- The exponentials of the scores, the row's largest taken away. -/
def expo (s : Mat n 256) : Mat n 256 := fun i j => Ideal.exp (s i j - top s i)

/-- The sum of a row. -/
def tot (e : Mat n 256) : Fin n → EReal := fun i => ∑ j, e i j

theorem le_top (s : Mat n 256) (i : Fin n) (j : Fin 256) : s i j ≤ top s i := by
  have h : top s i = Finset.univ.sup (s i) := rfl
  rw [h]
  exact Finset.le_sup (Finset.mem_univ j)

/-- The exponentials are reals, and not negative: no score lies above its row's largest. -/
theorem expo_real (s : Mat n 256) (i : Fin n) (j : Fin 256) : ∃ r : ℝ, 0 ≤ r ∧ expo s i j = (r : EReal) := by
  have hle := le_top s i j
  unfold expo
  generalize s i j = a at hle
  generalize top s i = b at hle
  have hne : a - b ≠ ⊤ := by
    induction b with
    | bot => rw [le_bot_iff.1 hle]; simp
    | coe r =>
      induction a with
      | bot => simp
      | coe q => rw [← EReal.coe_sub]; exact EReal.coe_ne_top _
      | top => exact absurd hle (by simp)
    | top => simp [sub_eq_add_neg]
  generalize a - b = x at hne
  induction x with
  | bot => exact ⟨0, le_rfl, rfl⟩
  | coe r => exact ⟨Real.exp r, (Real.exp_pos r).le, rfl⟩
  | top => exact absurd rfl hne

/-- A row's sum of exponentials is a positive real, or all of them are zero. -/
theorem tot_cases (s : Mat n 256) (i : Fin n) :
    (tot (expo s) i = 0 ∧ ∀ j, expo s i j = 0) ∨ ∃ t : ℝ, 0 < t ∧ tot (expo s) i = (t : EReal) := by
  choose e he hx using expo_real s i
  have ht : tot (expo s) i = ((∑ j, e j : ℝ) : EReal) := by rw [tot, ← sum_coe]; exact Finset.sum_congr rfl fun j _ => hx j
  rcases (Finset.sum_nonneg fun j _ => he j : 0 ≤ ∑ j, e j).eq_or_lt with h0 | hp
  · refine .inl ⟨by rw [ht, ← h0]; rfl, fun j => ?_⟩
    rw [hx, (Finset.sum_eq_zero_iff_of_nonneg fun j _ => he j).1 h0.symm j (Finset.mem_univ j)]
    rfl
  · exact .inr ⟨_, hp, ht⟩

/-- The attention weights of one head. -/
def prob (s : Mat n 256) : Mat n 256 := fun i j => Ideal.div (expo s i j) (tot (expo s) i)

/-- The cotangent of the scores, `p` the weights and `d` their cotangent. -/
def dscore (p d : Mat n 256) : Mat n 256 := fun i j => p i j * (d i j - ∑ l, d i l * p i l) * ((1 / 16 : ℝ) : EReal)

/-- Differentiation's form of the softmax's cotangent is `dscore`, if a row of weights without a sum meets a cotangent of zeros. -/
theorem dscore_eq (s d : Mat n 256) (i : Fin n) (j : Fin 256) (h : tot (expo s) i = 0 → ∀ l, d i l = 0) :
    (Ideal.div (d i j) (tot (expo s) i) + -(∑ l, d i l * Ideal.div 1 (tot (expo s) i * tot (expo s) i) * expo s i l)) * expo s i j * ((1 / 16 : ℝ) : EReal) =
      dscore (prob s) d i j := by
  rcases tot_cases s i with ⟨h0, hz⟩ | ⟨t, ht, hT⟩
  · simp only [dscore, h h0, hz, mul_zero, zero_mul, Finset.sum_const_zero, sub_zero]
  · have hu : 0 ≤ 1 / t := by positivity
    have hp (l : Fin 256) : prob s i l = expo s i l * ((1 / t : ℝ) : EReal) := by rw [prob, hT, Ideal.div_coe ht.ne']
    have hsum : ∑ l, d i l * Ideal.div 1 (tot (expo s) i * tot (expo s) i) * expo s i l = ((1 / t : ℝ) : EReal) * ∑ l, d i l * prob s i l := by
      rw [mul_sum_coe hu]
      refine Finset.sum_congr rfl fun l _ => ?_
      rw [hp, hT, ← EReal.coe_mul, Ideal.div_coe (mul_pos ht ht).ne', one_mul, show 1 / (t * t) = 1 / t * (1 / t) by field_simp, EReal.coe_mul]
      ac_rfl
    rw [hsum, hT, Ideal.div_coe ht.ne', dscore, hp j]
    generalize ∑ l, d i l * prob s i l = S
    rw [mul_comm (d i j), ← mul_neg, ← mul_add_coe hu, sub_eq_add_neg]
    congr 1
    ac_rfl

/-- What the call is given: `n` rows of the residual, the mixer's output and the target, and the shared operands. -/
structure In (n : ℕ) where
  x : Mat n 1024
  c : Mat n 2048
  t : Mat n 1024
  wo : Mat 2048 1024
  wq : Mat 1024 1024
  wx : Mat 1024 1024
  k : Mat 256 1024
  v : Mat 256 1024
  gx : Mat 1 1024
  gf : Mat 1 1024

namespace In

variable (I : In n)

/-- The residual after the mixer. -/
def x1 : Mat n 1024 := addm I.x (mm I.c I.wo)
def r2 : Fin n → EReal := inv I.x1
def x1h : Mat n 1024 := nrm I.x1
/-- The attention's input. -/
def h2 : Mat n 1024 := scl I.x1h I.gx
def q : Mat n 1024 := mm I.h2 I.wq
def p (h : Fin 4) : Mat n 256 := prob (score (hd h I.q) (hd h I.k))
/-- The four heads' outputs. -/
def o : Mat n 1024 := cat4 fun h => mm (I.p h) (hd h I.v)
/-- The residual after the attention. -/
def x2 : Mat n 1024 := addm I.x1 (mm I.o I.wx)
def r3 : Fin n → EReal := inv I.x2
def x2h : Mat n 1024 := nrm I.x2
/-- The error of the normalised output. -/
def err : Mat n 1024 := subm (scl I.x2h I.gf) I.t
def dy : Mat n 1024 := thou I.err
/-- The cotangent of the residual after the attention. -/
def dx2 : Mat n 1024 := back (scl I.dy I.gf) I.x2h I.r3
/-- The cotangent of the heads' outputs. -/
def dO : Mat n 1024 := mmT I.dx2 I.wx
def ds (h : Fin 4) : Mat n 256 := dscore (I.p h) (mmT (hd h I.dO) (hd h I.v))
/-- The cotangent of the queries. -/
def dq : Mat n 1024 := cat4 fun h => mm (I.ds h) (hd h I.k)
def dh2 : Mat n 1024 := mmT I.dq I.wq
/-- The cotangent of the residual after the mixer. -/
def dx1 : Mat n 1024 := addm I.dx2 (back (scl I.dh2 I.gx) I.x1h I.r2)
/-- The cotangent of the mixer's output. -/
def dcat : Mat n 2048 := mmT I.dx1 I.wo
/-- The cotangents of the keys, the values, the two gains, and the columns' squared errors. -/
def dk : Mat 256 1024 := cat4 fun h => tmm (I.ds h) (hd h I.q)
def dv : Mat 256 1024 := cat4 fun h => tmm (I.p h) (hd h I.dO)
def dgf : Fin 1024 → EReal := fun j => ∑ i, I.dy i j * I.x2h i j
def dgx : Fin 1024 → EReal := fun j => ∑ i, I.dh2 i j * I.x1h i j
def loss : Fin 1024 → EReal := fun j => ∑ i, I.err i j * I.err i j

/-- Where a head's row of weights has no sum, the cotangent of those weights is zero: each value column is then zero, or makes
    the row's output infinite, so that the row's cotangent is zero, or is met by a zero of the projection. -/
theorem dead (h : Fin 4) (i : Fin n) (h0 : tot (expo (score (hd h I.q) (hd h I.k))) i = 0) (j : Fin 256) :
    mmT (hd h I.dO) (hd h I.v) i j = 0 := by
  have hz : ∀ l, expo (score (hd h I.q) (hd h I.k)) i l = 0 := by
    rcases tot_cases (score (hd h I.q) (hd h I.k)) i with ⟨_, hz⟩ | ⟨t, ht, hT⟩
    · exact hz
    · rw [hT] at h0
      exact absurd (EReal.coe_eq_zero.1 h0) ht.ne'
  have hp (l : Fin 256) : I.p h i l = ⊥ := by rw [p, prob, hz, h0, div_zero_zero]
  refine Finset.sum_eq_zero fun d _ => ?_
  by_contra hne
  obtain ⟨hd0, hv0⟩ := mul_ne_zero_iff.1 hne
  have ho : Inf (I.o i (col h d)) := by
    have e : I.o i (col h d) = mm (I.p h) (hd h I.v) i d := congrFun (congrFun (hd_cat4 (fun h => mm (I.p h) (hd h I.v)) h) i) d
    rw [e]
    exact inf_sum _ j (inf_mul (.inr (hp j)) hv0)
  obtain ⟨l, _, hl⟩ := Finset.exists_ne_zero_of_sum_ne_zero (show ∑ l, I.dx2 i l * I.wx (col h d) l ≠ 0 from hd0)
  obtain ⟨hx, hw⟩ := mul_ne_zero_iff.1 hl
  have hx2 : Inf (I.x2 i l) := by
    have e : I.x2 i l = mm I.o I.wx i l + I.x1 i l := add_comm _ _
    rw [e]
    exact inf_add (inf_sum _ (col h d) (inf_mul ho hw)) _
  refine hx ?_
  have hr : I.r3 i = 0 := by rw [r3, Spec.inv, ms_top I.x2 i l hx2]; rfl
  rw [dx2, back, hr, zero_mul]

/-- The activations the weights' gradients read, transposed and one under the other. -/
def actt : Mat 4096 n := fun r i =>
  if h0 : r.val < 2048 then I.c i ⟨r.val, h0⟩ else if h1 : r.val - 2048 < 1024 then I.h2 i ⟨r.val - 2048, h1⟩
  else I.o i ⟨r.val - 2048 - 1024, by omega⟩
/-- The three cotangents the weights' gradients read. -/
def cot : Fin 3 → Mat n 1024 := fun s => if s.val < 1 then I.dx1 else if s.val - 1 < 1 then I.dq else I.dx2

/-- The rows `f 0, f 1, …` of the arrays, the shared operands as they are. -/
def rows {n' : ℕ} (f : Fin n' → Fin n) : In n' :=
  { x := fun i => I.x (f i), c := fun i => I.c (f i), t := fun i => I.t (f i),
    wo := I.wo, wq := I.wq, wx := I.wx, k := I.k, v := I.v, gx := I.gx, gf := I.gf }

variable {n' : ℕ} (f : Fin n' → Fin n)

theorem rows_h2 : (I.rows f).h2 = fun i => I.h2 (f i) := rfl
theorem rows_q : (I.rows f).q = fun i => I.q (f i) := rfl
theorem rows_p (h : Fin 4) : (I.rows f).p h = fun i => I.p h (f i) := rfl
theorem rows_o : (I.rows f).o = fun i => I.o (f i) := rfl
theorem rows_err : (I.rows f).err = fun i => I.err (f i) := rfl
theorem rows_dx2 : (I.rows f).dx2 = fun i => I.dx2 (f i) := rfl
theorem rows_dO : (I.rows f).dO = fun i => I.dO (f i) := rfl
theorem rows_ds (h : Fin 4) : (I.rows f).ds h = fun i => I.ds h (f i) := rfl
theorem rows_dq : (I.rows f).dq = fun i => I.dq (f i) := rfl
theorem rows_dh2 : (I.rows f).dh2 = fun i => I.dh2 (f i) := rfl
theorem rows_dx1 : (I.rows f).dx1 = fun i => I.dx1 (f i) := rfl
theorem rows_dcat : (I.rows f).dcat = fun i => I.dcat (f i) := rfl

end In

end Cert.Spec

end
-- ==== Proof.Lift.lean ====
/- Vectors of extended reals, and what each operation of the kernel makes of them. -/
module

public import proofs.«01_k».proof.Proof.Spec
public import proofs.«01_k».proof.Proof.Gen.KernelIdeal
public import Idealize.ShloMosaic.Lib.Pointwise

@[expose] public section

set_option maxRecDepth 16384

noncomputable section

namespace Cert.Lift

open Idealize.ShloMosaic Idealize.SL.Sem Cert.KernelIdeal Cert.KernelIdeal.Gen Cert.Spec Cert.Reals

/-- A matrix as a vector of the ideal instance. -/
def up2 {φ : FTy} {a b : ℕ} (f : Mat a b) : FVec Ideal ⟨2, ![a, b]⟩ φ := fun i => f (i 0) (i 1)

def up1 {φ : FTy} {a : ℕ} (f : Fin a → EReal) : FVec Ideal ⟨1, ![a]⟩ φ := fun i => f (i 0)

def up3 {φ : FTy} {a b c : ℕ} (f : Fin a → Fin b → Fin c → EReal) : FVec Ideal ⟨3, ![a, b, c]⟩ φ :=
  fun i => f (i 0) (i 1) (i 2)

variable {a b c : ℕ} {φ ψ : FTy}

/-- Equal matrices, equal vectors. -/
theorem up2_congr {f g : Mat a b} (h : f = g) : (up2 f : FVec Ideal ⟨2, ![a, b]⟩ φ) = up2 g := by rw [h]

theorem add_up (f g : Mat a b) : addf (up2 f : FVec Ideal ⟨2, ![a, b]⟩ φ) (up2 g) = up2 fun i j => f i j + g i j := by
  rfl

theorem sub_up (f g : Mat a b) : subf (up2 f : FVec Ideal ⟨2, ![a, b]⟩ φ) (up2 g) = up2 fun i j => f i j - g i j := by
  rfl

theorem mul_up (f g : Mat a b) : mulf (up2 f : FVec Ideal ⟨2, ![a, b]⟩ φ) (up2 g) = up2 fun i j => f i j * g i j := by
  rfl

theorem ext_up (f : Mat a b) : extf .f32 (up2 f : FVec Ideal ⟨2, ![a, b]⟩ .bf16) = up2 f := rfl

theorem trunc_up (f : Mat a b) : truncf .bf16 (up2 f : FVec Ideal ⟨2, ![a, b]⟩ .f32) = up2 f := rfl

theorem mm_cat (f : Mat 256 2048) (g : Mat 2048 1024) :
    matmul dot_S256x2048_S2048x1024_S256x1024_1_0_0_1_n_n none (up2 f : FVec Ideal S256x2048 .bf16) (up2 g : FVec Ideal S2048x1024 .bf16)
      (constant S256x1024 .f32 0x00000000#32) = (up2 (mm f g) : FVec Ideal S256x1024 .f32) := by
  funext i
  idx_vars i
  pointwise [up2]
  simp only [zero_add, mm]

theorem mm_wide (f : Mat 256 1024) (g : Mat 1024 1024) :
    matmul dot_S256x1024_S1024x1024_S256x1024_1_0_0_1_n_n none (up2 f : FVec Ideal S256x1024 .bf16) (up2 g : FVec Ideal S1024x1024 .bf16)
      (constant S256x1024 .f32 0x00000000#32) = (up2 (mm f g) : FVec Ideal S256x1024 .f32) := by
  funext i
  idx_vars i
  pointwise [up2]
  simp only [zero_add, mm]

theorem mm_head (f : Mat 256 256) (g : Mat 256 256) :
    matmul dot_S256x256_S256x256_S256x256_1_0_0_1_n_n none (up2 f : FVec Ideal S256x256 .bf16) (up2 g : FVec Ideal S256x256 .bf16)
      (constant S256x256 .f32 0x00000000#32) = (up2 (mm f g) : FVec Ideal S256x256 .f32) := by
  funext i
  idx_vars i
  pointwise [up2]
  simp only [zero_add, mm]

theorem mmT_wide (f : Mat 256 1024) (g : Mat 1024 1024) :
    matmul dot_S256x1024_S1024x1024_S256x1024_1_1_0_0_n_n none (up2 f : FVec Ideal S256x1024 .bf16) (up2 g : FVec Ideal S1024x1024 .bf16)
      (constant S256x1024 .f32 0x00000000#32) = (up2 (mmT f g) : FVec Ideal S256x1024 .f32) := by
  funext i
  idx_vars i
  pointwise [up2]
  simp only [zero_add, mmT]

theorem mmT_cat (f : Mat 256 1024) (g : Mat 2048 1024) :
    matmul dot_S256x1024_S2048x1024_S256x2048_1_1_0_0_n_n none (up2 f : FVec Ideal S256x1024 .bf16) (up2 g : FVec Ideal S2048x1024 .bf16)
      (constant S256x2048 .f32 0x00000000#32) = (up2 (mmT f g) : FVec Ideal S256x2048 .f32) := by
  funext i
  idx_vars i
  pointwise [up2]
  simp only [zero_add, mmT]

theorem mmT_head (f : Mat 256 256) (g : Mat 256 256) :
    matmul dot_S256x256_S256x256_S256x256_1_1_0_0_n_n none (up2 f : FVec Ideal S256x256 .bf16) (up2 g : FVec Ideal S256x256 .bf16)
      (constant S256x256 .f32 0x00000000#32) = (up2 (mmT f g) : FVec Ideal S256x256 .f32) := by
  funext i
  idx_vars i
  pointwise [up2]
  simp only [zero_add, mmT]

theorem rowsum_wide (f : Mat 256 1024) :
    multiReduction .add [1] S256 (up2 f : FVec Ideal S256x1024 .f32) 0x00000000#32 reduces_S256x1024_S256 (.inl rfl) rfl = (up1 fun i => ∑ j, f i j : FVec Ideal S256 .f32) := by
  funext i
  idx_vars i
  pointwise [up1, up2, up3]

theorem rowsum_head (f : Mat 256 256) :
    multiReduction .add [1] S256 (up2 f : FVec Ideal S256x256 .f32) 0x00000000#32 reduces_S256x256_S256 (.inl rfl) rfl = (up1 fun i => ∑ j, f i j : FVec Ideal S256 .f32) := by
  funext i
  idx_vars i
  pointwise [up1, up2, up3]

theorem rowmax (f : Mat 256 256) :
    multiReduction .maximumf [1] S256 (up2 f : FVec Ideal S256x256 .f32) 0xFF800000#32 reduces_S256x256_S256 (.inl rfl) rfl = (up1 (top f) : FVec Ideal S256 .f32) := by
  funext i
  idx_vars i
  pointwise [up1, up2, up3]
  simp only [bits_bot, top]

theorem col_up (f : Fin 256 → EReal) :
    shapeCast S256x1 (up1 f : FVec Ideal S256 .f32) shapeCasts_S256_S256x1 = (up2 fun i _ => f i : FVec Ideal S256x1 .f32) := by
  funext i
  idx_vars i
  pointwise [up1, up2, up3]

theorem bcol_wide (f : Mat 256 1) :
    broadcastTo S256x1024 (up2 f : FVec Ideal S256x1 .f32) broadcasts_S256x1_S256x1024 = (up2 fun i _ => f i 0 : FVec Ideal S256x1024 .f32) := by
  funext i
  idx_vars i
  pointwise [up1, up2, up3]

theorem bcol_head (f : Mat 256 1) :
    broadcastTo S256x256 (up2 f : FVec Ideal S256x1 .f32) broadcasts_S256x1_S256x256 = (up2 fun i _ => f i 0 : FVec Ideal S256x256 .f32) := by
  funext i
  idx_vars i
  pointwise [up1, up2, up3]

theorem brow (f : Mat 1 1024) :
    broadcastTo S256x1024 (up2 f : FVec Ideal S1x1024 .f32) broadcasts_S1x1024_S256x1024 = (up2 fun _ j => f 0 j : FVec Ideal S256x1024 .f32) := by
  funext i
  idx_vars i
  pointwise [up1, up2, up3]

theorem div_n (f : Mat 256 1) :
    divf (up2 f : FVec Ideal S256x1 .f32) (broadcast S256x1 (Scalar.ofBits .f32 0x44800000#32)) = up2 fun i j => Ideal.div (f i j) ((1024 : ℝ) : EReal) := by
  funext i
  idx_vars i
  pointwise [up1, up2, up3]
  rw [bits_1024]

theorem inv_up (v : Mat 256 1024) :
    rsqrt (addf (up2 fun i _ => Ideal.div (∑ j, v i j * v i j) ((1024 : ℝ) : EReal) : FVec Ideal S256x1 .f32) (broadcast S256x1 (Scalar.ofBits .f32 0x358637BD#32))) = up2 fun i _ => inv v i := by
  funext i
  idx_vars i
  pointwise [up1, up2, up3]
  rw [bits_eps, Spec.inv, ms]

theorem exp_up (f : Mat 256 256) :
    exp (up2 f : FVec Ideal S256x256 .f32) = up2 fun i j => Ideal.exp (f i j) := by
  funext i
  idx_vars i
  pointwise [up1, up2, up3]

theorem mul_16 (f : Mat 256 256) :
    mulf (up2 f : FVec Ideal S256x256 .f32) (broadcast S256x256 (Scalar.ofBits .f32 0x3D800000#32)) = up2 fun i j => f i j * ((1 / 16 : ℝ) : EReal) := by
  funext i
  idx_vars i
  pointwise [up1, up2, up3]
  rw [bits_inv16]

theorem mul_n (f : Mat 256 1024) :
    mulf (up2 f : FVec Ideal S256x1024 .f32) (broadcast S256x1024 (Scalar.ofBits .f32 0x3A800000#32)) = up2 fun i j => f i j * ((1 / 1024 : ℝ) : EReal) := by
  funext i
  idx_vars i
  pointwise [up1, up2, up3]
  rw [bits_inv1024]

theorem div_tot (s : Mat 256 256) :
    divf (up2 (expo s) : FVec Ideal S256x256 .f32) (up2 fun i _ => tot (expo s) i) = up2 (prob s) := by
  funext i
  idx_vars i
  pointwise [up1, up2, up3]
  rw [prob]

theorem same_wide (f : Mat 256 1024) :
    shapeCast S256x1024 (up2 f : FVec Ideal S256x1024 φ) shapeCasts_S256x1024_S256x1024 = up2 f := by
  funext i
  idx_vars i
  pointwise [up2]

theorem same_head (f : Mat 256 256) :
    shapeCast S256x256 (up2 f : FVec Ideal S256x256 φ) shapeCasts_S256x256_S256x256 = up2 f := by
  funext i
  idx_vars i
  pointwise [up2]

theorem same_8 (f : Mat 8 1024) :
    shapeCast S8x1024 (up2 f : FVec Ideal S8x1024 φ) shapeCasts_S8x1024_S8x1024 = up2 f := by
  funext i
  idx_vars i
  pointwise [up2]

theorem transpose_2048 (f : Mat 256 2048) :
    transpose S2048x256 [1, 0] (up2 f : FVec Ideal S256x2048 .f32) transposes_S256x2048_p1_0_S2048x256 = (up2 fun i j => f j i : FVec Ideal S2048x256 .f32) := by
  funext i
  idx_vars i
  pointwise [up1, up2, up3]

theorem transpose_1024 (f : Mat 256 1024) :
    transpose S1024x256 [1, 0] (up2 f : FVec Ideal S256x1024 .f32) transposes_S256x1024_p1_0_S1024x256 = (up2 fun i j => f j i : FVec Ideal S1024x256 .f32) := by
  funext i
  idx_vars i
  pointwise [up1, up2, up3]

theorem transpose_256 (f : Mat 256 256) :
    transpose S256x256 [1, 0] (up2 f : FVec Ideal S256x256 .f32) transposes_S256x256_p1_0_S256x256 = (up2 fun i j => f j i : FVec Ideal S256x256 .f32) := by
  funext i
  idx_vars i
  pointwise [up1, up2, up3]

theorem slice_0 (f : Mat 256 1024) :
    extractStridedSlice S256x256 ![0, 0] (up2 f : FVec Ideal S256x1024 .bf16) slices_S256x1024_o0_0_S256x256 = (up2 (hd 0 f) : FVec Ideal S256x256 .bf16) := by
  funext i
  idx_vars i
  pointwise [up1, up2, up3, hd, col]

theorem slice_1 (f : Mat 256 1024) :
    extractStridedSlice S256x256 ![0, 256] (up2 f : FVec Ideal S256x1024 .bf16) slices_S256x1024_o0_256_S256x256 = (up2 (hd 1 f) : FVec Ideal S256x256 .bf16) := by
  funext i
  idx_vars i
  pointwise [up1, up2, up3, hd, col]

theorem slice_2 (f : Mat 256 1024) :
    extractStridedSlice S256x256 ![0, 512] (up2 f : FVec Ideal S256x1024 .bf16) slices_S256x1024_o0_512_S256x256 = (up2 (hd 2 f) : FVec Ideal S256x256 .bf16) := by
  funext i
  idx_vars i
  pointwise [up1, up2, up3, hd, col]

theorem slice_3 (f : Mat 256 1024) :
    extractStridedSlice S256x256 ![0, 768] (up2 f : FVec Ideal S256x1024 .bf16) slices_S256x1024_o0_768_S256x256 = (up2 (hd 3 f) : FVec Ideal S256x256 .bf16) := by
  funext i
  idx_vars i
  pointwise [up1, up2, up3, hd, col]

theorem split8_up (f : Mat 256 1024) :
    shapeCast S32x8x1024 (up2 f : FVec Ideal S256x1024 .f32) shapeCasts_S256x1024_S32x8x1024 = (up3 (split8 f) : FVec Ideal S32x8x1024 .f32) := by
  funext i
  idx_vars i
  pointwise [up1, up2, up3]
  rfl

theorem sum32 (f : Fin 32 → Fin 8 → Fin 1024 → EReal) :
    multiReduction .add [0] S8x1024 (up3 f : FVec Ideal S32x8x1024 .f32) 0x00000000#32 reduces_S32x8x1024_S8x1024 (.inl rfl) rfl = (up2 fun r j => ∑ a, f a r j : FVec Ideal S8x1024 .f32) := by
  funext i
  idx_vars i
  pointwise [up1, up2, up3]

theorem sum8_up (f : Mat 8 1024) :
    multiReduction .add [0] S1024 (up2 f : FVec Ideal S8x1024 .f32) 0x00000000#32 reduces_S8x1024_S1024 (.inl rfl) rfl = (up1 fun j => ∑ r, f r j : FVec Ideal S1024 .f32) := by
  funext i
  idx_vars i
  pointwise [up1, up2, up3]

theorem row_up (f : Fin 1024 → EReal) :
    shapeCast S1x1024 (up1 f : FVec Ideal S1024 .f32) shapeCasts_S1024_S1x1024 = (up2 fun _ j => f j : FVec Ideal S1x1024 .f32) := by
  funext i
  idx_vars i
  pointwise [up1, up2, up3]

theorem stack_up (f : Mat 256 1024) :
    shapeCast S1x256x1024 (up2 f : FVec Ideal S256x1024 .bf16) shapeCasts_S256x1024_S1x256x1024 = (up3 fun _ i j => f i j : FVec Ideal S1x256x1024 .bf16) := by
  funext i
  idx_vars i
  pointwise [up1, up2, up3]

theorem zero_wide  :
    broadcast S256x1024 (Scalar.ofBits .f32 0x00000000#32 : Ideal .f32) = (up2 fun _ _ => 0 : FVec Ideal S256x1024 .f32) := by
  funext i
  idx_vars i
  pointwise [up1, up2, up3]

theorem zero_8  :
    broadcast S8x1024 (Scalar.ofBits .f32 0x00000000#32 : Ideal .f32) = (up2 fun _ _ => 0 : FVec Ideal S8x1024 .f32) := by
  funext i
  idx_vars i
  pointwise [up1, up2, up3]

end Cert.Lift

end
-- ==== Proof.Payloads.lean ====
/- What each value of the kernel's body is, on matrices. -/
module

public import proofs.«01_k».proof.Proof.Lift
public import proofs.«01_k».proof.Proof.Gen.KernelIdeal.Skeleton
public import Idealize.ShloMosaic.Lib.Pointwise

@[expose] public section

set_option maxRecDepth 16384

noncomputable section

namespace Cert.Lift

open Idealize.ShloMosaic Idealize.SL.Sem Cert.KernelIdeal Cert.KernelIdeal.Gen Cert.Spec Cert.Reals

theorem pay11 (v5 : Mat 256 2048) :
    k0_pay11 (F := Ideal) (up2 (φ := .bf16) v5) = up2 (fun i j => v5 j i) := by
  simp -proj only [k0_pay11, ext_up, trunc_up, transpose_2048]
  try rfl

theorem pay12 (v5 : Mat 256 2048) (v10 : Mat 256 1024) (v11 : Mat 2048 1024) :
    k0_pay12 (F := Ideal) (up2 (φ := .bf16) v5) (up2 (φ := .f32) v10) (up2 (φ := .bf16) v11) = up2 (addm v10 (mm v5 v11)) := by
  simp -proj only [k0_pay12, add_up, mm_cat]
  try rfl

theorem pay13 (v5 : Mat 256 2048) (v10 : Mat 256 1024) (v11 : Mat 2048 1024) :
    k0_pay13 (F := Ideal) (up2 (φ := .bf16) v5) (up2 (φ := .f32) v10) (up2 (φ := .bf16) v11) = up2 (fun i _ => inv (addm v10 (mm v5 v11)) i) := by
  simp -proj only [k0_pay13, pay12, add_up, mul_up, rowsum_wide, col_up, div_n, inv_up]
  try rfl

theorem pay14 (v5 : Mat 256 2048) (v10 : Mat 256 1024) (v11 : Mat 2048 1024) :
    k0_pay14 (F := Ideal) (up2 (φ := .bf16) v5) (up2 (φ := .f32) v10) (up2 (φ := .bf16) v11) = up2 (nrm (addm v10 (mm v5 v11))) := by
  simp -proj only [k0_pay14, pay12, pay13, mul_up, bcol_wide]
  try rfl

theorem pay15 (v3 : Mat 1 1024) (v5 : Mat 256 2048) (v10 : Mat 256 1024) (v11 : Mat 2048 1024) :
    k0_pay15 (F := Ideal) (up2 (φ := .f32) v3) (up2 (φ := .bf16) v5) (up2 (φ := .f32) v10) (up2 (φ := .bf16) v11) = up2 (scl (nrm (addm v10 (mm v5 v11))) v3) := by
  simp -proj only [k0_pay15, pay14, mul_up, brow]
  try rfl

theorem pay16 (v3 : Mat 1 1024) (v5 : Mat 256 2048) (v10 : Mat 256 1024) (v11 : Mat 2048 1024) :
    k0_pay16 (F := Ideal) (up2 (φ := .f32) v3) (up2 (φ := .bf16) v5) (up2 (φ := .f32) v10) (up2 (φ := .bf16) v11) = up2 (fun i j => scl (nrm (addm v10 (mm v5 v11))) v3 j i) := by
  simp -proj only [k0_pay16, pay15, trunc_up, transpose_1024]
  try rfl

theorem pay17 (v3 : Mat 1 1024) (v5 : Mat 256 2048) (v10 : Mat 256 1024) (v11 : Mat 2048 1024) (v30 : Mat 1024 1024) :
    k0_pay17 (F := Ideal) (up2 (φ := .f32) v3) (up2 (φ := .bf16) v5) (up2 (φ := .f32) v10) (up2 (φ := .bf16) v11) (up2 (φ := .bf16) v30) = up2 (mm (scl (nrm (addm v10 (mm v5 v11))) v3) v30) := by
  simp -proj only [k0_pay17, pay15, trunc_up, mm_wide]
  try rfl

theorem pay18 (v32 : Mat 256 1024) :
    k0_pay18 (F := Ideal) (up2 (φ := .bf16) v32) = up2 (v32) := by
  simp -proj only [k0_pay18, same_wide]
  try rfl

theorem pay19 (v36 : Mat 256 2048) :
    k0_pay19 (F := Ideal) (up2 (φ := .bf16) v36) = up2 (fun i j => v36 j i) := by
  simp -proj only [k0_pay19, ext_up, trunc_up, transpose_2048]
  try rfl

theorem pay20 (v36 : Mat 256 2048) (v41 : Mat 256 1024) (v42 : Mat 2048 1024) :
    k0_pay20 (F := Ideal) (up2 (φ := .bf16) v36) (up2 (φ := .f32) v41) (up2 (φ := .bf16) v42) = up2 (addm v41 (mm v36 v42)) := by
  simp -proj only [k0_pay20, add_up, mm_cat]
  try rfl

theorem pay21 (v36 : Mat 256 2048) (v41 : Mat 256 1024) (v42 : Mat 2048 1024) :
    k0_pay21 (F := Ideal) (up2 (φ := .bf16) v36) (up2 (φ := .f32) v41) (up2 (φ := .bf16) v42) = up2 (fun i _ => inv (addm v41 (mm v36 v42)) i) := by
  simp -proj only [k0_pay21, pay20, add_up, mul_up, rowsum_wide, col_up, div_n, inv_up]
  try rfl

theorem pay22 (v36 : Mat 256 2048) (v41 : Mat 256 1024) (v42 : Mat 2048 1024) :
    k0_pay22 (F := Ideal) (up2 (φ := .bf16) v36) (up2 (φ := .f32) v41) (up2 (φ := .bf16) v42) = up2 (nrm (addm v41 (mm v36 v42))) := by
  simp -proj only [k0_pay22, pay20, pay21, mul_up, bcol_wide]
  try rfl

theorem pay23 (v3 : Mat 1 1024) (v36 : Mat 256 2048) (v41 : Mat 256 1024) (v42 : Mat 2048 1024) :
    k0_pay23 (F := Ideal) (up2 (φ := .f32) v3) (up2 (φ := .bf16) v36) (up2 (φ := .f32) v41) (up2 (φ := .bf16) v42) = up2 (scl (nrm (addm v41 (mm v36 v42))) v3) := by
  simp -proj only [k0_pay23, pay22, mul_up, brow]
  try rfl

theorem pay24 (v3 : Mat 1 1024) (v36 : Mat 256 2048) (v41 : Mat 256 1024) (v42 : Mat 2048 1024) :
    k0_pay24 (F := Ideal) (up2 (φ := .f32) v3) (up2 (φ := .bf16) v36) (up2 (φ := .f32) v41) (up2 (φ := .bf16) v42) = up2 (fun i j => scl (nrm (addm v41 (mm v36 v42))) v3 j i) := by
  simp -proj only [k0_pay24, pay23, trunc_up, transpose_1024]
  try rfl

theorem pay25 (v3 : Mat 1 1024) (v36 : Mat 256 2048) (v41 : Mat 256 1024) (v42 : Mat 2048 1024) (v61 : Mat 1024 1024) :
    k0_pay25 (F := Ideal) (up2 (φ := .f32) v3) (up2 (φ := .bf16) v36) (up2 (φ := .f32) v41) (up2 (φ := .bf16) v42) (up2 (φ := .bf16) v61) = up2 (mm (scl (nrm (addm v41 (mm v36 v42))) v3) v61) := by
  simp -proj only [k0_pay25, pay23, trunc_up, mm_wide, same_wide]
  try rfl

theorem pay26 (v67 : Mat 256 256) (v68 : Mat 256 256) :
    k0_pay26 (F := Ideal) (up2 (φ := .bf16) v67) (up2 (φ := .bf16) v68) = up2 (prob (score v67 v68)) := by
  simp -proj only [k0_pay26, sub_up, mul_up, mmT_head, rowsum_head, rowmax, col_up, bcol_head, exp_up, mul_16]
  exact div_tot (score v67 v68)

theorem pay27 (v67 : Mat 256 256) (v68 : Mat 256 256) :
    k0_pay27 (F := Ideal) (up2 (φ := .bf16) v67) (up2 (φ := .bf16) v68) = up2 (prob (score v67 v68)) := by
  simp -proj only [k0_pay27, pay26, same_head]
  try rfl

theorem pay28 (v67 : Mat 256 256) (v68 : Mat 256 256) (v85 : Mat 256 256) :
    k0_pay28 (F := Ideal) (up2 (φ := .bf16) v67) (up2 (φ := .bf16) v68) (up2 (φ := .bf16) v85) = up2 (mm (prob (score v67 v68)) v85) := by
  simp -proj only [k0_pay28, pay26, trunc_up, mm_head, same_head]
  try rfl

theorem pay29 (v90 : Mat 256 256) (v91 : Mat 256 256) :
    k0_pay29 (F := Ideal) (up2 (φ := .bf16) v90) (up2 (φ := .bf16) v91) = up2 (expo (score v90 v91)) := by
  simp -proj only [k0_pay29, sub_up, mul_up, mmT_head, rowmax, col_up, bcol_head, exp_up, mul_16]
  try rfl

theorem pay30 (v90 : Mat 256 256) (v91 : Mat 256 256) :
    k0_pay30 (F := Ideal) (up2 (φ := .bf16) v90) (up2 (φ := .bf16) v91) = up2 (fun i _ => tot (expo (score v90 v91)) i) := by
  simp -proj only [k0_pay30, pay29, rowsum_head, col_up, bcol_head]
  try rfl

theorem pay31 (s : Mat 256 256) :
    k0_pay31 (F := Ideal) (up2 (expo s)) (up2 fun i _ => tot (expo s) i) = up2 (prob s) := by
  simp -proj only [k0_pay31, div_tot]
  try rfl

theorem pay32 (s : Mat 256 256) :
    k0_pay32 (F := Ideal) (up2 (expo s)) (up2 fun i _ => tot (expo s) i) = up2 (prob s) := by
  simp -proj only [k0_pay32, pay31, same_head]
  try rfl

theorem pay33 (s : Mat 256 256) (v108 : Mat 256 256) :
    k0_pay33 (F := Ideal) (up2 (expo s)) (up2 fun i _ => tot (expo s) i) (up2 (φ := .bf16) v108) = up2 (mm (prob s) v108) := by
  simp -proj only [k0_pay33, pay31, trunc_up, mm_head, same_head]
  try rfl

theorem pay34 (v113 : Mat 256 256) (v114 : Mat 256 256) :
    k0_pay34 (F := Ideal) (up2 (φ := .bf16) v113) (up2 (φ := .bf16) v114) = up2 (prob (score v113 v114)) := by
  simp -proj only [k0_pay34, sub_up, mul_up, mmT_head, rowsum_head, rowmax, col_up, bcol_head, exp_up, mul_16]
  exact div_tot (score v113 v114)

theorem pay35 (v113 : Mat 256 256) (v114 : Mat 256 256) :
    k0_pay35 (F := Ideal) (up2 (φ := .bf16) v113) (up2 (φ := .bf16) v114) = up2 (prob (score v113 v114)) := by
  simp -proj only [k0_pay35, pay34, same_head]
  try rfl

theorem pay36 (v113 : Mat 256 256) (v114 : Mat 256 256) (v131 : Mat 256 256) :
    k0_pay36 (F := Ideal) (up2 (φ := .bf16) v113) (up2 (φ := .bf16) v114) (up2 (φ := .bf16) v131) = up2 (mm (prob (score v113 v114)) v131) := by
  simp -proj only [k0_pay36, pay34, trunc_up, mm_head, same_head]
  try rfl

theorem pay37 (v136 : Mat 256 256) (v137 : Mat 256 256) :
    k0_pay37 (F := Ideal) (up2 (φ := .bf16) v136) (up2 (φ := .bf16) v137) = up2 (prob (score v136 v137)) := by
  simp -proj only [k0_pay37, sub_up, mul_up, mmT_head, rowsum_head, rowmax, col_up, bcol_head, exp_up, mul_16]
  exact div_tot (score v136 v137)

theorem pay38 (v136 : Mat 256 256) (v137 : Mat 256 256) :
    k0_pay38 (F := Ideal) (up2 (φ := .bf16) v136) (up2 (φ := .bf16) v137) = up2 (prob (score v136 v137)) := by
  simp -proj only [k0_pay38, pay37, same_head]
  try rfl

theorem pay39 (v136 : Mat 256 256) (v137 : Mat 256 256) (v154 : Mat 256 256) :
    k0_pay39 (F := Ideal) (up2 (φ := .bf16) v136) (up2 (φ := .bf16) v137) (up2 (φ := .bf16) v154) = up2 (mm (prob (score v136 v137)) v154) := by
  simp -proj only [k0_pay39, pay37, trunc_up, mm_head, same_head]
  try rfl

theorem pay40 (v159 : Mat 256 256) (v160 : Mat 256 256) :
    k0_pay40 (F := Ideal) (up2 (φ := .bf16) v159) (up2 (φ := .bf16) v160) = up2 (expo (score v159 v160)) := by
  simp -proj only [k0_pay40, sub_up, mul_up, mmT_head, rowmax, col_up, bcol_head, exp_up, mul_16]
  try rfl

theorem pay41 (v159 : Mat 256 256) (v160 : Mat 256 256) :
    k0_pay41 (F := Ideal) (up2 (φ := .bf16) v159) (up2 (φ := .bf16) v160) = up2 (fun i _ => tot (expo (score v159 v160)) i) := by
  simp -proj only [k0_pay41, pay40, rowsum_head, col_up, bcol_head]
  try rfl

theorem pay42 (s : Mat 256 256) :
    k0_pay42 (F := Ideal) (up2 (expo s)) (up2 fun i _ => tot (expo s) i) = up2 (prob s) := by
  simp -proj only [k0_pay42, div_tot]
  try rfl

theorem pay43 (s : Mat 256 256) :
    k0_pay43 (F := Ideal) (up2 (expo s)) (up2 fun i _ => tot (expo s) i) = up2 (prob s) := by
  simp -proj only [k0_pay43, pay42, same_head]
  try rfl

theorem pay44 (s : Mat 256 256) (v177 : Mat 256 256) :
    k0_pay44 (F := Ideal) (up2 (expo s)) (up2 fun i _ => tot (expo s) i) (up2 (φ := .bf16) v177) = up2 (mm (prob s) v177) := by
  simp -proj only [k0_pay44, pay42, trunc_up, mm_head, same_head]
  try rfl

theorem pay45 (v182 : Mat 256 256) (v183 : Mat 256 256) :
    k0_pay45 (F := Ideal) (up2 (φ := .bf16) v182) (up2 (φ := .bf16) v183) = up2 (prob (score v182 v183)) := by
  simp -proj only [k0_pay45, sub_up, mul_up, mmT_head, rowsum_head, rowmax, col_up, bcol_head, exp_up, mul_16]
  exact div_tot (score v182 v183)

theorem pay46 (v182 : Mat 256 256) (v183 : Mat 256 256) :
    k0_pay46 (F := Ideal) (up2 (φ := .bf16) v182) (up2 (φ := .bf16) v183) = up2 (prob (score v182 v183)) := by
  simp -proj only [k0_pay46, pay45, same_head]
  try rfl

theorem pay47 (v182 : Mat 256 256) (v183 : Mat 256 256) (v200 : Mat 256 256) :
    k0_pay47 (F := Ideal) (up2 (φ := .bf16) v182) (up2 (φ := .bf16) v183) (up2 (φ := .bf16) v200) = up2 (mm (prob (score v182 v183)) v200) := by
  simp -proj only [k0_pay47, pay45, trunc_up, mm_head, same_head]
  try rfl

theorem pay48 (v205 : Mat 256 256) (v206 : Mat 256 256) :
    k0_pay48 (F := Ideal) (up2 (φ := .bf16) v205) (up2 (φ := .bf16) v206) = up2 (prob (score v205 v206)) := by
  simp -proj only [k0_pay48, sub_up, mul_up, mmT_head, rowsum_head, rowmax, col_up, bcol_head, exp_up, mul_16]
  exact div_tot (score v205 v206)

theorem pay49 (v205 : Mat 256 256) (v206 : Mat 256 256) :
    k0_pay49 (F := Ideal) (up2 (φ := .bf16) v205) (up2 (φ := .bf16) v206) = up2 (prob (score v205 v206)) := by
  simp -proj only [k0_pay49, pay48, same_head]
  try rfl

theorem pay50 (v205 : Mat 256 256) (v206 : Mat 256 256) (v223 : Mat 256 256) :
    k0_pay50 (F := Ideal) (up2 (φ := .bf16) v205) (up2 (φ := .bf16) v206) (up2 (φ := .bf16) v223) = up2 (mm (prob (score v205 v206)) v223) := by
  simp -proj only [k0_pay50, pay48, trunc_up, mm_head, same_head]
  try rfl

theorem pay51 (v228 : Mat 256 256) (v229 : Mat 256 256) :
    k0_pay51 (F := Ideal) (up2 (φ := .bf16) v228) (up2 (φ := .bf16) v229) = up2 (expo (score v228 v229)) := by
  simp -proj only [k0_pay51, sub_up, mul_up, mmT_head, rowmax, col_up, bcol_head, exp_up, mul_16]
  try rfl

theorem pay52 (v228 : Mat 256 256) (v229 : Mat 256 256) :
    k0_pay52 (F := Ideal) (up2 (φ := .bf16) v228) (up2 (φ := .bf16) v229) = up2 (fun i _ => tot (expo (score v228 v229)) i) := by
  simp -proj only [k0_pay52, pay51, rowsum_head, col_up, bcol_head]
  try rfl

theorem pay53 (s : Mat 256 256) :
    k0_pay53 (F := Ideal) (up2 (expo s)) (up2 fun i _ => tot (expo s) i) = up2 (prob s) := by
  simp -proj only [k0_pay53, div_tot]
  try rfl

theorem pay54 (s : Mat 256 256) :
    k0_pay54 (F := Ideal) (up2 (expo s)) (up2 fun i _ => tot (expo s) i) = up2 (prob s) := by
  simp -proj only [k0_pay54, pay53, same_head]
  try rfl

theorem pay55 (s : Mat 256 256) (v246 : Mat 256 256) :
    k0_pay55 (F := Ideal) (up2 (expo s)) (up2 fun i _ => tot (expo s) i) (up2 (φ := .bf16) v246) = up2 (mm (prob s) v246) := by
  simp -proj only [k0_pay55, pay53, trunc_up, mm_head, same_head]
  try rfl

theorem pay56 (v251 : Mat 256 1024) :
    k0_pay56 (F := Ideal) (up2 (φ := .f32) v251) = up2 (fun i j => v251 j i) := by
  simp -proj only [k0_pay56, trunc_up, transpose_1024]
  try rfl

theorem pay57 (v13 : Mat 256 1024) (v251 : Mat 256 1024) (v256 : Mat 1024 1024) :
    k0_pay57 (F := Ideal) (up2 (φ := .f32) v13) (up2 (φ := .f32) v251) (up2 (φ := .bf16) v256) = up2 (addm v13 (mm v251 v256)) := by
  simp -proj only [k0_pay57, add_up, trunc_up, mm_wide]
  try rfl

theorem pay58 (v13 : Mat 256 1024) (v251 : Mat 256 1024) (v256 : Mat 1024 1024) :
    k0_pay58 (F := Ideal) (up2 (φ := .f32) v13) (up2 (φ := .f32) v251) (up2 (φ := .bf16) v256) = up2 (fun i _ => inv (addm v13 (mm v251 v256)) i) := by
  simp -proj only [k0_pay58, pay57, add_up, mul_up, rowsum_wide, col_up, div_n, inv_up]
  try rfl

theorem pay59 (v13 : Mat 256 1024) (v251 : Mat 256 1024) (v256 : Mat 1024 1024) :
    k0_pay59 (F := Ideal) (up2 (φ := .f32) v13) (up2 (φ := .f32) v251) (up2 (φ := .bf16) v256) = up2 (nrm (addm v13 (mm v251 v256))) := by
  simp -proj only [k0_pay59, pay57, pay58, mul_up, bcol_wide]
  try rfl

theorem pay60 (v4 : Mat 1 1024) (v13 : Mat 256 1024) (v251 : Mat 256 1024) (v256 : Mat 1024 1024) (v271 : Mat 256 1024) :
    k0_pay60 (F := Ideal) (up2 (φ := .f32) v4) (up2 (φ := .f32) v13) (up2 (φ := .f32) v251) (up2 (φ := .bf16) v256) (up2 (φ := .f32) v271) = up2 (subm (scl (nrm (addm v13 (mm v251 v256))) v4) v271) := by
  simp -proj only [k0_pay60, pay59, sub_up, mul_up, brow]
  try rfl

theorem pay61 (v4 : Mat 1 1024) (v13 : Mat 256 1024) (v251 : Mat 256 1024) (v256 : Mat 1024 1024) (v271 : Mat 256 1024) :
    k0_pay61 (F := Ideal) (up2 (φ := .f32) v4) (up2 (φ := .f32) v13) (up2 (φ := .f32) v251) (up2 (φ := .bf16) v256) (up2 (φ := .f32) v271) = up2 (thou (subm (scl (nrm (addm v13 (mm v251 v256))) v4) v271)) := by
  simp -proj only [k0_pay61, pay60, mul_up, mul_n]
  try rfl

theorem pay62 (v4 : Mat 1 1024) (v13 : Mat 256 1024) (v251 : Mat 256 1024) (v256 : Mat 1024 1024) (v271 : Mat 256 1024) :
    k0_pay62 (F := Ideal) (up2 (φ := .f32) v4) (up2 (φ := .f32) v13) (up2 (φ := .f32) v251) (up2 (φ := .bf16) v256) (up2 (φ := .f32) v271) = up3 (split8 (mulm (subm (scl (nrm (addm v13 (mm v251 v256))) v4) v271) (subm (scl (nrm (addm v13 (mm v251 v256))) v4) v271))) := by
  simp -proj only [k0_pay62, pay60, mul_up, split8_up]
  try rfl

theorem pay63 (v276 : Mat 256 1024) :
    k0_pay63 (F := Ideal) (up3 (split8 v276)) = up2 (fold8 v276) := by
  simp -proj only [k0_pay63, sum32]
  try rfl

theorem pay64 (v268 : Mat 256 1024) (v274 : Mat 256 1024) :
    k0_pay64 (F := Ideal) (up2 (φ := .f32) v268) (up2 (φ := .f32) v274) = up2 (fold8 (mulm v274 v268)) := by
  simp -proj only [k0_pay64, mul_up, split8_up, sum32]
  try rfl

theorem pay65 (v4 : Mat 1 1024) (v266 : Mat 256 1) (v268 : Mat 256 1024) (v274 : Mat 256 1024) :
    k0_pay65 (F := Ideal) (up2 (φ := .f32) v4) (up2 (φ := .f32) v266) (up2 (φ := .f32) v268) (up2 (φ := .f32) v274) = up2 (back (scl v274 v4) v268 (fun i => v266 i 0)) := by
  simp -proj only [k0_pay65, sub_up, mul_up, rowsum_wide, col_up, bcol_wide, brow, div_n]
  try rfl

theorem pay66 (v293 : Mat 256 1024) :
    k0_pay66 (F := Ideal) (up2 (φ := .f32) v293) = up2 (fun i j => v293 j i) := by
  simp -proj only [k0_pay66, trunc_up, transpose_1024]
  try rfl

theorem pay67 (v44 : Mat 256 1024) (v293 : Mat 256 1024) (v298 : Mat 1024 1024) :
    k0_pay67 (F := Ideal) (up2 (φ := .f32) v44) (up2 (φ := .f32) v293) (up2 (φ := .bf16) v298) = up2 (addm v44 (mm v293 v298)) := by
  simp -proj only [k0_pay67, add_up, trunc_up, mm_wide]
  try rfl

theorem pay68 (v44 : Mat 256 1024) (v293 : Mat 256 1024) (v298 : Mat 1024 1024) :
    k0_pay68 (F := Ideal) (up2 (φ := .f32) v44) (up2 (φ := .f32) v293) (up2 (φ := .bf16) v298) = up2 (fun i _ => inv (addm v44 (mm v293 v298)) i) := by
  simp -proj only [k0_pay68, pay67, add_up, mul_up, rowsum_wide, col_up, div_n, inv_up]
  try rfl

theorem pay69 (v44 : Mat 256 1024) (v293 : Mat 256 1024) (v298 : Mat 1024 1024) :
    k0_pay69 (F := Ideal) (up2 (φ := .f32) v44) (up2 (φ := .f32) v293) (up2 (φ := .bf16) v298) = up2 (nrm (addm v44 (mm v293 v298))) := by
  simp -proj only [k0_pay69, pay67, pay68, mul_up, bcol_wide]
  try rfl

theorem pay70 (v4 : Mat 1 1024) (v44 : Mat 256 1024) (v293 : Mat 256 1024) (v298 : Mat 1024 1024) (v313 : Mat 256 1024) :
    k0_pay70 (F := Ideal) (up2 (φ := .f32) v4) (up2 (φ := .f32) v44) (up2 (φ := .f32) v293) (up2 (φ := .bf16) v298) (up2 (φ := .f32) v313) = up2 (subm (scl (nrm (addm v44 (mm v293 v298))) v4) v313) := by
  simp -proj only [k0_pay70, pay69, sub_up, mul_up, brow]
  try rfl

theorem pay71 (v4 : Mat 1 1024) (v44 : Mat 256 1024) (v293 : Mat 256 1024) (v298 : Mat 1024 1024) (v313 : Mat 256 1024) :
    k0_pay71 (F := Ideal) (up2 (φ := .f32) v4) (up2 (φ := .f32) v44) (up2 (φ := .f32) v293) (up2 (φ := .bf16) v298) (up2 (φ := .f32) v313) = up2 (thou (subm (scl (nrm (addm v44 (mm v293 v298))) v4) v313)) := by
  simp -proj only [k0_pay71, pay70, mul_up, mul_n]
  try rfl

theorem pay72 (v4 : Mat 1 1024) (v44 : Mat 256 1024) (v293 : Mat 256 1024) (v298 : Mat 1024 1024) (v313 : Mat 256 1024) :
    k0_pay72 (F := Ideal) (up2 (φ := .f32) v4) (up2 (φ := .f32) v44) (up2 (φ := .f32) v293) (up2 (φ := .bf16) v298) (up2 (φ := .f32) v313) = up3 (split8 (mulm (subm (scl (nrm (addm v44 (mm v293 v298))) v4) v313) (subm (scl (nrm (addm v44 (mm v293 v298))) v4) v313))) := by
  simp -proj only [k0_pay72, pay70, mul_up, split8_up]
  try rfl

theorem pay73 (v4 : Mat 1 1024) (v308 : Mat 256 1) (v310 : Mat 256 1024) (v316 : Mat 256 1024) :
    k0_pay73 (F := Ideal) (up2 (φ := .f32) v4) (up2 (φ := .f32) v308) (up2 (φ := .f32) v310) (up2 (φ := .f32) v316) = up2 (back (scl v316 v4) v310 (fun i => v308 i 0)) := by
  simp -proj only [k0_pay73, sub_up, mul_up, rowsum_wide, col_up, bcol_wide, brow, div_n]
  try rfl

theorem pay74 (v277 : Mat 8 1024) (v318 : Mat 256 1024) (v337 : Mat 8 1024) :
    k0_pay74 (F := Ideal) (up2 (φ := .f32) v277) (up3 (split8 v318)) (up2 (φ := .f32) v337) = up2 (addm v337 (addm v277 (fold8 v318))) := by
  simp -proj only [k0_pay74, add_up, same_8, sum32]
  try rfl

theorem pay75 (v280 : Mat 8 1024) (v310 : Mat 256 1024) (v316 : Mat 256 1024) (v342 : Mat 8 1024) :
    k0_pay75 (F := Ideal) (up2 (φ := .f32) v280) (up2 (φ := .f32) v310) (up2 (φ := .f32) v316) (up2 (φ := .f32) v342) = up2 (addm v342 (addm v280 (fold8 (mulm v316 v310)))) := by
  simp -proj only [k0_pay75, add_up, mul_up, same_8, split8_up, sum32]
  try rfl

theorem pay76 (v292 : Mat 256 1024) :
    k0_pay76 (F := Ideal) (up2 (φ := .f32) v292) = up2 (v292) := by
  simp -proj only [k0_pay76, trunc_up]
  try rfl

theorem pay77 (v292 : Mat 256 1024) :
    k0_pay77 (F := Ideal) (up2 (φ := .f32) v292) = up3 (fun _ i j => v292 i j) := by
  simp -proj only [k0_pay77, pay76, stack_up]
  try rfl

theorem pay78 (v292 : Mat 256 1024) (v351 : Mat 1024 1024) :
    k0_pay78 (F := Ideal) (up2 (φ := .f32) v292) (up2 (φ := .bf16) v351) = up2 (mmT v292 v351) := by
  simp -proj only [k0_pay78, pay76, trunc_up, mmT_wide]
  try rfl

theorem pay79 (v292 : Mat 256 1024) (v351 : Mat 1024 1024) :
    k0_pay79 (F := Ideal) (up2 (φ := .f32) v292) (up2 (φ := .bf16) v351) = up2 (hd 0 (mmT v292 v351)) := by
  simp -proj only [k0_pay79, pay78, slice_0]
  try rfl

theorem pay80 (v354 : Mat 256 256) (v355 : Mat 256 256) (v356 : Mat 256 256) :
    k0_pay80 (F := Ideal) (up2 (φ := .f32) v354) (up2 (φ := .bf16) v355) (up2 (φ := .bf16) v356) = up2 (dscore v354 (mmT v355 v356)) := by
  simp -proj only [k0_pay80, sub_up, mul_up, mmT_head, rowsum_head, col_up, bcol_head, mul_16]
  try rfl

theorem pay81 (v354 : Mat 256 256) (v355 : Mat 256 256) (v356 : Mat 256 256) (v367 : Mat 256 256) :
    k0_pay81 (F := Ideal) (up2 (φ := .f32) v354) (up2 (φ := .bf16) v355) (up2 (φ := .bf16) v356) (up2 (φ := .bf16) v367) = up2 (mm (dscore v354 (mmT v355 v356)) v367) := by
  simp -proj only [k0_pay81, pay80, trunc_up, mm_head, same_head]
  try rfl

theorem pay82 (v353 : Mat 256 1024) (v354 : Mat 256 256) :
    k0_pay82 (F := Ideal) (up2 (φ := .bf16) v353) (up2 (φ := .f32) v354) = up2 (tmm v354 (hd 0 v353)) := by
  simp -proj only [k0_pay82, trunc_up, mm_head, transpose_256, slice_0]
  try rfl

theorem pay83 (v354 : Mat 256 256) (v355 : Mat 256 256) (v356 : Mat 256 256) (v379 : Mat 256 256) :
    k0_pay83 (F := Ideal) (up2 (φ := .f32) v354) (up2 (φ := .bf16) v355) (up2 (φ := .bf16) v356) (up2 (φ := .bf16) v379) = up2 (tmm (dscore v354 (mmT v355 v356)) v379) := by
  simp -proj only [k0_pay83, pay80, trunc_up, mm_head, transpose_256]
  try rfl

theorem pay84 (v353 : Mat 256 1024) (v381 : Mat 256 256) (v383 : Mat 256 256) :
    k0_pay84 (F := Ideal) (up2 (φ := .bf16) v353) (up2 (φ := .f32) v381) (up2 (φ := .bf16) v383) = up2 (dscore v381 (mmT (hd 1 v353) v383)) := by
  simp -proj only [k0_pay84, sub_up, mul_up, mmT_head, rowsum_head, col_up, bcol_head, mul_16, slice_1]
  try rfl

theorem pay85 (v353 : Mat 256 1024) (v381 : Mat 256 256) (v383 : Mat 256 256) :
    k0_pay85 (F := Ideal) (up2 (φ := .bf16) v353) (up2 (φ := .f32) v381) (up2 (φ := .bf16) v383) = up2 (dscore v381 (mmT (hd 1 v353) v383)) := by
  simp -proj only [k0_pay85, pay84, trunc_up]
  try rfl

theorem pay86 (v393 : Mat 256 256) (v394 : Mat 256 256) :
    k0_pay86 (F := Ideal) (up2 (φ := .bf16) v393) (up2 (φ := .bf16) v394) = up2 (mm v393 v394) := by
  simp -proj only [k0_pay86, trunc_up, mm_head, same_head]
  try rfl

theorem pay87 (v353 : Mat 256 1024) (v381 : Mat 256 256) :
    k0_pay87 (F := Ideal) (up2 (φ := .bf16) v353) (up2 (φ := .f32) v381) = up2 (tmm v381 (hd 1 v353)) := by
  simp -proj only [k0_pay87, trunc_up, mm_head, transpose_256, slice_1]
  try rfl

theorem pay88 (v392 : Mat 256 256) (v406 : Mat 256 256) :
    k0_pay88 (F := Ideal) (up2 (φ := .f32) v392) (up2 (φ := .bf16) v406) = up2 (tmm v392 v406) := by
  simp -proj only [k0_pay88, trunc_up, mm_head, transpose_256]
  try rfl

theorem pay89 (v353 : Mat 256 1024) (v408 : Mat 256 256) (v410 : Mat 256 256) :
    k0_pay89 (F := Ideal) (up2 (φ := .bf16) v353) (up2 (φ := .f32) v408) (up2 (φ := .bf16) v410) = up2 (dscore v408 (mmT (hd 2 v353) v410)) := by
  simp -proj only [k0_pay89, sub_up, mul_up, mmT_head, rowsum_head, col_up, bcol_head, mul_16, slice_2]
  try rfl

theorem pay90 (v353 : Mat 256 1024) (v408 : Mat 256 256) (v410 : Mat 256 256) (v421 : Mat 256 256) :
    k0_pay90 (F := Ideal) (up2 (φ := .bf16) v353) (up2 (φ := .f32) v408) (up2 (φ := .bf16) v410) (up2 (φ := .bf16) v421) = up2 (mm (dscore v408 (mmT (hd 2 v353) v410)) v421) := by
  simp -proj only [k0_pay90, pay89, trunc_up, mm_head, same_head]
  try rfl

theorem pay91 (v353 : Mat 256 1024) (v408 : Mat 256 256) :
    k0_pay91 (F := Ideal) (up2 (φ := .bf16) v353) (up2 (φ := .f32) v408) = up2 (tmm v408 (hd 2 v353)) := by
  simp -proj only [k0_pay91, trunc_up, mm_head, transpose_256, slice_2]
  try rfl

theorem pay92 (v419 : Mat 256 256) (v433 : Mat 256 256) :
    k0_pay92 (F := Ideal) (up2 (φ := .f32) v419) (up2 (φ := .bf16) v433) = up2 (tmm v419 v433) := by
  simp -proj only [k0_pay92, trunc_up, mm_head, transpose_256]
  try rfl

theorem pay93 (v353 : Mat 256 1024) (v435 : Mat 256 256) (v437 : Mat 256 256) :
    k0_pay93 (F := Ideal) (up2 (φ := .bf16) v353) (up2 (φ := .f32) v435) (up2 (φ := .bf16) v437) = up2 (dscore v435 (mmT (hd 3 v353) v437)) := by
  simp -proj only [k0_pay93, sub_up, mul_up, mmT_head, rowsum_head, col_up, bcol_head, mul_16, slice_3]
  try rfl

theorem pay94 (v353 : Mat 256 1024) (v435 : Mat 256 256) (v437 : Mat 256 256) (v448 : Mat 256 256) :
    k0_pay94 (F := Ideal) (up2 (φ := .bf16) v353) (up2 (φ := .f32) v435) (up2 (φ := .bf16) v437) (up2 (φ := .bf16) v448) = up2 (mm (dscore v435 (mmT (hd 3 v353) v437)) v448) := by
  simp -proj only [k0_pay94, pay93, trunc_up, mm_head, same_head]
  try rfl

theorem pay95 (v353 : Mat 256 1024) (v435 : Mat 256 256) :
    k0_pay95 (F := Ideal) (up2 (φ := .bf16) v353) (up2 (φ := .f32) v435) = up2 (tmm v435 (hd 3 v353)) := by
  simp -proj only [k0_pay95, trunc_up, mm_head, transpose_256, slice_3]
  try rfl

theorem pay96 (v353 : Mat 256 1024) (v435 : Mat 256 256) (v437 : Mat 256 256) (v460 : Mat 256 256) :
    k0_pay96 (F := Ideal) (up2 (φ := .bf16) v353) (up2 (φ := .f32) v435) (up2 (φ := .bf16) v437) (up2 (φ := .bf16) v460) = up2 (tmm (dscore v435 (mmT (hd 3 v353) v437)) v460) := by
  simp -proj only [k0_pay96, pay93, trunc_up, mm_head, transpose_256]
  try rfl

theorem pay97 (v336 : Mat 256 1024) :
    k0_pay97 (F := Ideal) (up2 (φ := .f32) v336) = up2 (v336) := by
  simp -proj only [k0_pay97, trunc_up]
  try rfl

theorem pay98 (v336 : Mat 256 1024) :
    k0_pay98 (F := Ideal) (up2 (φ := .f32) v336) = up3 (fun _ i j => v336 i j) := by
  simp -proj only [k0_pay98, pay97, stack_up]
  try rfl

theorem pay99 (v462 : Mat 256 1024) (v466 : Mat 1024 1024) :
    k0_pay99 (F := Ideal) (up2 (φ := .bf16) v462) (up2 (φ := .bf16) v466) = up2 (mmT v462 v466) := by
  simp -proj only [k0_pay99, trunc_up, mmT_wide]
  try rfl

theorem pay100 (v462 : Mat 256 1024) (v466 : Mat 1024 1024) (v469 : Mat 256 256) (v471 : Mat 256 256) :
    k0_pay100 (F := Ideal) (up2 (φ := .bf16) v462) (up2 (φ := .bf16) v466) (up2 (φ := .f32) v469) (up2 (φ := .bf16) v471) = up2 (dscore v469 (mmT (hd 0 (mmT v462 v466)) v471)) := by
  simp -proj only [k0_pay100, pay99, sub_up, mul_up, mmT_head, rowsum_head, col_up, bcol_head, mul_16, slice_0]
  try rfl

theorem pay101 (v462 : Mat 256 1024) (v466 : Mat 1024 1024) (v469 : Mat 256 256) (v471 : Mat 256 256) (v482 : Mat 256 256) :
    k0_pay101 (F := Ideal) (up2 (φ := .bf16) v462) (up2 (φ := .bf16) v466) (up2 (φ := .f32) v469) (up2 (φ := .bf16) v471) (up2 (φ := .bf16) v482) = up2 (mm (dscore v469 (mmT (hd 0 (mmT v462 v466)) v471)) v482) := by
  simp -proj only [k0_pay101, pay100, trunc_up, mm_head, same_head]
  try rfl

theorem pay102 (v376 : Mat 256 256) (v462 : Mat 256 1024) (v466 : Mat 1024 1024) (v469 : Mat 256 256) :
    k0_pay102 (F := Ideal) (up2 (φ := .f32) v376) (up2 (φ := .bf16) v462) (up2 (φ := .bf16) v466) (up2 (φ := .f32) v469) = up2 (addm v376 (tmm v469 (hd 0 (mmT v462 v466)))) := by
  simp -proj only [k0_pay102, pay99, add_up, trunc_up, mm_head, transpose_256, slice_0]
  try rfl

theorem pay103 (v380 : Mat 256 256) (v462 : Mat 256 1024) (v466 : Mat 1024 1024) (v469 : Mat 256 256) (v471 : Mat 256 256) (v494 : Mat 256 256) :
    k0_pay103 (F := Ideal) (up2 (φ := .f32) v380) (up2 (φ := .bf16) v462) (up2 (φ := .bf16) v466) (up2 (φ := .f32) v469) (up2 (φ := .bf16) v471) (up2 (φ := .bf16) v494) = up2 (addm v380 (tmm (dscore v469 (mmT (hd 0 (mmT v462 v466)) v471)) v494)) := by
  simp -proj only [k0_pay103, pay100, add_up, trunc_up, mm_head, transpose_256]
  try rfl

theorem pay104 (v462 : Mat 256 1024) (v466 : Mat 1024 1024) (v500 : Mat 256 256) :
    k0_pay104 (F := Ideal) (up2 (φ := .bf16) v462) (up2 (φ := .bf16) v466) (up2 (φ := .bf16) v500) = up2 (mmT (hd 1 (mmT v462 v466)) v500) := by
  simp -proj only [k0_pay104, pay99, mmT_head, slice_1]
  try rfl

theorem pay105 (v498 : Mat 256 256) (v501 : Mat 256 256) :
    k0_pay105 (F := Ideal) (up2 (φ := .f32) v498) (up2 (φ := .f32) v501) = up2 (dscore v498 v501) := by
  simp -proj only [k0_pay105, sub_up, mul_up, rowsum_head, col_up, bcol_head, mul_16]
  try rfl

theorem pay106 (v498 : Mat 256 256) (v501 : Mat 256 256) (v511 : Mat 256 256) :
    k0_pay106 (F := Ideal) (up2 (φ := .f32) v498) (up2 (φ := .f32) v501) (up2 (φ := .bf16) v511) = up2 (mm (dscore v498 v501) v511) := by
  simp -proj only [k0_pay106, pay105, trunc_up, mm_head, same_head]
  try rfl

theorem pay107 (v403 : Mat 256 256) (v468 : Mat 256 1024) (v498 : Mat 256 256) :
    k0_pay107 (F := Ideal) (up2 (φ := .f32) v403) (up2 (φ := .bf16) v468) (up2 (φ := .f32) v498) = up2 (addm v403 (tmm v498 (hd 1 v468))) := by
  simp -proj only [k0_pay107, add_up, trunc_up, mm_head, transpose_256, slice_1]
  try rfl

theorem pay108 (v407 : Mat 256 256) (v498 : Mat 256 256) (v501 : Mat 256 256) (v523 : Mat 256 256) :
    k0_pay108 (F := Ideal) (up2 (φ := .f32) v407) (up2 (φ := .f32) v498) (up2 (φ := .f32) v501) (up2 (φ := .bf16) v523) = up2 (addm v407 (tmm (dscore v498 v501) v523)) := by
  simp -proj only [k0_pay108, pay105, add_up, trunc_up, mm_head, transpose_256]
  try rfl

theorem pay109 (v468 : Mat 256 1024) (v527 : Mat 256 256) (v529 : Mat 256 256) :
    k0_pay109 (F := Ideal) (up2 (φ := .bf16) v468) (up2 (φ := .f32) v527) (up2 (φ := .bf16) v529) = up2 (dscore v527 (mmT (hd 2 v468) v529)) := by
  simp -proj only [k0_pay109, sub_up, mul_up, mmT_head, rowsum_head, col_up, bcol_head, mul_16, slice_2]
  try rfl

theorem pay110 (v468 : Mat 256 1024) (v527 : Mat 256 256) (v529 : Mat 256 256) :
    k0_pay110 (F := Ideal) (up2 (φ := .bf16) v468) (up2 (φ := .f32) v527) (up2 (φ := .bf16) v529) = up2 (dscore v527 (mmT (hd 2 v468) v529)) := by
  simp -proj only [k0_pay110, pay109, trunc_up]
  try rfl

theorem pay111 (v539 : Mat 256 256) (v540 : Mat 256 256) :
    k0_pay111 (F := Ideal) (up2 (φ := .bf16) v539) (up2 (φ := .bf16) v540) = up2 (mm v539 v540) := by
  simp -proj only [k0_pay111, trunc_up, mm_head, same_head]
  try rfl

theorem pay112 (v430 : Mat 256 256) (v468 : Mat 256 1024) (v527 : Mat 256 256) :
    k0_pay112 (F := Ideal) (up2 (φ := .f32) v430) (up2 (φ := .bf16) v468) (up2 (φ := .f32) v527) = up2 (addm v430 (tmm v527 (hd 2 v468))) := by
  simp -proj only [k0_pay112, add_up, trunc_up, mm_head, transpose_256, slice_2]
  try rfl

theorem pay113 (v434 : Mat 256 256) (v538 : Mat 256 256) (v552 : Mat 256 256) :
    k0_pay113 (F := Ideal) (up2 (φ := .f32) v434) (up2 (φ := .f32) v538) (up2 (φ := .bf16) v552) = up2 (addm v434 (tmm v538 v552)) := by
  simp -proj only [k0_pay113, add_up, trunc_up, mm_head, transpose_256]
  try rfl

theorem pay114 (v468 : Mat 256 1024) (v556 : Mat 256 256) (v558 : Mat 256 256) :
    k0_pay114 (F := Ideal) (up2 (φ := .bf16) v468) (up2 (φ := .f32) v556) (up2 (φ := .bf16) v558) = up2 (dscore v556 (mmT (hd 3 v468) v558)) := by
  simp -proj only [k0_pay114, sub_up, mul_up, mmT_head, rowsum_head, col_up, bcol_head, mul_16, slice_3]
  try rfl

theorem pay115 (v468 : Mat 256 1024) (v556 : Mat 256 256) (v558 : Mat 256 256) (v569 : Mat 256 256) :
    k0_pay115 (F := Ideal) (up2 (φ := .bf16) v468) (up2 (φ := .f32) v556) (up2 (φ := .bf16) v558) (up2 (φ := .bf16) v569) = up2 (mm (dscore v556 (mmT (hd 3 v468) v558)) v569) := by
  simp -proj only [k0_pay115, pay114, trunc_up, mm_head, same_head]
  try rfl

theorem pay116 (v468 : Mat 256 1024) (v556 : Mat 256 256) :
    k0_pay116 (F := Ideal) (up2 (φ := .bf16) v468) (up2 (φ := .f32) v556) = up2 (tmm v556 (hd 3 v468)) := by
  simp -proj only [k0_pay116, trunc_up, mm_head, transpose_256, slice_3]
  try rfl

theorem pay117 (v457 : Mat 256 256) (v578 : Mat 256 256) :
    k0_pay117 (F := Ideal) (up2 (φ := .f32) v457) (up2 (φ := .f32) v578) = up2 (addm v457 v578) := by
  simp -proj only [k0_pay117, add_up]
  try rfl

theorem pay118 (v461 : Mat 256 256) (v567 : Mat 256 256) (v581 : Mat 256 256) :
    k0_pay118 (F := Ideal) (up2 (φ := .f32) v461) (up2 (φ := .f32) v567) (up2 (φ := .bf16) v581) = up2 (addm v461 (tmm v567 v581)) := by
  simp -proj only [k0_pay118, add_up, trunc_up, mm_head, transpose_256]
  try rfl

theorem pay119 (v496 : Mat 256 256) (v585 : Mat 256 256) :
    k0_pay119 (F := Ideal) (up2 (φ := .f32) v496) (up2 (φ := .f32) v585) = up2 (addm v585 v496) := by
  simp -proj only [k0_pay119, add_up, same_head]
  try rfl

theorem pay120 (v497 : Mat 256 256) (v589 : Mat 256 256) :
    k0_pay120 (F := Ideal) (up2 (φ := .f32) v497) (up2 (φ := .f32) v589) = up2 (addm v589 v497) := by
  simp -proj only [k0_pay120, add_up, same_head]
  try rfl

theorem pay121 (v525 : Mat 256 256) (v593 : Mat 256 256) :
    k0_pay121 (F := Ideal) (up2 (φ := .f32) v525) (up2 (φ := .f32) v593) = up2 (addm v593 v525) := by
  simp -proj only [k0_pay121, add_up, same_head]
  try rfl

theorem pay122 (v526 : Mat 256 256) (v597 : Mat 256 256) :
    k0_pay122 (F := Ideal) (up2 (φ := .f32) v526) (up2 (φ := .f32) v597) = up2 (addm v597 v526) := by
  simp -proj only [k0_pay122, add_up, same_head]
  try rfl

theorem pay123 (v554 : Mat 256 256) (v601 : Mat 256 256) :
    k0_pay123 (F := Ideal) (up2 (φ := .f32) v554) (up2 (φ := .f32) v601) = up2 (addm v601 v554) := by
  simp -proj only [k0_pay123, add_up, same_head]
  try rfl

theorem pay124 (v555 : Mat 256 256) (v605 : Mat 256 256) :
    k0_pay124 (F := Ideal) (up2 (φ := .f32) v555) (up2 (φ := .f32) v605) = up2 (addm v605 v555) := by
  simp -proj only [k0_pay124, add_up, same_head]
  try rfl

theorem pay125 (v583 : Mat 256 256) (v609 : Mat 256 256) :
    k0_pay125 (F := Ideal) (up2 (φ := .f32) v583) (up2 (φ := .f32) v609) = up2 (addm v609 v583) := by
  simp -proj only [k0_pay125, add_up, same_head]
  try rfl

theorem pay126 (v584 : Mat 256 256) (v613 : Mat 256 256) :
    k0_pay126 (F := Ideal) (up2 (φ := .f32) v584) (up2 (φ := .f32) v613) = up2 (addm v613 v584) := by
  simp -proj only [k0_pay126, add_up, same_head]
  try rfl

theorem pay127 (v617 : Mat 256 1024) :
    k0_pay127 (F := Ideal) (up2 (φ := .bf16) v617) = up3 (fun _ i j => v617 i j) := by
  simp -proj only [k0_pay127, stack_up]
  try rfl

theorem pay128 (v617 : Mat 256 1024) (v621 : Mat 1024 1024) :
    k0_pay128 (F := Ideal) (up2 (φ := .bf16) v617) (up2 (φ := .bf16) v621) = up2 (mmT v617 v621) := by
  simp -proj only [k0_pay128, mmT_wide]
  try rfl

theorem pay129 (v23 : Mat 256 1024) (v617 : Mat 256 1024) (v621 : Mat 1024 1024) :
    k0_pay129 (F := Ideal) (up2 (φ := .f32) v23) (up2 (φ := .bf16) v617) (up2 (φ := .bf16) v621) = up2 (fold8 (mulm (mmT v617 v621) v23)) := by
  simp -proj only [k0_pay129, pay128, mul_up, split8_up, sum32]
  try rfl

theorem pay130 (v3 : Mat 1 1024) (v21 : Mat 256 1) (v23 : Mat 256 1024) (v292 : Mat 256 1024) (v617 : Mat 256 1024) (v621 : Mat 1024 1024) :
    k0_pay130 (F := Ideal) (up2 (φ := .f32) v3) (up2 (φ := .f32) v21) (up2 (φ := .f32) v23) (up2 (φ := .f32) v292) (up2 (φ := .bf16) v617) (up2 (φ := .bf16) v621) = up2 (addm v292 (back (scl (mmT v617 v621) v3) v23 (fun i => v21 i 0))) := by
  simp -proj only [k0_pay130, pay128, add_up, sub_up, mul_up, trunc_up, rowsum_wide, col_up, bcol_wide, brow, div_n]
  try rfl

theorem pay131 (v639 : Mat 256 1024) :
    k0_pay131 (F := Ideal) (up2 (φ := .bf16) v639) = up3 (fun _ i j => v639 i j) := by
  simp -proj only [k0_pay131, stack_up]
  try rfl

theorem pay132 (v639 : Mat 256 1024) (v643 : Mat 2048 1024) :
    k0_pay132 (F := Ideal) (up2 (φ := .bf16) v639) (up2 (φ := .bf16) v643) = up2 (mmT v639 v643) := by
  simp -proj only [k0_pay132, trunc_up, mmT_cat]
  try rfl

theorem pay133 (v647 : Mat 256 1024) :
    k0_pay133 (F := Ideal) (up2 (φ := .bf16) v647) = up3 (fun _ i j => v647 i j) := by
  simp -proj only [k0_pay133, stack_up]
  try rfl

theorem pay134 (v647 : Mat 256 1024) (v651 : Mat 1024 1024) :
    k0_pay134 (F := Ideal) (up2 (φ := .bf16) v647) (up2 (φ := .bf16) v651) = up2 (mmT v647 v651) := by
  simp -proj only [k0_pay134, mmT_wide]
  try rfl

theorem pay135 (v54 : Mat 256 1024) (v625 : Mat 8 1024) (v647 : Mat 256 1024) (v651 : Mat 1024 1024) :
    k0_pay135 (F := Ideal) (up2 (φ := .f32) v54) (up2 (φ := .f32) v625) (up2 (φ := .bf16) v647) (up2 (φ := .bf16) v651) = up2 (addm v625 (fold8 (mulm (mmT v647 v651) v54))) := by
  simp -proj only [k0_pay135, pay134, add_up, mul_up, split8_up, sum32]
  try rfl

theorem pay136 (v3 : Mat 1 1024) (v52 : Mat 256 1) (v54 : Mat 256 1024) (v336 : Mat 256 1024) (v647 : Mat 256 1024) (v651 : Mat 1024 1024) :
    k0_pay136 (F := Ideal) (up2 (φ := .f32) v3) (up2 (φ := .f32) v52) (up2 (φ := .f32) v54) (up2 (φ := .f32) v336) (up2 (φ := .bf16) v647) (up2 (φ := .bf16) v651) = up2 (addm v336 (back (scl (mmT v647 v651) v3) v54 (fun i => v52 i 0))) := by
  simp -proj only [k0_pay136, pay134, add_up, sub_up, mul_up, trunc_up, rowsum_wide, col_up, bcol_wide, brow, div_n]
  try rfl

theorem pay137 (v3 : Mat 1 1024) (v52 : Mat 256 1) (v54 : Mat 256 1024) (v336 : Mat 256 1024) (v647 : Mat 256 1024) (v651 : Mat 1024 1024) :
    k0_pay137 (F := Ideal) (up2 (φ := .f32) v3) (up2 (φ := .f32) v52) (up2 (φ := .f32) v54) (up2 (φ := .f32) v336) (up2 (φ := .bf16) v647) (up2 (φ := .bf16) v651) = up3 (fun _ i j => (addm v336 (back (scl (mmT v647 v651) v3) v54 (fun i => v52 i 0))) i j) := by
  simp -proj only [k0_pay137, pay136, stack_up]
  try rfl

theorem pay1 (v670 : Mat 256 1024) (v674 : Mat 2048 1024) :
    k0_pay1 (F := Ideal) (up2 (φ := .bf16) v670) (up2 (φ := .bf16) v674) (constant S256x2048 .f32 0x00000000#32) = up2 (mmT v670 v674) := by
  simp -proj only [k0_pay1, trunc_up, mmT_cat]
  try rfl

theorem pay2 (v656 : Mat 8 1024) (v678 : Mat 8 1024) :
    k0_pay2 (F := Ideal) (up2 (φ := .f32) v656) (up2 (φ := .f32) v678) = up2 (addm v678 v656) := by
  simp -proj only [k0_pay2, add_up, same_8]
  try rfl

theorem pay3 (v686 : Mat 8 1024) :
    k0_pay3 (F := Ideal) (up2 (φ := .f32) v686) = up2 (sum8 v686) := by
  simp -proj only [k0_pay3, sum8_up, row_up]
  try rfl

theorem pay4 (v690 : Mat 8 1024) :
    k0_pay4 (F := Ideal) (up2 (φ := .f32) v690) = up2 (sum8 v690) := by
  simp -proj only [k0_pay4, sum8_up, row_up]
  try rfl

theorem pay5 (v694 : Mat 8 1024) :
    k0_pay5 (F := Ideal) (up2 (φ := .f32) v694) = up2 (sum8 v694) := by
  simp -proj only [k0_pay5, sum8_up, row_up]
  try rfl

theorem pay6  :
    k0_pay6 (F := Ideal)  = up2 (fun _ _ => 0) := by
  simp -proj only [k0_pay6, zero_wide]
  try rfl

theorem pay7  :
    k0_pay7 (F := Ideal)  = up2 (fun _ _ => 0) := by
  simp -proj only [k0_pay7, zero_wide]
  try rfl

theorem pay8  :
    k0_pay8 (F := Ideal)  = up2 (fun _ _ => 0) := by
  simp -proj only [k0_pay8, same_8, zero_8]
  try rfl

theorem pay9  :
    k0_pay9 (F := Ideal)  = up2 (fun _ _ => 0) := by
  simp -proj only [k0_pay9, same_8, zero_8]
  try rfl

theorem pay10  :
    k0_pay10 (F := Ideal)  = up2 (fun _ _ => 0) := by
  simp -proj only [k0_pay10, same_8, zero_8]
  try rfl

end Cert.Lift

end
-- ==== Proof.Blocks.lean ====
/- What the kernel's body loads from its blocks and from its scratch buffers, on matrices. -/
module

public import proofs.«01_k».proof.Proof.Payloads
public import Idealize.ShloMosaic.Lib.Pipeline.ValueKit
public import Idealize.ShloMosaic.Lib.Pipeline.ReadBack
public import Idealize.ShloMosaic.Lib.Ring

@[expose] public section

set_option maxRecDepth 16384

noncomputable section

namespace Cert.Spec.In

/-- The first and the last 256 rows of a block of 512. -/
def lo (I : In 512) : In 256 := I.rows fun r => ⟨0 + r.val, by omega⟩
def hi (I : In 512) : In 256 := I.rows fun r => ⟨256 + r.val, by omega⟩

end Cert.Spec.In

namespace Cert.Lift

open Idealize.ShloMosaic Idealize.SL.Sem Cert.KernelIdeal Cert.KernelIdeal.Gen Cert.Spec Cert.Reals

theorem up_idx {φ : FTy} {a b a' b' o1 o2 : ℕ} (f : Mat a b) (g : Mat a' b')
    (inb : ∀ x, (![o1, o2] : Fin 2 → ℕ) x + (![a', b'] : Fin 2 → ℕ) x ≤ (⟨2, ![a, b]⟩ : Shape).size x)
    (h : ∀ (i : Fin a') (j : Fin b') hi hj, f ⟨o1 + i, hi⟩ ⟨o2 + j, hj⟩ = g i j)
    (y : (Rect.unit (s := ⟨2, ![a, b]⟩) ![o1, o2] ![a', b'] inb).shape.Idx) :
    up2 (φ := φ) f ((Rect.unit (s := ⟨2, ![a, b]⟩) ![o1, o2] ![a', b'] inb).idx y) = up2 (φ := φ) g y := by
  have h0 := Rect.idx_unit_val (s := ⟨2, ![a, b]⟩) ![o1, o2] ![a', b'] inb y 0
  have h1 := Rect.idx_unit_val (s := ⟨2, ![a, b]⟩) ![o1, o2] ![a', b'] inb y 1
  have e0 : (Rect.unit (s := ⟨2, ![a, b]⟩) ![o1, o2] ![a', b'] inb).idx y 0 = (⟨o1 + (y 0).val, by rw [← show _ = o1 + (y 0).val from h0]; exact Fin.isLt _⟩ : Fin a) := Fin.ext h0
  have e1 : (Rect.unit (s := ⟨2, ![a, b]⟩) ![o1, o2] ![a', b'] inb).idx y 1 = (⟨o2 + (y 1).val, by rw [← show _ = o2 + (y 1).val from h1]; exact Fin.isLt _⟩ : Fin b) := Fin.ext h1
  unfold up2
  rw [e0, e1]
  exact h (y 0) (y 1) _ _

/-- A part of a lifted matrix is the lift of the part. -/
theorem ld_f32 {a b a' b' o1 o2 : ℕ} (f : Mat a b) (g : Mat a' b')
    (inb : ∀ x, (![o1, o2] : Fin 2 → ℕ) x + (![a', b'] : Fin 2 → ℕ) x ≤ (⟨2, ![a, b]⟩ : Shape).size x)
    (h : ∀ (i : Fin a') (j : Fin b') hi hj, f ⟨o1 + i, hi⟩ ⟨o2 + j, hj⟩ = g i j) :
    View.ld (Val := Elt Ideal) (e' := .f32) (S := ⟨2, ![a, b]⟩) (up2 (φ := .f32) f) (Rect.unit ![o1, o2] ![a', b'] inb) = up2 (φ := .f32) g :=
  funext fun y => up_idx f g inb h y

theorem ld_bf16 {a b a' b' o1 o2 : ℕ} (f : Mat a b) (g : Mat a' b')
    (inb : ∀ x, (![o1, o2] : Fin 2 → ℕ) x + (![a', b'] : Fin 2 → ℕ) x ≤ (⟨2, ![a, b]⟩ : Shape).size x)
    (h : ∀ (i : Fin a') (j : Fin b') hi hj, f ⟨o1 + i, hi⟩ ⟨o2 + j, hj⟩ = g i j) :
    View.ld (Val := Elt Ideal) (e' := .bf16) (S := ⟨2, ![a, b]⟩) (up2 (φ := .bf16) f) (Rect.unit ![o1, o2] ![a', b'] inb) = up2 (φ := .bf16) g :=
  funext fun y => up_idx f g inb h y

/-! The parts of the operands' blocks that the body loads. -/

section Loads

variable (I : In 512)

theorem ld_x_lo : View.ld (Val := Elt Ideal) (e' := .f32) (S := S512x1024) (up2 (φ := .f32) I.x) (Rect.unit (s := S512x1024) ![0, 0] ![256, 1024] inb_S512x1024_S256x1024_0_0) = up2 (φ := .f32) I.lo.x :=
  ld_f32 _ _ _ fun _ _ _ _ => by
    simp only [In.lo, In.hi, In.rows, hd, col, Nat.zero_add, Nat.mul_zero, Nat.mul_one, Nat.reduceMul, Fin.eta]
    try rfl

theorem ld_x_hi : View.ld (Val := Elt Ideal) (e' := .f32) (S := S512x1024) (up2 (φ := .f32) I.x) (Rect.unit (s := S512x1024) ![256, 0] ![256, 1024] inb_S512x1024_S256x1024_256_0) = up2 (φ := .f32) I.hi.x :=
  ld_f32 _ _ _ fun _ _ _ _ => by
    simp only [In.lo, In.hi, In.rows, hd, col, Nat.zero_add, Nat.mul_zero, Nat.mul_one, Nat.reduceMul, Fin.eta]
    try rfl

theorem ld_c_lo : View.ld (Val := Elt Ideal) (e' := .bf16) (S := S512x2048) (up2 (φ := .bf16) I.c) (Rect.unit (s := S512x2048) ![0, 0] ![256, 2048] inb_S512x2048_S256x2048_0_0) = up2 (φ := .bf16) I.lo.c :=
  ld_bf16 _ _ _ fun _ _ _ _ => by
    simp only [In.lo, In.hi, In.rows, hd, col, Nat.zero_add, Nat.mul_zero, Nat.mul_one, Nat.reduceMul, Fin.eta]
    try rfl

theorem ld_c_hi : View.ld (Val := Elt Ideal) (e' := .bf16) (S := S512x2048) (up2 (φ := .bf16) I.c) (Rect.unit (s := S512x2048) ![256, 0] ![256, 2048] inb_S512x2048_S256x2048_256_0) = up2 (φ := .bf16) I.hi.c :=
  ld_bf16 _ _ _ fun _ _ _ _ => by
    simp only [In.lo, In.hi, In.rows, hd, col, Nat.zero_add, Nat.mul_zero, Nat.mul_one, Nat.reduceMul, Fin.eta]
    try rfl

theorem ld_t_lo : View.ld (Val := Elt Ideal) (e' := .f32) (S := S512x1024) (up2 (φ := .f32) I.t) (Rect.unit (s := S512x1024) ![0, 0] ![256, 1024] inb_S512x1024_S256x1024_0_0) = up2 (φ := .f32) I.lo.t :=
  ld_f32 _ _ _ fun _ _ _ _ => by
    simp only [In.lo, In.hi, In.rows, hd, col, Nat.zero_add, Nat.mul_zero, Nat.mul_one, Nat.reduceMul, Fin.eta]
    try rfl

theorem ld_t_hi : View.ld (Val := Elt Ideal) (e' := .f32) (S := S512x1024) (up2 (φ := .f32) I.t) (Rect.unit (s := S512x1024) ![256, 0] ![256, 1024] inb_S512x1024_S256x1024_256_0) = up2 (φ := .f32) I.hi.t :=
  ld_f32 _ _ _ fun _ _ _ _ => by
    simp only [In.lo, In.hi, In.rows, hd, col, Nat.zero_add, Nat.mul_zero, Nat.mul_one, Nat.reduceMul, Fin.eta]
    try rfl

theorem ld_wo (f : Mat 2048 1024) : View.ld (Val := Elt Ideal) (e' := .bf16) (S := S2048x1024) (up2 (φ := .bf16) f) (Rect.unit (s := S2048x1024) ![0, 0] ![2048, 1024] inb_S2048x1024_S2048x1024_0_0) = up2 (φ := .bf16) f :=
  ld_bf16 _ _ _ fun _ _ _ _ => by
    simp only [In.lo, In.hi, In.rows, hd, col, Nat.zero_add, Nat.mul_zero, Nat.mul_one, Nat.reduceMul, Fin.eta]
    try rfl

theorem ld_w (f : Mat 1024 1024) : View.ld (Val := Elt Ideal) (e' := .bf16) (S := S1024x1024) (up2 (φ := .bf16) f) (Rect.unit (s := S1024x1024) ![0, 0] ![1024, 1024] inb_S1024x1024_S1024x1024_0_0) = up2 (φ := .bf16) f :=
  ld_bf16 _ _ _ fun _ _ _ _ => by
    simp only [In.lo, In.hi, In.rows, hd, col, Nat.zero_add, Nat.mul_zero, Nat.mul_one, Nat.reduceMul, Fin.eta]
    try rfl

theorem ld_g (f : Mat 1 1024) : View.ld (Val := Elt Ideal) (e' := .f32) (S := S1x1024) (up2 (φ := .f32) f) (Rect.unit (s := S1x1024) ![0, 0] ![1, 1024] inb_S1x1024_S1x1024_0_0) = up2 (φ := .f32) f :=
  ld_f32 _ _ _ fun _ _ _ _ => by
    simp only [In.lo, In.hi, In.rows, hd, col, Nat.zero_add, Nat.mul_zero, Nat.mul_one, Nat.reduceMul, Fin.eta]
    try rfl

theorem ld_hd0 (f : Mat 256 1024) : View.ld (Val := Elt Ideal) (e' := .bf16) (S := S256x1024) (up2 (φ := .bf16) f) (Rect.unit ![0, 0] ![256, 256] inb_S256x1024_S256x256_0_0) = up2 (φ := .bf16) (hd 0 f) :=
  ld_bf16 _ _ _ fun _ _ _ _ => congrArg₂ f (Fin.ext (Nat.zero_add _)) rfl

theorem ld_hd0f (f : Mat 256 1024) : View.ld (Val := Elt Ideal) (e' := .f32) (S := S256x1024) (up2 (φ := .f32) f) (Rect.unit ![0, 0] ![256, 256] inb_S256x1024_S256x256_0_0) = up2 (φ := .f32) (hd 0 f) :=
  ld_f32 _ _ _ fun _ _ _ _ => congrArg₂ f (Fin.ext (Nat.zero_add _)) rfl

theorem ld_hd1 (f : Mat 256 1024) : View.ld (Val := Elt Ideal) (e' := .bf16) (S := S256x1024) (up2 (φ := .bf16) f) (Rect.unit ![0, 256] ![256, 256] inb_S256x1024_S256x256_0_256) = up2 (φ := .bf16) (hd 1 f) :=
  ld_bf16 _ _ _ fun _ _ _ _ => congrArg₂ f (Fin.ext (Nat.zero_add _)) rfl

theorem ld_hd1f (f : Mat 256 1024) : View.ld (Val := Elt Ideal) (e' := .f32) (S := S256x1024) (up2 (φ := .f32) f) (Rect.unit ![0, 256] ![256, 256] inb_S256x1024_S256x256_0_256) = up2 (φ := .f32) (hd 1 f) :=
  ld_f32 _ _ _ fun _ _ _ _ => congrArg₂ f (Fin.ext (Nat.zero_add _)) rfl

theorem ld_hd2 (f : Mat 256 1024) : View.ld (Val := Elt Ideal) (e' := .bf16) (S := S256x1024) (up2 (φ := .bf16) f) (Rect.unit ![0, 512] ![256, 256] inb_S256x1024_S256x256_0_512) = up2 (φ := .bf16) (hd 2 f) :=
  ld_bf16 _ _ _ fun _ _ _ _ => congrArg₂ f (Fin.ext (Nat.zero_add _)) rfl

theorem ld_hd2f (f : Mat 256 1024) : View.ld (Val := Elt Ideal) (e' := .f32) (S := S256x1024) (up2 (φ := .f32) f) (Rect.unit ![0, 512] ![256, 256] inb_S256x1024_S256x256_0_512) = up2 (φ := .f32) (hd 2 f) :=
  ld_f32 _ _ _ fun _ _ _ _ => congrArg₂ f (Fin.ext (Nat.zero_add _)) rfl

theorem ld_hd3 (f : Mat 256 1024) : View.ld (Val := Elt Ideal) (e' := .bf16) (S := S256x1024) (up2 (φ := .bf16) f) (Rect.unit ![0, 768] ![256, 256] inb_S256x1024_S256x256_0_768) = up2 (φ := .bf16) (hd 3 f) :=
  ld_bf16 _ _ _ fun _ _ _ _ => congrArg₂ f (Fin.ext (Nat.zero_add _)) rfl

theorem ld_hd3f (f : Mat 256 1024) : View.ld (Val := Elt Ideal) (e' := .f32) (S := S256x1024) (up2 (φ := .f32) f) (Rect.unit ![0, 768] ![256, 256] inb_S256x1024_S256x256_0_768) = up2 (φ := .f32) (hd 3 f) :=
  ld_f32 _ _ _ fun _ _ _ _ => congrArg₂ f (Fin.ext (Nat.zero_add _)) rfl

theorem ld_8 (f : Mat 8 1024) : View.ld (Val := Elt Ideal) (e' := .f32) (S := S8x1024) (up2 (φ := .f32) f) (Rect.unit ![0, 0] ![8, 1024] inb_S8x1024_S8x1024_0_0) = up2 (φ := .f32) f :=
  ld_f32 _ _ _ fun _ _ _ _ => by
    simp only [In.lo, In.hi, In.rows, hd, col, Nat.zero_add, Nat.mul_zero, Nat.mul_one, Nat.reduceMul, Fin.eta]
    try rfl

/-! The scratch buffers: what the two halves and the four heads store, and the parts read back. -/

/-- The queries' buffer. -/
def qL : List (View.Piece (Elt Ideal) S512x1024 .bf16) :=
  [⟨Rect.unit ![256, 0] ![256, 1024] inb_S512x1024_S256x1024_256_0, up2 (φ := .bf16) I.hi.q⟩,
   ⟨Rect.unit ![0, 0] ![256, 1024] inb_S512x1024_S256x1024_0_0, up2 (φ := .bf16) I.lo.q⟩]

theorem canon_qL : View.canon (qL I) = up2 (φ := .bf16) I.q := by
  funext y
  refine View.canon_apply_of_pieces _ _ (View.PiecesOf.mem (L := qL I) ⟨fun x => ?_, fun x => ?_, trivial⟩) y (View.cover_of_tiledL _ ![256, 1024] (by sl_kernel_rfl) y)
  · exact (up_idx I.q I.hi.q inb_S512x1024_S256x1024_256_0 (fun _ _ _ _ => congrArg (I.q _) (Fin.ext (Nat.zero_add _))) x).symm
  · exact (up_idx I.q I.lo.q inb_S512x1024_S256x1024_0_0 (fun _ _ _ _ => congrArg (I.q _) (Fin.ext (Nat.zero_add _))) x).symm

/-- The probabilities' buffer. -/
def pL : List (View.Piece (Elt Ideal) S512x1024 .f32) :=
  [⟨Rect.unit ![256, 768] ![256, 256] inb_S512x1024_S256x256_256_768, up2 (φ := .f32) (I.hi.p 3)⟩,
   ⟨Rect.unit ![256, 512] ![256, 256] inb_S512x1024_S256x256_256_512, up2 (φ := .f32) (I.hi.p 2)⟩,
   ⟨Rect.unit ![256, 256] ![256, 256] inb_S512x1024_S256x256_256_256, up2 (φ := .f32) (I.hi.p 1)⟩,
   ⟨Rect.unit ![256, 0] ![256, 256] inb_S512x1024_S256x256_256_0, up2 (φ := .f32) (I.hi.p 0)⟩,
   ⟨Rect.unit ![0, 768] ![256, 256] inb_S512x1024_S256x256_0_768, up2 (φ := .f32) (I.lo.p 3)⟩,
   ⟨Rect.unit ![0, 512] ![256, 256] inb_S512x1024_S256x256_0_512, up2 (φ := .f32) (I.lo.p 2)⟩,
   ⟨Rect.unit ![0, 256] ![256, 256] inb_S512x1024_S256x256_0_256, up2 (φ := .f32) (I.lo.p 1)⟩,
   ⟨Rect.unit ![0, 0] ![256, 256] inb_S512x1024_S256x256_0_0, up2 (φ := .f32) (I.lo.p 0)⟩]

theorem canon_pL : View.canon (pL I) = up2 (φ := .f32) (cat4 I.p) := by
  funext y
  refine View.canon_apply_of_pieces _ _ (View.PiecesOf.mem (L := pL I) ⟨fun x => ?_, fun x => ?_, fun x => ?_, fun x => ?_, fun x => ?_, fun x => ?_, fun x => ?_, fun x => ?_, trivial⟩) y (View.cover_of_tiledL _ ![256, 256] (by sl_kernel_rfl) y)
  · exact (up_idx (cat4 I.p) (I.hi.p 3) inb_S512x1024_S256x256_256_768 (fun i j _ _ => congrFun (congrFun (hd_cat4 (I.p) 3) _) j) x).symm
  · exact (up_idx (cat4 I.p) (I.hi.p 2) inb_S512x1024_S256x256_256_512 (fun i j _ _ => congrFun (congrFun (hd_cat4 (I.p) 2) _) j) x).symm
  · exact (up_idx (cat4 I.p) (I.hi.p 1) inb_S512x1024_S256x256_256_256 (fun i j _ _ => congrFun (congrFun (hd_cat4 (I.p) 1) _) j) x).symm
  · exact (up_idx (cat4 I.p) (I.hi.p 0) inb_S512x1024_S256x256_256_0 (fun i j _ _ => congrFun (congrFun (hd_cat4 (I.p) 0) _) j) x).symm
  · exact (up_idx (cat4 I.p) (I.lo.p 3) inb_S512x1024_S256x256_0_768 (fun i j _ _ => congrFun (congrFun (hd_cat4 (I.p) 3) _) j) x).symm
  · exact (up_idx (cat4 I.p) (I.lo.p 2) inb_S512x1024_S256x256_0_512 (fun i j _ _ => congrFun (congrFun (hd_cat4 (I.p) 2) _) j) x).symm
  · exact (up_idx (cat4 I.p) (I.lo.p 1) inb_S512x1024_S256x256_0_256 (fun i j _ _ => congrFun (congrFun (hd_cat4 (I.p) 1) _) j) x).symm
  · exact (up_idx (cat4 I.p) (I.lo.p 0) inb_S512x1024_S256x256_0_0 (fun i j _ _ => congrFun (congrFun (hd_cat4 (I.p) 0) _) j) x).symm

/-- The heads' outputs. -/
def oL : List (View.Piece (Elt Ideal) S512x1024 .f32) :=
  [⟨Rect.unit ![256, 768] ![256, 256] inb_S512x1024_S256x256_256_768, up2 (φ := .f32) (mm (I.hi.p 3) (hd 3 I.hi.v))⟩,
   ⟨Rect.unit ![256, 512] ![256, 256] inb_S512x1024_S256x256_256_512, up2 (φ := .f32) (mm (I.hi.p 2) (hd 2 I.hi.v))⟩,
   ⟨Rect.unit ![256, 256] ![256, 256] inb_S512x1024_S256x256_256_256, up2 (φ := .f32) (mm (I.hi.p 1) (hd 1 I.hi.v))⟩,
   ⟨Rect.unit ![256, 0] ![256, 256] inb_S512x1024_S256x256_256_0, up2 (φ := .f32) (mm (I.hi.p 0) (hd 0 I.hi.v))⟩,
   ⟨Rect.unit ![0, 768] ![256, 256] inb_S512x1024_S256x256_0_768, up2 (φ := .f32) (mm (I.lo.p 3) (hd 3 I.lo.v))⟩,
   ⟨Rect.unit ![0, 512] ![256, 256] inb_S512x1024_S256x256_0_512, up2 (φ := .f32) (mm (I.lo.p 2) (hd 2 I.lo.v))⟩,
   ⟨Rect.unit ![0, 256] ![256, 256] inb_S512x1024_S256x256_0_256, up2 (φ := .f32) (mm (I.lo.p 1) (hd 1 I.lo.v))⟩,
   ⟨Rect.unit ![0, 0] ![256, 256] inb_S512x1024_S256x256_0_0, up2 (φ := .f32) (mm (I.lo.p 0) (hd 0 I.lo.v))⟩]

theorem canon_oL : View.canon (oL I) = up2 (φ := .f32) I.o := by
  funext y
  refine View.canon_apply_of_pieces _ _ (View.PiecesOf.mem (L := oL I) ⟨fun x => ?_, fun x => ?_, fun x => ?_, fun x => ?_, fun x => ?_, fun x => ?_, fun x => ?_, fun x => ?_, trivial⟩) y (View.cover_of_tiledL _ ![256, 256] (by sl_kernel_rfl) y)
  · exact (up_idx I.o (mm (I.hi.p 3) (hd 3 I.hi.v)) inb_S512x1024_S256x256_256_768 (fun i j _ _ => congrFun (congrFun (hd_cat4 (fun h => mm (I.p h) (hd h I.v)) 3) _) j) x).symm
  · exact (up_idx I.o (mm (I.hi.p 2) (hd 2 I.hi.v)) inb_S512x1024_S256x256_256_512 (fun i j _ _ => congrFun (congrFun (hd_cat4 (fun h => mm (I.p h) (hd h I.v)) 2) _) j) x).symm
  · exact (up_idx I.o (mm (I.hi.p 1) (hd 1 I.hi.v)) inb_S512x1024_S256x256_256_256 (fun i j _ _ => congrFun (congrFun (hd_cat4 (fun h => mm (I.p h) (hd h I.v)) 1) _) j) x).symm
  · exact (up_idx I.o (mm (I.hi.p 0) (hd 0 I.hi.v)) inb_S512x1024_S256x256_256_0 (fun i j _ _ => congrFun (congrFun (hd_cat4 (fun h => mm (I.p h) (hd h I.v)) 0) _) j) x).symm
  · exact (up_idx I.o (mm (I.lo.p 3) (hd 3 I.lo.v)) inb_S512x1024_S256x256_0_768 (fun i j _ _ => congrFun (congrFun (hd_cat4 (fun h => mm (I.p h) (hd h I.v)) 3) _) j) x).symm
  · exact (up_idx I.o (mm (I.lo.p 2) (hd 2 I.lo.v)) inb_S512x1024_S256x256_0_512 (fun i j _ _ => congrFun (congrFun (hd_cat4 (fun h => mm (I.p h) (hd h I.v)) 2) _) j) x).symm
  · exact (up_idx I.o (mm (I.lo.p 1) (hd 1 I.lo.v)) inb_S512x1024_S256x256_0_256 (fun i j _ _ => congrFun (congrFun (hd_cat4 (fun h => mm (I.p h) (hd h I.v)) 1) _) j) x).symm
  · exact (up_idx I.o (mm (I.lo.p 0) (hd 0 I.lo.v)) inb_S512x1024_S256x256_0_0 (fun i j _ _ => congrFun (congrFun (hd_cat4 (fun h => mm (I.p h) (hd h I.v)) 0) _) j) x).symm

/-- The cotangent of the queries. -/
def dqL : List (View.Piece (Elt Ideal) S512x1024 .bf16) :=
  [⟨Rect.unit ![256, 768] ![256, 256] inb_S512x1024_S256x256_256_768, up2 (φ := .bf16) (mm (I.hi.ds 3) (hd 3 I.hi.k))⟩,
   ⟨Rect.unit ![256, 512] ![256, 256] inb_S512x1024_S256x256_256_512, up2 (φ := .bf16) (mm (I.hi.ds 2) (hd 2 I.hi.k))⟩,
   ⟨Rect.unit ![256, 256] ![256, 256] inb_S512x1024_S256x256_256_256, up2 (φ := .bf16) (mm (I.hi.ds 1) (hd 1 I.hi.k))⟩,
   ⟨Rect.unit ![256, 0] ![256, 256] inb_S512x1024_S256x256_256_0, up2 (φ := .bf16) (mm (I.hi.ds 0) (hd 0 I.hi.k))⟩,
   ⟨Rect.unit ![0, 768] ![256, 256] inb_S512x1024_S256x256_0_768, up2 (φ := .bf16) (mm (I.lo.ds 3) (hd 3 I.lo.k))⟩,
   ⟨Rect.unit ![0, 512] ![256, 256] inb_S512x1024_S256x256_0_512, up2 (φ := .bf16) (mm (I.lo.ds 2) (hd 2 I.lo.k))⟩,
   ⟨Rect.unit ![0, 256] ![256, 256] inb_S512x1024_S256x256_0_256, up2 (φ := .bf16) (mm (I.lo.ds 1) (hd 1 I.lo.k))⟩,
   ⟨Rect.unit ![0, 0] ![256, 256] inb_S512x1024_S256x256_0_0, up2 (φ := .bf16) (mm (I.lo.ds 0) (hd 0 I.lo.k))⟩]

theorem canon_dqL : View.canon (dqL I) = up2 (φ := .bf16) I.dq := by
  funext y
  refine View.canon_apply_of_pieces _ _ (View.PiecesOf.mem (L := dqL I) ⟨fun x => ?_, fun x => ?_, fun x => ?_, fun x => ?_, fun x => ?_, fun x => ?_, fun x => ?_, fun x => ?_, trivial⟩) y (View.cover_of_tiledL _ ![256, 256] (by sl_kernel_rfl) y)
  · exact (up_idx I.dq (mm (I.hi.ds 3) (hd 3 I.hi.k)) inb_S512x1024_S256x256_256_768 (fun i j _ _ => congrFun (congrFun (hd_cat4 (fun h => mm (I.ds h) (hd h I.k)) 3) _) j) x).symm
  · exact (up_idx I.dq (mm (I.hi.ds 2) (hd 2 I.hi.k)) inb_S512x1024_S256x256_256_512 (fun i j _ _ => congrFun (congrFun (hd_cat4 (fun h => mm (I.ds h) (hd h I.k)) 2) _) j) x).symm
  · exact (up_idx I.dq (mm (I.hi.ds 1) (hd 1 I.hi.k)) inb_S512x1024_S256x256_256_256 (fun i j _ _ => congrFun (congrFun (hd_cat4 (fun h => mm (I.ds h) (hd h I.k)) 1) _) j) x).symm
  · exact (up_idx I.dq (mm (I.hi.ds 0) (hd 0 I.hi.k)) inb_S512x1024_S256x256_256_0 (fun i j _ _ => congrFun (congrFun (hd_cat4 (fun h => mm (I.ds h) (hd h I.k)) 0) _) j) x).symm
  · exact (up_idx I.dq (mm (I.lo.ds 3) (hd 3 I.lo.k)) inb_S512x1024_S256x256_0_768 (fun i j _ _ => congrFun (congrFun (hd_cat4 (fun h => mm (I.ds h) (hd h I.k)) 3) _) j) x).symm
  · exact (up_idx I.dq (mm (I.lo.ds 2) (hd 2 I.lo.k)) inb_S512x1024_S256x256_0_512 (fun i j _ _ => congrFun (congrFun (hd_cat4 (fun h => mm (I.ds h) (hd h I.k)) 2) _) j) x).symm
  · exact (up_idx I.dq (mm (I.lo.ds 1) (hd 1 I.lo.k)) inb_S512x1024_S256x256_0_256 (fun i j _ _ => congrFun (congrFun (hd_cat4 (fun h => mm (I.ds h) (hd h I.k)) 1) _) j) x).symm
  · exact (up_idx I.dq (mm (I.lo.ds 0) (hd 0 I.lo.k)) inb_S512x1024_S256x256_0_0 (fun i j _ _ => congrFun (congrFun (hd_cat4 (fun h => mm (I.ds h) (hd h I.k)) 0) _) j) x).symm

variable {κ : Kind} {sp : Space}

theorem rd_q_lo0 (v : View sig κ sp S512x1024 .bf16) : v.readCov (qL I) (Rect.unit (s := S512x1024) ![0, 0] ![256, 256] inb_S512x1024_S256x256_0_0).toLoadRect = up2 (φ := .bf16) (hd 0 I.lo.q) := by
  rw [View.readCov_eq_canon', canon_qL]
  exact funext fun y => up_idx I.q (hd 0 I.lo.q) inb_S512x1024_S256x256_0_0 (fun i j _ _ => rfl) y

theorem rd_q_lo1 (v : View sig κ sp S512x1024 .bf16) : v.readCov (qL I) (Rect.unit (s := S512x1024) ![0, 256] ![256, 256] inb_S512x1024_S256x256_0_256).toLoadRect = up2 (φ := .bf16) (hd 1 I.lo.q) := by
  rw [View.readCov_eq_canon', canon_qL]
  exact funext fun y => up_idx I.q (hd 1 I.lo.q) inb_S512x1024_S256x256_0_256 (fun i j _ _ => rfl) y

theorem rd_q_lo2 (v : View sig κ sp S512x1024 .bf16) : v.readCov (qL I) (Rect.unit (s := S512x1024) ![0, 512] ![256, 256] inb_S512x1024_S256x256_0_512).toLoadRect = up2 (φ := .bf16) (hd 2 I.lo.q) := by
  rw [View.readCov_eq_canon', canon_qL]
  exact funext fun y => up_idx I.q (hd 2 I.lo.q) inb_S512x1024_S256x256_0_512 (fun i j _ _ => rfl) y

theorem rd_q_lo3 (v : View sig κ sp S512x1024 .bf16) : v.readCov (qL I) (Rect.unit (s := S512x1024) ![0, 768] ![256, 256] inb_S512x1024_S256x256_0_768).toLoadRect = up2 (φ := .bf16) (hd 3 I.lo.q) := by
  rw [View.readCov_eq_canon', canon_qL]
  exact funext fun y => up_idx I.q (hd 3 I.lo.q) inb_S512x1024_S256x256_0_768 (fun i j _ _ => rfl) y

theorem rd_q_hi0 (v : View sig κ sp S512x1024 .bf16) : v.readCov (qL I) (Rect.unit (s := S512x1024) ![256, 0] ![256, 256] inb_S512x1024_S256x256_256_0).toLoadRect = up2 (φ := .bf16) (hd 0 I.hi.q) := by
  rw [View.readCov_eq_canon', canon_qL]
  exact funext fun y => up_idx I.q (hd 0 I.hi.q) inb_S512x1024_S256x256_256_0 (fun i j _ _ => rfl) y

theorem rd_q_hi1 (v : View sig κ sp S512x1024 .bf16) : v.readCov (qL I) (Rect.unit (s := S512x1024) ![256, 256] ![256, 256] inb_S512x1024_S256x256_256_256).toLoadRect = up2 (φ := .bf16) (hd 1 I.hi.q) := by
  rw [View.readCov_eq_canon', canon_qL]
  exact funext fun y => up_idx I.q (hd 1 I.hi.q) inb_S512x1024_S256x256_256_256 (fun i j _ _ => rfl) y

theorem rd_q_hi2 (v : View sig κ sp S512x1024 .bf16) : v.readCov (qL I) (Rect.unit (s := S512x1024) ![256, 512] ![256, 256] inb_S512x1024_S256x256_256_512).toLoadRect = up2 (φ := .bf16) (hd 2 I.hi.q) := by
  rw [View.readCov_eq_canon', canon_qL]
  exact funext fun y => up_idx I.q (hd 2 I.hi.q) inb_S512x1024_S256x256_256_512 (fun i j _ _ => rfl) y

theorem rd_q_hi3 (v : View sig κ sp S512x1024 .bf16) : v.readCov (qL I) (Rect.unit (s := S512x1024) ![256, 768] ![256, 256] inb_S512x1024_S256x256_256_768).toLoadRect = up2 (φ := .bf16) (hd 3 I.hi.q) := by
  rw [View.readCov_eq_canon', canon_qL]
  exact funext fun y => up_idx I.q (hd 3 I.hi.q) inb_S512x1024_S256x256_256_768 (fun i j _ _ => rfl) y

theorem rd_p_lo0 (v : View sig κ sp S512x1024 .f32) : v.readCov (pL I) (Rect.unit (s := S512x1024) ![0, 0] ![256, 256] inb_S512x1024_S256x256_0_0).toLoadRect = up2 (φ := .f32) (I.lo.p 0) := by
  rw [View.readCov_eq_canon', canon_pL]
  exact funext fun y => up_idx (cat4 I.p) (I.lo.p 0) inb_S512x1024_S256x256_0_0 (fun i j _ _ => congrFun (congrFun (hd_cat4 I.p 0) _) j) y

theorem rd_p_lo1 (v : View sig κ sp S512x1024 .f32) : v.readCov (pL I) (Rect.unit (s := S512x1024) ![0, 256] ![256, 256] inb_S512x1024_S256x256_0_256).toLoadRect = up2 (φ := .f32) (I.lo.p 1) := by
  rw [View.readCov_eq_canon', canon_pL]
  exact funext fun y => up_idx (cat4 I.p) (I.lo.p 1) inb_S512x1024_S256x256_0_256 (fun i j _ _ => congrFun (congrFun (hd_cat4 I.p 1) _) j) y

theorem rd_p_lo2 (v : View sig κ sp S512x1024 .f32) : v.readCov (pL I) (Rect.unit (s := S512x1024) ![0, 512] ![256, 256] inb_S512x1024_S256x256_0_512).toLoadRect = up2 (φ := .f32) (I.lo.p 2) := by
  rw [View.readCov_eq_canon', canon_pL]
  exact funext fun y => up_idx (cat4 I.p) (I.lo.p 2) inb_S512x1024_S256x256_0_512 (fun i j _ _ => congrFun (congrFun (hd_cat4 I.p 2) _) j) y

theorem rd_p_lo3 (v : View sig κ sp S512x1024 .f32) : v.readCov (pL I) (Rect.unit (s := S512x1024) ![0, 768] ![256, 256] inb_S512x1024_S256x256_0_768).toLoadRect = up2 (φ := .f32) (I.lo.p 3) := by
  rw [View.readCov_eq_canon', canon_pL]
  exact funext fun y => up_idx (cat4 I.p) (I.lo.p 3) inb_S512x1024_S256x256_0_768 (fun i j _ _ => congrFun (congrFun (hd_cat4 I.p 3) _) j) y

theorem rd_p_hi0 (v : View sig κ sp S512x1024 .f32) : v.readCov (pL I) (Rect.unit (s := S512x1024) ![256, 0] ![256, 256] inb_S512x1024_S256x256_256_0).toLoadRect = up2 (φ := .f32) (I.hi.p 0) := by
  rw [View.readCov_eq_canon', canon_pL]
  exact funext fun y => up_idx (cat4 I.p) (I.hi.p 0) inb_S512x1024_S256x256_256_0 (fun i j _ _ => congrFun (congrFun (hd_cat4 I.p 0) _) j) y

theorem rd_p_hi1 (v : View sig κ sp S512x1024 .f32) : v.readCov (pL I) (Rect.unit (s := S512x1024) ![256, 256] ![256, 256] inb_S512x1024_S256x256_256_256).toLoadRect = up2 (φ := .f32) (I.hi.p 1) := by
  rw [View.readCov_eq_canon', canon_pL]
  exact funext fun y => up_idx (cat4 I.p) (I.hi.p 1) inb_S512x1024_S256x256_256_256 (fun i j _ _ => congrFun (congrFun (hd_cat4 I.p 1) _) j) y

theorem rd_p_hi2 (v : View sig κ sp S512x1024 .f32) : v.readCov (pL I) (Rect.unit (s := S512x1024) ![256, 512] ![256, 256] inb_S512x1024_S256x256_256_512).toLoadRect = up2 (φ := .f32) (I.hi.p 2) := by
  rw [View.readCov_eq_canon', canon_pL]
  exact funext fun y => up_idx (cat4 I.p) (I.hi.p 2) inb_S512x1024_S256x256_256_512 (fun i j _ _ => congrFun (congrFun (hd_cat4 I.p 2) _) j) y

theorem rd_p_hi3 (v : View sig κ sp S512x1024 .f32) : v.readCov (pL I) (Rect.unit (s := S512x1024) ![256, 768] ![256, 256] inb_S512x1024_S256x256_256_768).toLoadRect = up2 (φ := .f32) (I.hi.p 3) := by
  rw [View.readCov_eq_canon', canon_pL]
  exact funext fun y => up_idx (cat4 I.p) (I.hi.p 3) inb_S512x1024_S256x256_256_768 (fun i j _ _ => congrFun (congrFun (hd_cat4 I.p 3) _) j) y

theorem rd_o_lo (v : View sig κ sp S512x1024 .f32) : v.readCov (oL I) (Rect.unit (s := S512x1024) ![0, 0] ![256, 1024] inb_S512x1024_S256x1024_0_0).toLoadRect = up2 (φ := .f32) I.lo.o := by
  rw [View.readCov_eq_canon', canon_oL]
  exact funext fun y => up_idx I.o I.lo.o inb_S512x1024_S256x1024_0_0 (fun i j _ _ => congrArg (I.o _) (Fin.ext (Nat.zero_add _))) y

theorem rd_o_hi (v : View sig κ sp S512x1024 .f32) : v.readCov (oL I) (Rect.unit (s := S512x1024) ![256, 0] ![256, 1024] inb_S512x1024_S256x1024_256_0).toLoadRect = up2 (φ := .f32) I.hi.o := by
  rw [View.readCov_eq_canon', canon_oL]
  exact funext fun y => up_idx I.o I.hi.o inb_S512x1024_S256x1024_256_0 (fun i j _ _ => congrArg (I.o _) (Fin.ext (Nat.zero_add _))) y

theorem rd_dq_lo (v : View sig κ sp S512x1024 .bf16) : v.readCov (dqL I) (Rect.unit (s := S512x1024) ![0, 0] ![256, 1024] inb_S512x1024_S256x1024_0_0).toLoadRect = up2 (φ := .bf16) I.lo.dq := by
  rw [View.readCov_eq_canon', canon_dqL]
  exact funext fun y => up_idx I.dq I.lo.dq inb_S512x1024_S256x1024_0_0 (fun i j _ _ => congrArg (I.dq _) (Fin.ext (Nat.zero_add _))) y

theorem rd_dq_hi (v : View sig κ sp S512x1024 .bf16) : v.readCov (dqL I) (Rect.unit (s := S512x1024) ![256, 0] ![256, 1024] inb_S512x1024_S256x1024_256_0).toLoadRect = up2 (φ := .bf16) I.hi.dq := by
  rw [View.readCov_eq_canon', canon_dqL]
  exact funext fun y => up_idx I.dq I.hi.dq inb_S512x1024_S256x1024_256_0 (fun i j _ _ => congrArg (I.dq _) (Fin.ext (Nat.zero_add _))) y

end Loads

end Cert.Lift

end
-- ==== Proof.Stores.lean ====
/- What the body's last stores leave in each of its buffers, on matrices. -/
module

public import proofs.«01_k».proof.Proof.Blocks

@[expose] public section

set_option maxRecDepth 16384

noncomputable section

namespace Cert.Lift

open Idealize.ShloMosaic Idealize.SL.Sem Cert.KernelIdeal Cert.KernelIdeal.Gen Cert.Spec Cert.Reals

/-- A stack of lifted matrices read inside one plane's rectangle. -/
theorem up_idx3 {φ : FTy} {s a b a' b' o0 o1 o2 : ℕ} (f : Fin s → Mat a b) (g : Fin 1 → Mat a' b')
    (inb : ∀ x, (![o0, o1, o2] : Fin 3 → ℕ) x + (![1, a', b'] : Fin 3 → ℕ) x ≤ (⟨3, ![s, a, b]⟩ : Shape).size x)
    (h : ∀ (l : Fin 1) (i : Fin a') (j : Fin b') hl hi hj, f ⟨o0 + l, hl⟩ ⟨o1 + i, hi⟩ ⟨o2 + j, hj⟩ = g l i j)
    (y : (Rect.unit (s := ⟨3, ![s, a, b]⟩) ![o0, o1, o2] ![1, a', b'] inb).shape.Idx) :
    up3 (φ := φ) f ((Rect.unit (s := ⟨3, ![s, a, b]⟩) ![o0, o1, o2] ![1, a', b'] inb).idx y) = up3 (φ := φ) g y := by
  have h0 := Rect.idx_unit_val (s := ⟨3, ![s, a, b]⟩) ![o0, o1, o2] ![1, a', b'] inb y 0
  have h1 := Rect.idx_unit_val (s := ⟨3, ![s, a, b]⟩) ![o0, o1, o2] ![1, a', b'] inb y 1
  have h2 := Rect.idx_unit_val (s := ⟨3, ![s, a, b]⟩) ![o0, o1, o2] ![1, a', b'] inb y 2
  have e0 : (Rect.unit (s := ⟨3, ![s, a, b]⟩) ![o0, o1, o2] ![1, a', b'] inb).idx y 0 = (⟨o0 + (y 0).val, by rw [← show _ = o0 + (y 0).val from h0]; exact Fin.isLt _⟩ : Fin s) := Fin.ext h0
  have e1 : (Rect.unit (s := ⟨3, ![s, a, b]⟩) ![o0, o1, o2] ![1, a', b'] inb).idx y 1 = (⟨o1 + (y 1).val, by rw [← show _ = o1 + (y 1).val from h1]; exact Fin.isLt _⟩ : Fin a) := Fin.ext h1
  have e2 : (Rect.unit (s := ⟨3, ![s, a, b]⟩) ![o0, o1, o2] ![1, a', b'] inb).idx y 2 = (⟨o2 + (y 2).val, by rw [← show _ = o2 + (y 2).val from h2]; exact Fin.isLt _⟩ : Fin b) := Fin.ext h2
  unfold up3
  rw [e0, e1, e2]
  exact h (y 0) (y 1) (y 2) _ _ _

variable (I : In 512)

/-- The cotangent of the mixer's output, by halves. -/
def dcatL : List (View.Piece (Elt Ideal) S512x2048 .bf16) :=
  [⟨Rect.unit ![256, 0] ![256, 2048] inb_S512x2048_S256x2048_256_0, up2 (φ := .bf16) I.hi.dcat⟩,
   ⟨Rect.unit ![0, 0] ![256, 2048] inb_S512x2048_S256x2048_0_0, up2 (φ := .bf16) I.lo.dcat⟩]

theorem canon_dcatL : View.canon (dcatL I) = up2 (φ := .bf16) I.dcat := by
  funext y
  refine View.canon_apply_of_pieces _ _ (View.PiecesOf.mem (L := dcatL I) ⟨fun x => ?_, fun x => ?_, trivial⟩) y (View.cover_of_tiledL _ ![256, 2048] (by sl_kernel_rfl) y)
  · exact (up_idx I.dcat I.hi.dcat inb_S512x2048_S256x2048_256_0 (fun _ _ _ _ => congrArg (I.dcat _) (Fin.ext (Nat.zero_add _))) x).symm
  · exact (up_idx I.dcat I.lo.dcat inb_S512x2048_S256x2048_0_0 (fun _ _ _ _ => congrArg (I.dcat _) (Fin.ext (Nat.zero_add _))) x).symm

/-- The transposed activations. -/
def acttL : List (View.Piece (Elt Ideal) S4096x512 .bf16) :=
  [⟨Rect.unit ![3072, 256] ![1024, 256] inb_S4096x512_S1024x256_3072_256, up2 (φ := .bf16) (fun i j => I.hi.o j i)⟩,
   ⟨Rect.unit ![3072, 0] ![1024, 256] inb_S4096x512_S1024x256_3072_0, up2 (φ := .bf16) (fun i j => I.lo.o j i)⟩,
   ⟨Rect.unit ![2048, 256] ![1024, 256] inb_S4096x512_S1024x256_2048_256, up2 (φ := .bf16) (fun i j => I.hi.h2 j i)⟩,
   ⟨Rect.unit ![0, 256] ![2048, 256] inb_S4096x512_S2048x256_0_256, up2 (φ := .bf16) (fun i j => I.hi.c j i)⟩,
   ⟨Rect.unit ![2048, 0] ![1024, 256] inb_S4096x512_S1024x256_2048_0, up2 (φ := .bf16) (fun i j => I.lo.h2 j i)⟩,
   ⟨Rect.unit ![0, 0] ![2048, 256] inb_S4096x512_S2048x256_0_0, up2 (φ := .bf16) (fun i j => I.lo.c j i)⟩]

theorem canon_acttL : View.canon (acttL I) = up2 (φ := .bf16) I.actt := by
  funext y
  refine View.canon_apply_of_pieces _ _ (View.PiecesOf.mem (L := acttL I) ⟨fun x => ?_, fun x => ?_, fun x => ?_, fun x => ?_, fun x => ?_, fun x => ?_, trivial⟩) y (View.cover_of_tiledBy _ ![1024, 256] (by sl_kernel_rfl) y)
  · refine (up_idx I.actt (fun i j => I.hi.o j i) inb_S4096x512_S1024x256_3072_256 (fun i j _ _ => ?_) x).symm
    rw [In.actt, dif_neg (by simp only; omega), dif_neg (by simp only; omega)]
    exact congrArg (I.o _) (Fin.ext (by simp only; omega))
  · refine (up_idx I.actt (fun i j => I.lo.o j i) inb_S4096x512_S1024x256_3072_0 (fun i j _ _ => ?_) x).symm
    rw [In.actt, dif_neg (by simp only; omega), dif_neg (by simp only; omega)]
    exact congrArg (I.o _) (Fin.ext (by simp only; omega))
  · refine (up_idx I.actt (fun i j => I.hi.h2 j i) inb_S4096x512_S1024x256_2048_256 (fun i j _ _ => ?_) x).symm
    rw [In.actt, dif_neg (by simp only; omega), dif_pos (by simp only; omega)]
    exact congrArg (I.h2 _) (Fin.ext (by simp only; omega))
  · refine (up_idx I.actt (fun i j => I.hi.c j i) inb_S4096x512_S2048x256_0_256 (fun i j _ _ => ?_) x).symm
    rw [In.actt, dif_pos (by simp only; omega)]
    exact congrArg (I.c _) (Fin.ext (by simp only; omega))
  · refine (up_idx I.actt (fun i j => I.lo.h2 j i) inb_S4096x512_S1024x256_2048_0 (fun i j _ _ => ?_) x).symm
    rw [In.actt, dif_neg (by simp only; omega), dif_pos (by simp only; omega)]
    exact congrArg (I.h2 _) (Fin.ext (by simp only; omega))
  · refine (up_idx I.actt (fun i j => I.lo.c j i) inb_S4096x512_S2048x256_0_0 (fun i j _ _ => ?_) x).symm
    rw [In.actt, dif_pos (by simp only; omega)]
    exact congrArg (I.c _) (Fin.ext (by simp only; omega))

/-- The three cotangents. -/
def cotL : List (View.Piece (Elt Ideal) S3x512x1024 .bf16) :=
  [⟨Rect.unit ![0, 256, 0] ![1, 256, 1024] inb_S3x512x1024_S1x256x1024_0_256_0, up3 (φ := .bf16) (fun _ i j => I.hi.dx1 i j)⟩,
   ⟨Rect.unit ![1, 256, 0] ![1, 256, 1024] inb_S3x512x1024_S1x256x1024_1_256_0, up3 (φ := .bf16) (fun _ i j => I.hi.dq i j)⟩,
   ⟨Rect.unit ![0, 0, 0] ![1, 256, 1024] inb_S3x512x1024_S1x256x1024_0_0_0, up3 (φ := .bf16) (fun _ i j => I.lo.dx1 i j)⟩,
   ⟨Rect.unit ![1, 0, 0] ![1, 256, 1024] inb_S3x512x1024_S1x256x1024_1_0_0, up3 (φ := .bf16) (fun _ i j => I.lo.dq i j)⟩,
   ⟨Rect.unit ![2, 256, 0] ![1, 256, 1024] inb_S3x512x1024_S1x256x1024_2_256_0, up3 (φ := .bf16) (fun _ i j => I.hi.dx2 i j)⟩,
   ⟨Rect.unit ![2, 0, 0] ![1, 256, 1024] inb_S3x512x1024_S1x256x1024_2_0_0, up3 (φ := .bf16) (fun _ i j => I.lo.dx2 i j)⟩]

theorem canon_cotL : View.canon (cotL I) = up3 (φ := .bf16) I.cot := by
  funext y
  refine View.canon_apply_of_pieces _ _ (View.PiecesOf.mem (L := cotL I) ⟨fun x => ?_, fun x => ?_, fun x => ?_, fun x => ?_, fun x => ?_, fun x => ?_, trivial⟩) y (View.cover_of_tiledL _ ![1, 256, 1024] (by sl_kernel_rfl) y)
  · refine (up_idx3 I.cot (fun _ i j => I.hi.dx1 i j) inb_S3x512x1024_S1x256x1024_0_256_0 (fun l i j _ _ _ => ?_) x).symm
    rw [In.cot, if_pos (by simp only; omega)]
    exact congrArg (I.dx1 _) (Fin.ext (Nat.zero_add _))
  · refine (up_idx3 I.cot (fun _ i j => I.hi.dq i j) inb_S3x512x1024_S1x256x1024_1_256_0 (fun l i j _ _ _ => ?_) x).symm
    rw [In.cot, if_neg (by simp only; omega), if_pos (by simp only; omega)]
    exact congrArg (I.dq _) (Fin.ext (Nat.zero_add _))
  · refine (up_idx3 I.cot (fun _ i j => I.lo.dx1 i j) inb_S3x512x1024_S1x256x1024_0_0_0 (fun l i j _ _ _ => ?_) x).symm
    rw [In.cot, if_pos (by simp only; omega)]
    exact congrArg (I.dx1 _) (Fin.ext (Nat.zero_add _))
  · refine (up_idx3 I.cot (fun _ i j => I.lo.dq i j) inb_S3x512x1024_S1x256x1024_1_0_0 (fun l i j _ _ _ => ?_) x).symm
    rw [In.cot, if_neg (by simp only; omega), if_pos (by simp only; omega)]
    exact congrArg (I.dq _) (Fin.ext (Nat.zero_add _))
  · refine (up_idx3 I.cot (fun _ i j => I.hi.dx2 i j) inb_S3x512x1024_S1x256x1024_2_256_0 (fun l i j _ _ _ => ?_) x).symm
    rw [In.cot, if_neg (by simp only; omega), if_neg (by simp only; omega)]
    exact congrArg (I.dx2 _) (Fin.ext (Nat.zero_add _))
  · refine (up_idx3 I.cot (fun _ i j => I.lo.dx2 i j) inb_S3x512x1024_S1x256x1024_2_0_0 (fun l i j _ _ _ => ?_) x).symm
    rw [In.cot, if_neg (by simp only; omega), if_neg (by simp only; omega)]
    exact congrArg (I.dx2 _) (Fin.ext (Nat.zero_add _))

section Sums

variable (d : Mat 256 1024) (g : Fin 4 → Mat 256 256)

/-- A running sum `d`, each head's part added. -/
def accL : List (View.Piece (Elt Ideal) S256x1024 .f32) :=
  [⟨Rect.unit ![0, 768] ![256, 256] inb_S256x1024_S256x256_0_768, up2 (φ := .f32) (addm (hd 3 d) (g 3))⟩,
   ⟨Rect.unit ![0, 512] ![256, 256] inb_S256x1024_S256x256_0_512, up2 (φ := .f32) (addm (hd 2 d) (g 2))⟩,
   ⟨Rect.unit ![0, 256] ![256, 256] inb_S256x1024_S256x256_0_256, up2 (φ := .f32) (addm (hd 1 d) (g 1))⟩,
   ⟨Rect.unit ![0, 0] ![256, 256] inb_S256x1024_S256x256_0_0, up2 (φ := .f32) (addm (hd 0 d) (g 0))⟩]

theorem addm_cat4 (h : Fin 4) (i j : Fin 256) : addm d (cat4 g) i (col h j) = addm (hd h d) (g h) i j :=
  congrArg (d i (col h j) + ·) (congrFun (congrFun (hd_cat4 g h) i) j)

theorem addm_cat4_at (h : Fin 4) (i j : Fin 256) (o : ℕ) (ho : o = h.val * 256) (hi : 0 + i.val < 256) (hj : o + j.val < 1024) :
    addm d (cat4 g) ⟨0 + i.val, hi⟩ ⟨o + j.val, hj⟩ = addm (hd h d) (g h) i j := by
  subst ho
  rw [← addm_cat4]
  exact congrArg (fun r => addm d (cat4 g) r (col h j)) (Fin.ext (Nat.zero_add _))

theorem accL_pieces : View.PiecesOf (up2 (φ := .f32) (addm d (cat4 g))) (accL d g) := by
  refine ⟨fun x => ?_, fun x => ?_, fun x => ?_, fun x => ?_, trivial⟩
  · exact (up_idx (addm d (cat4 g)) (addm (hd 3 d) (g 3)) inb_S256x1024_S256x256_0_768 (fun i j hi hj => addm_cat4_at d g 3 i j 768 rfl hi hj) x).symm
  · exact (up_idx (addm d (cat4 g)) (addm (hd 2 d) (g 2)) inb_S256x1024_S256x256_0_512 (fun i j hi hj => addm_cat4_at d g 2 i j 512 rfl hi hj) x).symm
  · exact (up_idx (addm d (cat4 g)) (addm (hd 1 d) (g 1)) inb_S256x1024_S256x256_0_256 (fun i j hi hj => addm_cat4_at d g 1 i j 256 rfl hi hj) x).symm
  · exact (up_idx (addm d (cat4 g)) (addm (hd 0 d) (g 0)) inb_S256x1024_S256x256_0_0 (fun i j hi hj => addm_cat4_at d g 0 i j 0 rfl hi hj) x).symm

theorem canon_accL : View.canon (accL d g) = up2 (φ := .f32) (addm d (cat4 g)) := by
  funext y
  exact View.canon_apply_of_pieces _ _ (View.PiecesOf.mem (L := accL d g) (accL_pieces d g)) y (View.cover_of_tiledL _ ![256, 256] (by sl_kernel_rfl) y)

/-- The same stores over a buffer just cleared. -/
theorem canon_accZ (w : Vec Ideal S256x1024 .f32) :
    View.canon (accL d g ++ [⟨Rect.unit ![0, 0] ![256, 1024] inb_S256x1024_S256x1024_0_0, w⟩]) = up2 (φ := .f32) (addm d (cat4 g)) := by
  funext y
  exact View.canon_append_of_piecesOf _ _ _ (accL_pieces d g) y (View.cover_of_tiledL _ ![256, 256] (by sl_kernel_rfl) y)

end Sums

/-- A sum over the block's rows, half by half. -/
theorem sum_halves (f : Fin 512 → EReal) : ∑ i, f i = (∑ i : Fin 256, f ⟨0 + i.val, by omega⟩) + ∑ i : Fin 256, f ⟨256 + i.val, by omega⟩ := by
  rw [Fin.sum_univ_add (a := 256) (b := 256) f]
  exact congrArg (· + _) (Finset.sum_congr rfl fun i _ => congrArg f (Fin.ext (Nat.zero_add _).symm))

theorem dk_halves : (cat4 fun h => addm (tmm (I.lo.ds h) (hd h I.lo.q)) (tmm (I.hi.ds h) (hd h I.hi.q))) = I.dk :=
  congrArg cat4 (funext fun h => funext fun i => funext fun j => (sum_halves fun r => I.ds h r i * hd h I.q r j).symm)

theorem dv_halves : (cat4 fun h => addm (tmm (I.lo.p h) (hd h I.lo.dO)) (tmm (I.hi.p h) (hd h I.hi.dO))) = I.dv :=
  congrArg cat4 (funext fun h => funext fun i => funext fun j => (sum_halves fun r => I.p h r i * hd h I.dO r j).symm)

/-- The block's parts of the sums kept over eight rows. -/
def part8 (a : Mat 512 1024) : Mat 8 1024 := addm (fold8 fun i => a ⟨0 + i.val, by omega⟩) (fold8 fun i => a ⟨256 + i.val, by omega⟩)

theorem sum_part8 (a : Mat 512 1024) (j : Fin 1024) : ∑ r, part8 a r j = ∑ i, a i j := by
  have key (b : Mat 256 1024) : ∑ r, fold8 b r j = ∑ i, b i j := by
    simp only [fold8]
    rw [Finset.sum_comm, Fin.sum_univ_tiles 32 8 rfl fun i => b i j]
  simp only [part8, addm, Finset.sum_add_distrib]
  rw [key, key, sum_halves fun i => a i j]

variable (g : Mat 8 1024)

/-- One buffer of eight rows, stored whole. -/
theorem canon_whole8 (w : Vec Ideal S8x1024 .f32) (L : List (View.Piece (Elt Ideal) S8x1024 .f32)) :
    View.canon (⟨Rect.unit ![0, 0] ![8, 1024] inb_S8x1024_S8x1024_0_0, w⟩ :: L) = w :=
  View.canon_cons_unit_lit' _ w L (by decide)

theorem readCov_whole8 (v : View sig .tc .vmem S8x1024 .f32) (w : Vec Ideal S8x1024 .f32) :
    v.readCov [(⟨Rect.unit ![0, 0] ![8, 1024] inb_S8x1024_S8x1024_0_0, w⟩ : View.Piece (Elt Ideal) S8x1024 .f32)] (Rect.unit (s := S8x1024) ![0, 0] ![8, 1024] inb_S8x1024_S8x1024_0_0).toLoadRect = w :=
  View.readCov_unit_lit' v _ w (by decide)

theorem canon_row (w : Vec Ideal S1x1024 .f32) :
    View.canon [(⟨Rect.unit ![0, 0] ![1, 1024] inb_S1x1024_S1x1024_0_0, w⟩ : View.Piece (Elt Ideal) S1x1024 .f32)] = w :=
  View.canon_cons_unit_lit' _ w [] (by decide)

end Cert.Lift

end
-- ==== Proof.WordsA.lean ====
/- What the values named by the kernel's body hold at the first point, on matrices. -/
module

public import proofs.«01_k».proof.Proof.Stores
public import proofs.«01_k».proof.Proof.Gen.KernelIdeal.Frame.RunA

@[expose] public section

set_option maxRecDepth 16384

noncomputable section

namespace Cert.Lift

open Idealize.ShloMosaic Idealize.SL.Sem Cert.KernelIdeal Cert.KernelIdeal.Gen Cert.Spec Cert.Reals

variable {c : Dev nD}
  {arg1 : Memref sig .tc .vmem S512x1024 .f32} {harg1 : arg1.IsWhole}
  {arg2 : Memref sig .tc .vmem S512x2048 .bf16} {harg2 : arg2.IsWhole}
  {arg3 : Memref sig .tc .vmem S512x1024 .f32} {harg3 : arg3.IsWhole}
  {arg4 : Memref sig .tc .vmem S2048x1024 .bf16} {harg4 : arg4.IsWhole}
  {arg5 : Memref sig .tc .vmem S1024x1024 .bf16} {harg5 : arg5.IsWhole}
  {arg6 : Memref sig .tc .vmem S1024x1024 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S512x2048 .bf16} {harg11 : arg11.IsWhole}
  {arg12 : Memref sig .tc .vmem S4096x512 .bf16} {harg12 : arg12.IsWhole}
  {arg13 : Memref sig .tc .vmem S3x512x1024 .bf16} {harg13 : arg13.IsWhole}
  {arg14 : Memref sig .tc .vmem S256x1024 .f32} {harg14 : arg14.IsWhole}
  {arg15 : Memref sig .tc .vmem S256x1024 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S512x1024 .f32} {harg19 : arg19.IsWhole}
  {arg20 : Memref sig .tc .vmem S512x1024 .bf16} {harg20 : arg20.IsWhole}
  {arg21 : Memref sig .tc .vmem S512x1024 .f32} {harg21 : arg21.IsWhole}
  {arg22 : Memref sig .tc .vmem S512x1024 .bf16} {harg22 : arg22.IsWhole}
  {arg23 : Memref sig .tc .vmem S8x1024 .f32} {harg23 : arg23.IsWhole}
  {arg24 : Memref sig .tc .vmem S8x1024 .f32} {harg24 : arg24.IsWhole}
  {arg25 : Memref sig .tc .vmem S8x1024 .f32} {harg25 : arg25.IsWhole}
variable (I : In 512) (dk dv : Mat 256 1024) (gf gx ls : Mat 8 1024)

theorem A_r : kernelRun0_A.sl.r (F := Ideal) c arg9 harg9 (up2 (φ := .f32) I.gx) = up2 (φ := .f32) (I.gx) := by
  simp only [kernelRun0_A.sl.r, View.readAt_eq_ld, Memref.IsWhole.read_unread, ld_g]

theorem A_r_5 : kernelRun0_A.sl.r_5 (F := Ideal) c arg1 harg1 arg2 harg2 arg4 harg4 arg5 harg5 arg9 harg9 (up2 (φ := .f32) I.x) (up2 (φ := .bf16) I.c) (up2 (φ := .bf16) I.wo) (up2 (φ := .bf16) I.wq) (up2 (φ := .f32) I.gx) = up2 (I.lo.q) := by
  simp only [kernelRun0_A.sl.r_5, View.readAt_eq_ld, Memref.IsWhole.read_unread, ld_g, ld_c_lo, ld_x_lo, ld_wo, ld_w]
  exact pay17 _ _ _ _ _

theorem A_HS1_2 : kernelRun0_A.sl.HS1_2 (F := Ideal) c arg1 harg1 arg2 harg2 arg4 harg4 arg5 harg5 arg9 harg9 (up2 (φ := .f32) I.x) (up2 (φ := .bf16) I.c) (up2 (φ := .bf16) I.wo) (up2 (φ := .bf16) I.wq) (up2 (φ := .f32) I.gx) = qL I := by
  simp only [kernelRun0_A.sl.HS1_2, View.readAt_eq_ld, Memref.IsWhole.read_unread, ld_c_hi, ld_x_hi, ld_wo, ld_w, A_r, A_r_5, pay18, pay25]
  rfl

theorem A_r_1 : kernelRun0_A.sl.r_1 (F := Ideal) c arg10 harg10 (up2 (φ := .f32) I.gf) = up2 (φ := .f32) (I.gf) := by
  simp only [kernelRun0_A.sl.r_1, View.readAt_eq_ld, Memref.IsWhole.read_unread, ld_g]

theorem A_r_6 : kernelRun0_A.sl.r_6 (F := Ideal) c arg1 harg1 arg2 harg2 arg4 harg4 (up2 (φ := .f32) I.x) (up2 (φ := .bf16) I.c) (up2 (φ := .bf16) I.wo) = up2 (I.hi.x1) := by
  simp only [kernelRun0_A.sl.r_6, View.readAt_eq_ld, Memref.IsWhole.read_unread, ld_c_hi, ld_x_hi, ld_wo]
  exact pay20 _ _ _

theorem A_v228 : kernelRun0_A.sl.v228 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 3 I.hi.q) := by
  simp only [kernelRun0_A.sl.v228, A_HS1_2, rd_q_hi3]

theorem A_r_13 : kernelRun0_A.sl.r_13 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (expo (score (hd 3 I.hi.q) (hd 3 I.k))) := by
  simp only [kernelRun0_A.sl.r_13, View.readAt_eq_ld, Memref.IsWhole.read_unread, ld_hd3, A_v228]
  exact pay51 _ _

theorem A_r_14 : kernelRun0_A.sl.r_14 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (fun i _ => tot (expo (score (hd 3 I.hi.q) (hd 3 I.k))) i) := by
  simp only [kernelRun0_A.sl.r_14, View.readAt_eq_ld, Memref.IsWhole.read_unread, ld_hd3, A_v228]
  exact pay52 _ _

theorem A_v205 : kernelRun0_A.sl.v205 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 2 I.hi.q) := by
  simp only [kernelRun0_A.sl.v205, A_HS1_2, rd_q_hi2]

theorem A_v182 : kernelRun0_A.sl.v182 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 1 I.hi.q) := by
  simp only [kernelRun0_A.sl.v182, A_HS1_2, rd_q_hi1]

theorem A_v159 : kernelRun0_A.sl.v159 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 0 I.hi.q) := by
  simp only [kernelRun0_A.sl.v159, A_HS1_2, rd_q_hi0]

theorem A_r_11 : kernelRun0_A.sl.r_11 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (expo (score (hd 0 I.hi.q) (hd 0 I.k))) := by
  simp only [kernelRun0_A.sl.r_11, View.readAt_eq_ld, Memref.IsWhole.read_unread, ld_hd0, A_v159]
  exact pay40 _ _

theorem A_r_12 : kernelRun0_A.sl.r_12 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (fun i _ => tot (expo (score (hd 0 I.hi.q) (hd 0 I.k))) i) := by
  simp only [kernelRun0_A.sl.r_12, View.readAt_eq_ld, Memref.IsWhole.read_unread, ld_hd0, A_v159]
  exact pay41 _ _

theorem A_v136 : kernelRun0_A.sl.v136 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 3 I.lo.q) := by
  simp only [kernelRun0_A.sl.v136, A_HS1_2, rd_q_lo3]

theorem A_v113 : kernelRun0_A.sl.v113 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 2 I.lo.q) := by
  simp only [kernelRun0_A.sl.v113, A_HS1_2, rd_q_lo2]

theorem A_v90 : kernelRun0_A.sl.v90 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 1 I.lo.q) := by
  simp only [kernelRun0_A.sl.v90, A_HS1_2, rd_q_lo1]

theorem A_r_9 : kernelRun0_A.sl.r_9 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (expo (score (hd 1 I.lo.q) (hd 1 I.k))) := by
  simp only [kernelRun0_A.sl.r_9, View.readAt_eq_ld, Memref.IsWhole.read_unread, ld_hd1, A_v90]
  exact pay29 _ _

theorem A_r_10 : kernelRun0_A.sl.r_10 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (fun i _ => tot (expo (score (hd 1 I.lo.q) (hd 1 I.k))) i) := by
  simp only [kernelRun0_A.sl.r_10, View.readAt_eq_ld, Memref.IsWhole.read_unread, ld_hd1, A_v90]
  exact pay30 _ _

theorem A_v67 : kernelRun0_A.sl.v67 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 0 I.lo.q) := by
  simp only [kernelRun0_A.sl.v67, A_HS1_2, rd_q_lo0]

theorem A_HS2_8 : kernelRun0_A.sl.HS2_8 (F := Ideal) c arg1 harg1 arg2 harg2 arg4 harg4 arg5 harg5 arg7 harg7 arg8 harg8 arg9 harg9 arg20 (up2 (φ := .f32) I.x) (up2 (φ := .bf16) I.c) (up2 (φ := .bf16) I.wo) (up2 (φ := .bf16) I.wq) (up2 (φ := .bf16) I.k) (up2 (φ := .bf16) I.v) (up2 (φ := .f32) I.gx) = oL I := by
  simp only [kernelRun0_A.sl.HS2_8, View.readAt_eq_ld, Memref.IsWhole.read_unread, ld_hd3, ld_hd2, ld_hd1, ld_hd0, A_r_10, A_r_11, A_r_12, A_r_13, A_r_14, A_r_9, A_v113, A_v136, A_v182, A_v205, A_v67, pay28, pay33, pay36, pay39, pay44, pay47, pay50, pay55]
  rfl

theorem A_v293 : kernelRun0_A.sl.v293 (F := Ideal) c arg1 harg1 arg2 harg2 arg4 harg4 arg5 harg5 arg7 harg7 arg8 harg8 arg9 harg9 arg20 arg21 (up2 (φ := .f32) I.x) (up2 (φ := .bf16) I.c) (up2 (φ := .bf16) I.wo) (up2 (φ := .bf16) I.wq) (up2 (φ := .bf16) I.k) (up2 (φ := .bf16) I.v) (up2 (φ := .f32) I.gx) = up2 (φ := .f32) (I.hi.o) := by
  simp only [kernelRun0_A.sl.v293, A_HS2_8, rd_o_hi]

theorem A_r_22 : kernelRun0_A.sl.r_22 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (fun i _ => I.hi.r3 i) := by
  simp only [kernelRun0_A.sl.r_22, View.readAt_eq_ld, Memref.IsWhole.read_unread, ld_w, A_r_6, A_v293]
  exact pay68 _ _ _

theorem A_r_23 : kernelRun0_A.sl.r_23 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (I.hi.x2h) := by
  simp only [kernelRun0_A.sl.r_23, View.readAt_eq_ld, Memref.IsWhole.read_unread, ld_w, A_r_6, A_v293]
  exact pay69 _ _ _

theorem A_r_24 : kernelRun0_A.sl.r_24 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dy) := by
  simp only [kernelRun0_A.sl.r_24, View.readAt_eq_ld, Memref.IsWhole.read_unread, ld_w, ld_t_hi, A_r_1, A_r_6, A_v293]
  exact pay71 _ _ _ _ _

theorem A_r_26 : kernelRun0_A.sl.r_26 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dx2) := by
  simp only [kernelRun0_A.sl.r_26, A_r_1, A_r_22, A_r_23, A_r_24]
  exact pay73 _ _ _ _

theorem A_r_40 : kernelRun0_A.sl.r_40 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dx2) := by
  simp only [kernelRun0_A.sl.r_40, A_r_26]
  exact pay97 _

theorem A_r_41 : kernelRun0_A.sl.r_41 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dO) := by
  simp only [kernelRun0_A.sl.r_41, View.readAt_eq_ld, Memref.IsWhole.read_unread, ld_w, A_r_40]
  exact pay99 _ _

theorem A_HS0_8 : kernelRun0_A.sl.HS0_8 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = pL I := by
  simp only [kernelRun0_A.sl.HS0_8, View.readAt_eq_ld, Memref.IsWhole.read_unread, ld_hd2, ld_hd1, ld_hd3, ld_hd0, A_r_10, A_r_11, A_r_12, A_r_13, A_r_14, A_r_9, A_v113, A_v136, A_v182, A_v205, A_v67, pay27, pay32, pay35, pay38, pay43, pay46, pay49, pay54]
  rfl

theorem A_v556 : kernelRun0_A.sl.v556 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 3) := by
  simp only [kernelRun0_A.sl.v556, A_HS0_8, rd_p_hi3]

theorem A_r_52 : kernelRun0_A.sl.r_52 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.ds 3) := by
  simp only [kernelRun0_A.sl.r_52, View.readAt_eq_ld, Memref.IsWhole.read_unread, ld_hd3, A_r_41, A_v556]
  exact pay114 _ _ _

theorem A_r_2 : kernelRun0_A.sl.r_2 (F := Ideal) c arg1 harg1 arg2 harg2 arg4 harg4 (up2 (φ := .f32) I.x) (up2 (φ := .bf16) I.c) (up2 (φ := .bf16) I.wo) = up2 (I.lo.x1) := by
  simp only [kernelRun0_A.sl.r_2, View.readAt_eq_ld, Memref.IsWhole.read_unread, ld_c_lo, ld_x_lo, ld_wo]
  exact pay12 _ _ _

theorem A_v251 : kernelRun0_A.sl.v251 (F := Ideal) c arg1 harg1 arg2 harg2 arg4 harg4 arg5 harg5 arg7 harg7 arg8 harg8 arg9 harg9 arg20 arg21 (up2 (φ := .f32) I.x) (up2 (φ := .bf16) I.c) (up2 (φ := .bf16) I.wo) (up2 (φ := .bf16) I.wq) (up2 (φ := .bf16) I.k) (up2 (φ := .bf16) I.v) (up2 (φ := .f32) I.gx) = up2 (φ := .f32) (I.lo.o) := by
  simp only [kernelRun0_A.sl.v251, A_HS2_8, rd_o_lo]

theorem A_r_15 : kernelRun0_A.sl.r_15 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (fun i _ => I.lo.r3 i) := by
  simp only [kernelRun0_A.sl.r_15, View.readAt_eq_ld, Memref.IsWhole.read_unread, ld_w, A_r_2, A_v251]
  exact pay58 _ _ _

theorem A_r_16 : kernelRun0_A.sl.r_16 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (I.lo.x2h) := by
  simp only [kernelRun0_A.sl.r_16, View.readAt_eq_ld, Memref.IsWhole.read_unread, ld_w, A_r_2, A_v251]
  exact pay59 _ _ _

theorem A_r_17 : kernelRun0_A.sl.r_17 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dy) := by
  simp only [kernelRun0_A.sl.r_17, View.readAt_eq_ld, Memref.IsWhole.read_unread, ld_w, ld_t_lo, A_r_1, A_r_2, A_v251]
  exact pay61 _ _ _ _ _

theorem A_r_21 : kernelRun0_A.sl.r_21 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dx2) := by
  simp only [kernelRun0_A.sl.r_21, A_r_1, A_r_15, A_r_16, A_r_17]
  exact pay65 _ _ _ _

theorem A_r_27 : kernelRun0_A.sl.r_27 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dO) := by
  simp only [kernelRun0_A.sl.r_27, View.readAt_eq_ld, Memref.IsWhole.read_unread, ld_w, A_r_21]
  exact pay78 _ _

theorem A_v381 : kernelRun0_A.sl.v381 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 1) := by
  simp only [kernelRun0_A.sl.v381, A_HS0_8, rd_p_lo1]

theorem A_r_33 : kernelRun0_A.sl.r_33 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 1) (hd 1 I.lo.dO)) := by
  simp only [kernelRun0_A.sl.r_33, A_r_27, A_v381]
  exact pay87 _ _

theorem A_v342 : kernelRun0_A.sl.v342 (F := Ideal) c arg23 = up2 (φ := .f32) (fun _ _ => 0) := by
  simp only [kernelRun0_A.sl.v342, kernelRun0_A.sl.HS4_1, pay8]
  exact readCov_whole8 _ _

theorem A_v408 : kernelRun0_A.sl.v408 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 2) := by
  simp only [kernelRun0_A.sl.v408, A_HS0_8, rd_p_lo2]

theorem A_r_36 : kernelRun0_A.sl.r_36 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 2) (hd 2 I.lo.dO)) := by
  simp only [kernelRun0_A.sl.r_36, A_r_27, A_v408]
  exact pay91 _ _

theorem A_v527 : kernelRun0_A.sl.v527 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 2) := by
  simp only [kernelRun0_A.sl.v527, A_HS0_8, rd_p_hi2]

theorem A_r_50 : kernelRun0_A.sl.r_50 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 2) (hd 2 I.lo.dO)) (tmm (I.hi.p 2) (hd 2 I.hi.dO))) := by
  simp only [kernelRun0_A.sl.r_50, A_r_36, A_r_41, A_v527]
  exact pay112 _ _ _

theorem A_v498 : kernelRun0_A.sl.v498 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 1) := by
  simp only [kernelRun0_A.sl.v498, A_HS0_8, rd_p_hi1]

theorem A_r_45 : kernelRun0_A.sl.r_45 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 1) (hd 1 I.lo.dO)) (tmm (I.hi.p 1) (hd 1 I.hi.dO))) := by
  simp only [kernelRun0_A.sl.r_45, A_r_33, A_r_41, A_v498]
  exact pay107 _ _ _

theorem A_v354 : kernelRun0_A.sl.v354 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 0) := by
  simp only [kernelRun0_A.sl.v354, A_HS0_8, rd_p_lo0]

theorem A_r_29 : kernelRun0_A.sl.r_29 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 0) (hd 0 I.lo.dO)) := by
  simp only [kernelRun0_A.sl.r_29, A_r_27, A_v354]
  exact pay82 _ _

theorem A_v469 : kernelRun0_A.sl.v469 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 0) := by
  simp only [kernelRun0_A.sl.v469, A_HS0_8, rd_p_hi0]

theorem A_r_42 : kernelRun0_A.sl.r_42 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 0) (hd 0 I.lo.dO)) (tmm (I.hi.p 0) (hd 0 (mmT I.hi.dx2 I.wx)))) := by
  simp only [kernelRun0_A.sl.r_42, View.readAt_eq_ld, Memref.IsWhole.read_unread, ld_w, A_r_29, A_r_40, A_v469]
  exact pay102 _ _ _ _

theorem A_v585 : kernelRun0_A.sl.v585 (F := Ideal) c arg15 = up2 (φ := .f32) (hd 0 (fun _ _ => 0)) := by
  simp (disch := decide) only [kernelRun0_A.sl.v585, kernelRun0_A.sl.H14_1, ↓ View.readCov_skip, ↓ View.readCov_fill, pay7, ld_hd0f]

theorem A_v593 : kernelRun0_A.sl.v593 (F := Ideal) c arg1 harg1 arg2 harg2 arg3 harg3 arg4 harg4 arg5 harg5 arg6 harg6 arg7 harg7 arg8 harg8 arg9 harg9 arg10 harg10 arg15 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (hd 1 (fun _ _ => 0)) := by
  simp (disch := decide) only [kernelRun0_A.sl.v593, kernelRun0_A.sl.H14_2, kernelRun0_A.sl.H14_1, ↓ View.readCov_skip, ↓ View.readCov_fill, pay7, ld_hd1f]

theorem A_v601 : kernelRun0_A.sl.v601 (F := Ideal) c arg1 harg1 arg2 harg2 arg3 harg3 arg4 harg4 arg5 harg5 arg6 harg6 arg7 harg7 arg8 harg8 arg9 harg9 arg10 harg10 arg15 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (hd 2 (fun _ _ => 0)) := by
  simp (disch := decide) only [kernelRun0_A.sl.v601, kernelRun0_A.sl.H14_3, kernelRun0_A.sl.H14_2, kernelRun0_A.sl.H14_1, ↓ View.readCov_skip, ↓ View.readCov_fill, pay7, ld_hd2f]

theorem A_v609 : kernelRun0_A.sl.v609 (F := Ideal) c arg1 harg1 arg2 harg2 arg3 harg3 arg4 harg4 arg5 harg5 arg6 harg6 arg7 harg7 arg8 harg8 arg9 harg9 arg10 harg10 arg15 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (hd 3 (fun _ _ => 0)) := by
  simp (disch := decide) only [kernelRun0_A.sl.v609, kernelRun0_A.sl.H14_4, kernelRun0_A.sl.H14_3, kernelRun0_A.sl.H14_2, kernelRun0_A.sl.H14_1, ↓ View.readCov_skip, ↓ View.readCov_fill, pay7, ld_hd3f]

theorem A_r_3 : kernelRun0_A.sl.r_3 (F := Ideal) c arg1 harg1 arg2 harg2 arg4 harg4 (up2 (φ := .f32) I.x) (up2 (φ := .bf16) I.c) (up2 (φ := .bf16) I.wo) = up2 (fun i _ => I.lo.r2 i) := by
  simp only [kernelRun0_A.sl.r_3, View.readAt_eq_ld, Memref.IsWhole.read_unread, ld_c_lo, ld_x_lo, ld_wo]
  exact pay13 _ _ _

theorem A_r_48 : kernelRun0_A.sl.r_48 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.ds 2) := by
  simp only [kernelRun0_A.sl.r_48, View.readAt_eq_ld, Memref.IsWhole.read_unread, ld_hd2, A_r_41, A_v527]
  exact pay110 _ _ _

theorem A_r_49 : kernelRun0_A.sl.r_49 (F := Ideal) c arg7 harg7 (up2 (φ := .bf16) I.k) = up2 (φ := .bf16) (hd 2 I.k) := by
  simp only [kernelRun0_A.sl.r_49, View.readAt_eq_ld, Memref.IsWhole.read_unread, ld_hd2]

theorem A_r_44 : kernelRun0_A.sl.r_44 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (mmT (hd 1 (mmT I.hi.dx2 I.wx)) (hd 1 I.v)) := by
  simp only [kernelRun0_A.sl.r_44, View.readAt_eq_ld, Memref.IsWhole.read_unread, ld_w, ld_hd1, A_r_40]
  exact pay104 _ _ _

theorem A_v435 : kernelRun0_A.sl.v435 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 3) := by
  simp only [kernelRun0_A.sl.v435, A_HS0_8, rd_p_lo3]

theorem A_r_32 : kernelRun0_A.sl.r_32 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.ds 1) := by
  simp only [kernelRun0_A.sl.r_32, View.readAt_eq_ld, Memref.IsWhole.read_unread, ld_hd1, A_r_27, A_v381]
  exact pay85 _ _ _

theorem A_r_28 : kernelRun0_A.sl.r_28 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (hd 0 I.lo.dO) := by
  simp only [kernelRun0_A.sl.r_28, View.readAt_eq_ld, Memref.IsWhole.read_unread, ld_w, A_r_21]
  exact pay79 _ _

theorem A_HS3_8 : kernelRun0_A.sl.HS3_8 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = dqL I := by
  simp only [kernelRun0_A.sl.HS3_8, View.readAt_eq_ld, Memref.IsWhole.read_unread, ld_hd3, ld_hd1, ld_w, ld_hd0, ld_hd2, A_r_27, A_r_28, A_r_32, A_r_40, A_r_41, A_r_44, A_r_48, A_r_49, A_v354, A_v408, A_v435, A_v469, A_v498, A_v556, pay81, pay86, pay90, pay94, pay101, pay106, pay111, pay115]
  rfl

theorem A_r_18 : kernelRun0_A.sl.r_18 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up3 (split8 (mulm I.lo.err I.lo.err)) := by
  simp only [kernelRun0_A.sl.r_18, View.readAt_eq_ld, Memref.IsWhole.read_unread, ld_w, ld_t_lo, A_r_1, A_r_2, A_v251]
  exact pay62 _ _ _ _ _

theorem A_r_31 : kernelRun0_A.sl.r_31 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.ds 1) := by
  simp only [kernelRun0_A.sl.r_31, View.readAt_eq_ld, Memref.IsWhole.read_unread, ld_hd1, A_r_27, A_v381]
  exact pay84 _ _ _

theorem A_r_34 : kernelRun0_A.sl.r_34 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.ds 1) (hd 1 I.lo.q)) := by
  simp only [kernelRun0_A.sl.r_34, A_r_31, A_v90]
  exact pay88 _ _

theorem A_r_25 : kernelRun0_A.sl.r_25 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up3 (split8 (mulm I.hi.err I.hi.err)) := by
  simp only [kernelRun0_A.sl.r_25, View.readAt_eq_ld, Memref.IsWhole.read_unread, ld_w, ld_t_hi, A_r_1, A_r_6, A_v293]
  exact pay72 _ _ _ _ _

theorem A_r_8 : kernelRun0_A.sl.r_8 (F := Ideal) c arg1 harg1 arg2 harg2 arg4 harg4 (up2 (φ := .f32) I.x) (up2 (φ := .bf16) I.c) (up2 (φ := .bf16) I.wo) = up2 (I.hi.x1h) := by
  simp only [kernelRun0_A.sl.r_8, View.readAt_eq_ld, Memref.IsWhole.read_unread, ld_c_hi, ld_x_hi, ld_wo]
  exact pay22 _ _ _

theorem A_r_4 : kernelRun0_A.sl.r_4 (F := Ideal) c arg1 harg1 arg2 harg2 arg4 harg4 (up2 (φ := .f32) I.x) (up2 (φ := .bf16) I.c) (up2 (φ := .bf16) I.wo) = up2 (I.lo.x1h) := by
  simp only [kernelRun0_A.sl.r_4, View.readAt_eq_ld, Memref.IsWhole.read_unread, ld_c_lo, ld_x_lo, ld_wo]
  exact pay14 _ _ _

theorem A_v617 : kernelRun0_A.sl.v617 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .bf16) (I.lo.dq) := by
  simp only [kernelRun0_A.sl.v617, A_HS3_8, rd_dq_lo]

theorem A_r_57 : kernelRun0_A.sl.r_57 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (fold8 (mulm (mmT I.lo.dq I.wq) I.lo.x1h)) := by
  simp only [kernelRun0_A.sl.r_57, View.readAt_eq_ld, Memref.IsWhole.read_unread, ld_w, A_r_4, A_v617]
  exact pay129 _ _ _

theorem A_v647 : kernelRun0_A.sl.v647 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .bf16) (I.hi.dq) := by
  simp only [kernelRun0_A.sl.v647, A_HS3_8, rd_dq_hi]

theorem A_r_59 : kernelRun0_A.sl.r_59 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (fold8 (mulm (mmT I.lo.dq I.wq) I.lo.x1h)) (fold8 (mulm (mmT I.hi.dq I.wq) I.hi.x1h))) := by
  simp only [kernelRun0_A.sl.r_59, View.readAt_eq_ld, Memref.IsWhole.read_unread, ld_w, A_r_57, A_r_8, A_v647]
  exact pay135 _ _ _ _

theorem A_r_38 : kernelRun0_A.sl.r_38 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 3) (hd 3 I.lo.dO)) := by
  simp only [kernelRun0_A.sl.r_38, A_r_27, A_v435]
  exact pay95 _ _

theorem A_r_53 : kernelRun0_A.sl.r_53 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.hi.p 3) (hd 3 I.hi.dO)) := by
  simp only [kernelRun0_A.sl.r_53, A_r_41, A_v556]
  exact pay116 _ _

theorem A_r_54 : kernelRun0_A.sl.r_54 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 3) (hd 3 I.lo.dO)) (tmm (I.hi.p 3) (hd 3 I.hi.dO))) := by
  simp only [kernelRun0_A.sl.r_54, A_r_38, A_r_53]
  exact pay117 _ _

theorem A_r_7 : kernelRun0_A.sl.r_7 (F := Ideal) c arg1 harg1 arg2 harg2 arg4 harg4 (up2 (φ := .f32) I.x) (up2 (φ := .bf16) I.c) (up2 (φ := .bf16) I.wo) = up2 (fun i _ => I.hi.r2 i) := by
  simp only [kernelRun0_A.sl.r_7, View.readAt_eq_ld, Memref.IsWhole.read_unread, ld_c_hi, ld_x_hi, ld_wo]
  exact pay21 _ _ _

theorem A_r_60 : kernelRun0_A.sl.r_60 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dx1) := by
  simp only [kernelRun0_A.sl.r_60, View.readAt_eq_ld, Memref.IsWhole.read_unread, ld_w, A_r, A_r_26, A_r_7, A_r_8, A_v647]
  exact pay136 _ _ _ _ _ _

theorem A_r_46 : kernelRun0_A.sl.r_46 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.ds 1) (hd 1 I.lo.q)) (tmm (dscore (I.hi.p 1) (mmT (hd 1 (mmT I.hi.dx2 I.wx)) (hd 1 I.v))) (hd 1 I.hi.q))) := by
  simp only [kernelRun0_A.sl.r_46, A_r_34, A_r_44, A_v182, A_v498]
  exact pay108 _ _ _ _

theorem A_v589 : kernelRun0_A.sl.v589 (F := Ideal) c arg14 = up2 (φ := .f32) (hd 0 (fun _ _ => 0)) := by
  simp (disch := decide) only [kernelRun0_A.sl.v589, kernelRun0_A.sl.H13_1, ↓ View.readCov_skip, ↓ View.readCov_fill, pay6, ld_hd0f]

theorem A_r_30 : kernelRun0_A.sl.r_30 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (dscore (I.lo.p 0) (mmT (hd 0 I.lo.dO) (hd 0 I.v))) (hd 0 I.lo.q)) := by
  simp only [kernelRun0_A.sl.r_30, View.readAt_eq_ld, Memref.IsWhole.read_unread, ld_hd0, A_r_28, A_v354, A_v67]
  exact pay83 _ _ _ _

theorem A_r_43 : kernelRun0_A.sl.r_43 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (dscore (I.lo.p 0) (mmT (hd 0 I.lo.dO) (hd 0 I.v))) (hd 0 I.lo.q)) (tmm (dscore (I.hi.p 0) (mmT (hd 0 (mmT I.hi.dx2 I.wx)) (hd 0 I.v))) (hd 0 I.hi.q))) := by
  simp only [kernelRun0_A.sl.r_43, View.readAt_eq_ld, Memref.IsWhole.read_unread, ld_w, ld_hd0, A_r_30, A_r_40, A_v159, A_v469]
  exact pay103 _ _ _ _ _ _

theorem A_v597 : kernelRun0_A.sl.v597 (F := Ideal) c arg1 harg1 arg2 harg2 arg3 harg3 arg4 harg4 arg5 harg5 arg6 harg6 arg7 harg7 arg8 harg8 arg9 harg9 arg10 harg10 arg14 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (hd 1 (fun _ _ => 0)) := by
  simp (disch := decide) only [kernelRun0_A.sl.v597, kernelRun0_A.sl.H13_2, kernelRun0_A.sl.H13_1, ↓ View.readCov_skip, ↓ View.readCov_fill, pay6, ld_hd1f]

theorem A_v605 : kernelRun0_A.sl.v605 (F := Ideal) c arg1 harg1 arg2 harg2 arg3 harg3 arg4 harg4 arg5 harg5 arg6 harg6 arg7 harg7 arg8 harg8 arg9 harg9 arg10 harg10 arg14 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (hd 2 (fun _ _ => 0)) := by
  simp (disch := decide) only [kernelRun0_A.sl.v605, kernelRun0_A.sl.H13_3, kernelRun0_A.sl.H13_2, kernelRun0_A.sl.H13_1, ↓ View.readCov_skip, ↓ View.readCov_fill, pay6, ld_hd2f]

theorem A_r_58 : kernelRun0_A.sl.r_58 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dx1) := by
  simp only [kernelRun0_A.sl.r_58, View.readAt_eq_ld, Memref.IsWhole.read_unread, ld_w, A_r, A_r_21, A_r_3, A_r_4, A_v617]
  exact pay130 _ _ _ _ _ _

theorem A_r_20 : kernelRun0_A.sl.r_20 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (fold8 (mulm I.lo.dy I.lo.x2h)) := by
  simp only [kernelRun0_A.sl.r_20, A_r_16, A_r_17]
  exact pay64 _ _

theorem A_r_39 : kernelRun0_A.sl.r_39 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (dscore (I.lo.p 3) (mmT (hd 3 I.lo.dO) (hd 3 I.v))) (hd 3 I.lo.q)) := by
  simp only [kernelRun0_A.sl.r_39, View.readAt_eq_ld, Memref.IsWhole.read_unread, ld_hd3, A_r_27, A_v136, A_v435]
  exact pay96 _ _ _ _

theorem A_r_55 : kernelRun0_A.sl.r_55 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (dscore (I.lo.p 3) (mmT (hd 3 I.lo.dO) (hd 3 I.v))) (hd 3 I.lo.q)) (tmm (I.hi.ds 3) (hd 3 I.hi.q))) := by
  simp only [kernelRun0_A.sl.r_55, A_r_39, A_r_52, A_v228]
  exact pay118 _ _ _

theorem A_r_35 : kernelRun0_A.sl.r_35 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.ds 2) := by
  simp only [kernelRun0_A.sl.r_35, View.readAt_eq_ld, Memref.IsWhole.read_unread, ld_hd2, A_r_27, A_v408]
  exact pay89 _ _ _

theorem A_r_37 : kernelRun0_A.sl.r_37 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.ds 2) (hd 2 I.lo.q)) := by
  simp only [kernelRun0_A.sl.r_37, A_r_35, A_v113]
  exact pay92 _ _

theorem A_r_47 : kernelRun0_A.sl.r_47 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.ds 2) := by
  simp only [kernelRun0_A.sl.r_47, View.readAt_eq_ld, Memref.IsWhole.read_unread, ld_hd2, A_r_41, A_v527]
  exact pay109 _ _ _

theorem A_r_51 : kernelRun0_A.sl.r_51 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.ds 2) (hd 2 I.lo.q)) (tmm (I.hi.ds 2) (hd 2 I.hi.q))) := by
  simp only [kernelRun0_A.sl.r_51, A_r_37, A_r_47, A_v205]
  exact pay113 _ _ _

theorem A_r_56 : kernelRun0_A.sl.r_56 (F := Ideal) c arg1 harg1 arg2 harg2 arg3 harg3 arg4 harg4 arg5 harg5 arg6 harg6 arg7 harg7 arg8 harg8 arg9 harg9 arg10 harg10 arg14 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (hd 2 (fun _ _ => 0)) (addm (tmm (I.lo.ds 2) (hd 2 I.lo.q)) (tmm (I.hi.ds 2) (hd 2 I.hi.q)))) := by
  simp only [kernelRun0_A.sl.r_56, A_r_51, A_v605]
  exact pay124 _ _

theorem A_r_19 : kernelRun0_A.sl.r_19 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (fold8 (mulm I.lo.err I.lo.err)) := by
  simp only [kernelRun0_A.sl.r_19, A_r_18]
  exact pay63 _

theorem A_r_61 : kernelRun0_A.sl.r_61 (F := Ideal) c arg4 harg4 (up2 (φ := .bf16) I.wo) = up2 (φ := .bf16) (I.wo) := by
  simp only [kernelRun0_A.sl.r_61, View.readAt_eq_ld, Memref.IsWhole.read_unread, ld_wo]

theorem A_v678 : kernelRun0_A.sl.v678 (F := Ideal) c arg24 = up2 (φ := .f32) (fun _ _ => 0) := by
  simp only [kernelRun0_A.sl.v678, kernelRun0_A.sl.HS5_1, pay9]
  exact readCov_whole8 _ _

theorem A_v613 : kernelRun0_A.sl.v613 (F := Ideal) c arg1 harg1 arg2 harg2 arg3 harg3 arg4 harg4 arg5 harg5 arg6 harg6 arg7 harg7 arg8 harg8 arg9 harg9 arg10 harg10 arg14 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (hd 3 (fun _ _ => 0)) := by
  simp (disch := decide) only [kernelRun0_A.sl.v613, kernelRun0_A.sl.H13_4, kernelRun0_A.sl.H13_3, kernelRun0_A.sl.H13_2, kernelRun0_A.sl.H13_1, ↓ View.readCov_skip, ↓ View.readCov_fill, pay6, ld_hd3f]

theorem A_v337 : kernelRun0_A.sl.v337 (F := Ideal) c arg25 = up2 (φ := .f32) (fun _ _ => 0) := by
  simp only [kernelRun0_A.sl.v337, kernelRun0_A.sl.HS6_1, pay10]
  exact readCov_whole8 _ _

end Cert.Lift

end
-- ==== Proof.OutsA.lean ====
/- What the body leaves in its outputs and its running sums at the first point, on matrices. -/
module

public import proofs.«01_k».proof.Proof.Stores
public import proofs.«01_k».proof.Proof.Gen.KernelIdeal.Frame
public import proofs.«01_k».proof.Proof.WordsA

@[expose] public section

set_option maxRecDepth 16384

noncomputable section

namespace Cert.Lift

open Idealize.ShloMosaic Idealize.SL.Sem Cert.KernelIdeal Cert.KernelIdeal.Gen Cert.Spec Cert.Reals

variable {c : Dev nD}
  {arg1 : Memref sig .tc .vmem S512x1024 .f32} {harg1 : arg1.IsWhole}
  {arg2 : Memref sig .tc .vmem S512x2048 .bf16} {harg2 : arg2.IsWhole}
  {arg3 : Memref sig .tc .vmem S512x1024 .f32} {harg3 : arg3.IsWhole}
  {arg4 : Memref sig .tc .vmem S2048x1024 .bf16} {harg4 : arg4.IsWhole}
  {arg5 : Memref sig .tc .vmem S1024x1024 .bf16} {harg5 : arg5.IsWhole}
  {arg6 : Memref sig .tc .vmem S1024x1024 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S512x2048 .bf16} {harg11 : arg11.IsWhole}
  {arg12 : Memref sig .tc .vmem S4096x512 .bf16} {harg12 : arg12.IsWhole}
  {arg13 : Memref sig .tc .vmem S3x512x1024 .bf16} {harg13 : arg13.IsWhole}
  {arg14 : Memref sig .tc .vmem S256x1024 .f32} {harg14 : arg14.IsWhole}
  {arg15 : Memref sig .tc .vmem S256x1024 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S512x1024 .f32} {harg19 : arg19.IsWhole}
  {arg20 : Memref sig .tc .vmem S512x1024 .bf16} {harg20 : arg20.IsWhole}
  {arg21 : Memref sig .tc .vmem S512x1024 .f32} {harg21 : arg21.IsWhole}
  {arg22 : Memref sig .tc .vmem S512x1024 .bf16} {harg22 : arg22.IsWhole}
  {arg23 : Memref sig .tc .vmem S8x1024 .f32} {harg23 : arg23.IsWhole}
  {arg24 : Memref sig .tc .vmem S8x1024 .f32} {harg24 : arg24.IsWhole}
  {arg25 : Memref sig .tc .vmem S8x1024 .f32} {harg25 : arg25.IsWhole}
variable (I : In 512) (dk dv : Mat 256 1024) (gf gx ls : Mat 8 1024)

theorem A_out10 {i : grid0.Coords} (hc0 : cond0_0 i) (hc1 : ¬cond0_1 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .bf16) I.dcat := by
  unfold out0_A_10
  rw [View.read_writes_junk_eq_canon]
  dsimp only [kernelRun0_A]
  simp only [View.readAt_eq_ld, Memref.IsWhole.read_unread, ld_wo, A_r_58, A_r_60, A_r_61, pay1, pay132, kernelRun0_A.sl.cst_403]
  exact canon_dcatL I

theorem A_out11 {i : grid0.Coords} (hc0 : cond0_0 i) (hc1 : ¬cond0_1 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .bf16) I.actt := by
  unfold out0_A_11
  rw [View.read_writes_junk_eq_canon]
  dsimp only [kernelRun0_A]
  simp only [View.readAt_eq_ld, Memref.IsWhole.read_unread, ld_c_hi, ld_x_hi, ld_wo, ld_g, ld_c_lo, ld_x_lo, A_r, A_v251, A_v293, pay11, pay16, pay19, pay24, pay56, pay66]
  exact canon_acttL I

theorem A_out12 {i : grid0.Coords} (hc0 : cond0_0 i) (hc1 : ¬cond0_1 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up3 (φ := .bf16) I.cot := by
  unfold out0_A_12
  rw [View.read_writes_junk_eq_canon]
  dsimp only [kernelRun0_A]
  simp only [View.readAt_eq_ld, Memref.IsWhole.read_unread, ld_w, A_r, A_r_21, A_r_26, A_r_58, A_r_7, A_r_8, A_v617, A_v647, pay77, pay98, pay127, pay131, pay133, pay137]
  exact canon_cotL I

theorem A_out13 {i : grid0.Coords} (hc0 : cond0_0 i) (hc1 : ¬cond0_1 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (addm (fun _ _ => 0) I.dk) := by
  unfold out0_A_13
  rw [View.read_writes_junk_eq_canon]
  dsimp only [kernelRun0_A]
  simp only [kernelRun0_A.sl.H13_1, kernelRun0_A.sl.H13_2, kernelRun0_A.sl.H13_3, kernelRun0_A.sl.H13_4, A_r_55, A_v613, A_r_56, A_r_46, A_v597, A_r_43, A_v589, pay6, pay120, pay122, pay126]
  rw [← dk_halves]
  exact canon_accZ (fun _ _ => 0) (fun h => addm (tmm (I.lo.ds h) (hd h I.lo.q)) (tmm (I.hi.ds h) (hd h I.hi.q))) _

theorem A_out14 {i : grid0.Coords} (hc0 : cond0_0 i) (hc1 : ¬cond0_1 i) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (addm (fun _ _ => 0) I.dv) := by
  unfold out0_A_14
  rw [View.read_writes_junk_eq_canon]
  dsimp only [kernelRun0_A]
  simp only [kernelRun0_A.sl.H14_1, kernelRun0_A.sl.H14_2, kernelRun0_A.sl.H14_3, kernelRun0_A.sl.H14_4, A_r_54, A_v609, A_r_50, A_v601, A_r_45, A_v593, A_r_42, A_v585, pay7, pay119, pay121, pay123, pay125]
  rw [← dv_halves]
  exact canon_accZ (fun _ _ => 0) (fun h => addm (tmm (I.lo.p h) (hd h I.lo.dO)) (tmm (I.hi.p h) (hd h I.hi.dO))) _

theorem A_sum4 {i : grid0.Coords} (hc0 : cond0_0 i) (hc1 : ¬cond0_1 i) : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (addm (fun _ _ => 0) (part8 (mulm I.dy I.x2h))) := by
  unfold sout0_A_4
  rw [View.read_writes_junk_eq_canon]
  dsimp only [kernelRun0_A]
  simp only [kernelRun0_A.sl.HS4_1, A_r_20, A_r_23, A_r_24, A_v342, pay8, pay75]
  exact canon_whole8 _ _

theorem A_sum5 {i : grid0.Coords} (hc0 : cond0_0 i) (hc1 : ¬cond0_1 i) : sout0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (addm (fun _ _ => 0) (part8 (mulm I.dh2 I.x1h))) := by
  unfold sout0_A_5
  rw [View.read_writes_junk_eq_canon]
  dsimp only [kernelRun0_A]
  simp only [kernelRun0_A.sl.HS5_1, A_r_59, A_v678, pay2, pay9]
  exact canon_whole8 _ _

theorem A_sum6 {i : grid0.Coords} (hc0 : cond0_0 i) (hc1 : ¬cond0_1 i) : sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .f32) (addm (fun _ _ => 0) (part8 (mulm I.err I.err))) := by
  unfold sout0_A_6
  rw [View.read_writes_junk_eq_canon]
  dsimp only [kernelRun0_A]
  simp only [kernelRun0_A.sl.HS6_1, A_r_19, A_r_25, A_v337, pay10, pay74]
  exact canon_whole8 _ _

end Cert.Lift

end
-- ==== Proof.WordsB.lean ====
/- What the values named by the kernel's body hold at the points between, on matrices. -/
module

public import proofs.«01_k».proof.Proof.Blocks
public import proofs.«01_k».proof.Proof.Gen.KernelIdeal.Frame.RunB

@[expose] public section

set_option maxRecDepth 16384

noncomputable section

namespace Cert.Lift

open Idealize.ShloMosaic Idealize.SL.Sem Cert.KernelIdeal Cert.KernelIdeal.Gen Cert.Spec Cert.Reals

variable {c : Dev nD}
  {arg1 : Memref sig .tc .vmem S512x1024 .f32} {harg1 : arg1.IsWhole}
  {arg2 : Memref sig .tc .vmem S512x2048 .bf16} {harg2 : arg2.IsWhole}
  {arg3 : Memref sig .tc .vmem S512x1024 .f32} {harg3 : arg3.IsWhole}
  {arg4 : Memref sig .tc .vmem S2048x1024 .bf16} {harg4 : arg4.IsWhole}
  {arg5 : Memref sig .tc .vmem S1024x1024 .bf16} {harg5 : arg5.IsWhole}
  {arg6 : Memref sig .tc .vmem S1024x1024 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S512x2048 .bf16} {harg11 : arg11.IsWhole}
  {arg12 : Memref sig .tc .vmem S4096x512 .bf16} {harg12 : arg12.IsWhole}
  {arg13 : Memref sig .tc .vmem S3x512x1024 .bf16} {harg13 : arg13.IsWhole}
  {arg14 : Memref sig .tc .vmem S256x1024 .f32} {harg14 : arg14.IsWhole}
  {arg15 : Memref sig .tc .vmem S256x1024 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S512x1024 .f32} {harg19 : arg19.IsWhole}
  {arg20 : Memref sig .tc .vmem S512x1024 .bf16} {harg20 : arg20.IsWhole}
  {arg21 : Memref sig .tc .vmem S512x1024 .f32} {harg21 : arg21.IsWhole}
  {arg22 : Memref sig .tc .vmem S512x1024 .bf16} {harg22 : arg22.IsWhole}
  {arg23 : Memref sig .tc .vmem S8x1024 .f32} {harg23 : arg23.IsWhole}
  {arg24 : Memref sig .tc .vmem S8x1024 .f32} {harg24 : arg24.IsWhole}
  {arg25 : Memref sig .tc .vmem S8x1024 .f32} {harg25 : arg25.IsWhole}
variable (I : In 512) (dk dv : Mat 256 1024) (gf gx ls : Mat 8 1024)

theorem B_r_1 : kernelRun0_B.sl.r_1 (F := Ideal) c arg10 harg10 (up2 (φ := .f32) I.gf) = up2 (φ := .f32) (I.gf) := by
  simp only [kernelRun0_B.sl.r_1, View.readAt_eq_ld, Memref.IsWhole.read_unread, ld_g]

theorem B_r_6 : kernelRun0_B.sl.r_6 (F := Ideal) c arg1 harg1 arg2 harg2 arg4 harg4 (up2 (φ := .f32) I.x) (up2 (φ := .bf16) I.c) (up2 (φ := .bf16) I.wo) = up2 (I.hi.x1) := by
  simp only [kernelRun0_B.sl.r_6, View.readAt_eq_ld, Memref.IsWhole.read_unread, ld_c_hi, ld_x_hi, ld_wo]
  exact pay20 _ _ _

theorem B_r : kernelRun0_B.sl.r (F := Ideal) c arg9 harg9 (up2 (φ := .f32) I.gx) = up2 (φ := .f32) (I.gx) := by
  simp only [kernelRun0_B.sl.r, View.readAt_eq_ld, Memref.IsWhole.read_unread, ld_g]

theorem B_r_5 : kernelRun0_B.sl.r_5 (F := Ideal) c arg1 harg1 arg2 harg2 arg4 harg4 arg5 harg5 arg9 harg9 (up2 (φ := .f32) I.x) (up2 (φ := .bf16) I.c) (up2 (φ := .bf16) I.wo) (up2 (φ := .bf16) I.wq) (up2 (φ := .f32) I.gx) = up2 (I.lo.q) := by
  simp only [kernelRun0_B.sl.r_5, View.readAt_eq_ld, Memref.IsWhole.read_unread, ld_g, ld_c_lo, ld_x_lo, ld_wo, ld_w]
  exact pay17 _ _ _ _ _

theorem B_HS1_2 : kernelRun0_B.sl.HS1_2 (F := Ideal) c arg1 harg1 arg2 harg2 arg4 harg4 arg5 harg5 arg9 harg9 (up2 (φ := .f32) I.x) (up2 (φ := .bf16) I.c) (up2 (φ := .bf16) I.wo) (up2 (φ := .bf16) I.wq) (up2 (φ := .f32) I.gx) = qL I := by
  simp only [kernelRun0_B.sl.HS1_2, View.readAt_eq_ld, Memref.IsWhole.read_unread, ld_c_hi, ld_x_hi, ld_wo, ld_w, B_r, B_r_5, pay18, pay25]
  rfl

theorem B_v228 : kernelRun0_B.sl.v228 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 3 I.hi.q) := by
  simp only [kernelRun0_B.sl.v228, B_HS1_2, rd_q_hi3]

theorem B_r_13 : kernelRun0_B.sl.r_13 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (expo (score (hd 3 I.hi.q) (hd 3 I.k))) := by
  simp only [kernelRun0_B.sl.r_13, View.readAt_eq_ld, Memref.IsWhole.read_unread, ld_hd3, B_v228]
  exact pay51 _ _

theorem B_r_14 : kernelRun0_B.sl.r_14 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (fun i _ => tot (expo (score (hd 3 I.hi.q) (hd 3 I.k))) i) := by
  simp only [kernelRun0_B.sl.r_14, View.readAt_eq_ld, Memref.IsWhole.read_unread, ld_hd3, B_v228]
  exact pay52 _ _

theorem B_v205 : kernelRun0_B.sl.v205 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 2 I.hi.q) := by
  simp only [kernelRun0_B.sl.v205, B_HS1_2, rd_q_hi2]

theorem B_v182 : kernelRun0_B.sl.v182 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 1 I.hi.q) := by
  simp only [kernelRun0_B.sl.v182, B_HS1_2, rd_q_hi1]

theorem B_v159 : kernelRun0_B.sl.v159 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 0 I.hi.q) := by
  simp only [kernelRun0_B.sl.v159, B_HS1_2, rd_q_hi0]

theorem B_r_11 : kernelRun0_B.sl.r_11 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (expo (score (hd 0 I.hi.q) (hd 0 I.k))) := by
  simp only [kernelRun0_B.sl.r_11, View.readAt_eq_ld, Memref.IsWhole.read_unread, ld_hd0, B_v159]
  exact pay40 _ _

theorem B_r_12 : kernelRun0_B.sl.r_12 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (fun i _ => tot (expo (score (hd 0 I.hi.q) (hd 0 I.k))) i) := by
  simp only [kernelRun0_B.sl.r_12, View.readAt_eq_ld, Memref.IsWhole.read_unread, ld_hd0, B_v159]
  exact pay41 _ _

theorem B_v136 : kernelRun0_B.sl.v136 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 3 I.lo.q) := by
  simp only [kernelRun0_B.sl.v136, B_HS1_2, rd_q_lo3]

theorem B_v113 : kernelRun0_B.sl.v113 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 2 I.lo.q) := by
  simp only [kernelRun0_B.sl.v113, B_HS1_2, rd_q_lo2]

theorem B_v90 : kernelRun0_B.sl.v90 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 1 I.lo.q) := by
  simp only [kernelRun0_B.sl.v90, B_HS1_2, rd_q_lo1]

theorem B_r_9 : kernelRun0_B.sl.r_9 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (expo (score (hd 1 I.lo.q) (hd 1 I.k))) := by
  simp only [kernelRun0_B.sl.r_9, View.readAt_eq_ld, Memref.IsWhole.read_unread, ld_hd1, B_v90]
  exact pay29 _ _

theorem B_r_10 : kernelRun0_B.sl.r_10 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (fun i _ => tot (expo (score (hd 1 I.lo.q) (hd 1 I.k))) i) := by
  simp only [kernelRun0_B.sl.r_10, View.readAt_eq_ld, Memref.IsWhole.read_unread, ld_hd1, B_v90]
  exact pay30 _ _

theorem B_v67 : kernelRun0_B.sl.v67 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 0 I.lo.q) := by
  simp only [kernelRun0_B.sl.v67, B_HS1_2, rd_q_lo0]

theorem B_HS2_8 : kernelRun0_B.sl.HS2_8 (F := Ideal) c arg1 harg1 arg2 harg2 arg4 harg4 arg5 harg5 arg7 harg7 arg8 harg8 arg9 harg9 arg20 (up2 (φ := .f32) I.x) (up2 (φ := .bf16) I.c) (up2 (φ := .bf16) I.wo) (up2 (φ := .bf16) I.wq) (up2 (φ := .bf16) I.k) (up2 (φ := .bf16) I.v) (up2 (φ := .f32) I.gx) = oL I := by
  simp only [kernelRun0_B.sl.HS2_8, View.readAt_eq_ld, Memref.IsWhole.read_unread, ld_hd3, ld_hd2, ld_hd1, ld_hd0, B_r_10, B_r_11, B_r_12, B_r_13, B_r_14, B_r_9, B_v113, B_v136, B_v182, B_v205, B_v67, pay28, pay33, pay36, pay39, pay44, pay47, pay50, pay55]
  rfl

theorem B_v293 : kernelRun0_B.sl.v293 (F := Ideal) c arg1 harg1 arg2 harg2 arg4 harg4 arg5 harg5 arg7 harg7 arg8 harg8 arg9 harg9 arg20 arg21 (up2 (φ := .f32) I.x) (up2 (φ := .bf16) I.c) (up2 (φ := .bf16) I.wo) (up2 (φ := .bf16) I.wq) (up2 (φ := .bf16) I.k) (up2 (φ := .bf16) I.v) (up2 (φ := .f32) I.gx) = up2 (φ := .f32) (I.hi.o) := by
  simp only [kernelRun0_B.sl.v293, B_HS2_8, rd_o_hi]

theorem B_r_22 : kernelRun0_B.sl.r_22 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (fun i _ => I.hi.r3 i) := by
  simp only [kernelRun0_B.sl.r_22, View.readAt_eq_ld, Memref.IsWhole.read_unread, ld_w, B_r_6, B_v293]
  exact pay68 _ _ _

theorem B_r_23 : kernelRun0_B.sl.r_23 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (I.hi.x2h) := by
  simp only [kernelRun0_B.sl.r_23, View.readAt_eq_ld, Memref.IsWhole.read_unread, ld_w, B_r_6, B_v293]
  exact pay69 _ _ _

theorem B_r_24 : kernelRun0_B.sl.r_24 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dy) := by
  simp only [kernelRun0_B.sl.r_24, View.readAt_eq_ld, Memref.IsWhole.read_unread, ld_w, ld_t_hi, B_r_1, B_r_6, B_v293]
  exact pay71 _ _ _ _ _

theorem B_r_26 : kernelRun0_B.sl.r_26 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dx2) := by
  simp only [kernelRun0_B.sl.r_26, B_r_1, B_r_22, B_r_23, B_r_24]
  exact pay73 _ _ _ _

theorem B_r_40 : kernelRun0_B.sl.r_40 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dx2) := by
  simp only [kernelRun0_B.sl.r_40, B_r_26]
  exact pay97 _

theorem B_r_2 : kernelRun0_B.sl.r_2 (F := Ideal) c arg1 harg1 arg2 harg2 arg4 harg4 (up2 (φ := .f32) I.x) (up2 (φ := .bf16) I.c) (up2 (φ := .bf16) I.wo) = up2 (I.lo.x1) := by
  simp only [kernelRun0_B.sl.r_2, View.readAt_eq_ld, Memref.IsWhole.read_unread, ld_c_lo, ld_x_lo, ld_wo]
  exact pay12 _ _ _

theorem B_v251 : kernelRun0_B.sl.v251 (F := Ideal) c arg1 harg1 arg2 harg2 arg4 harg4 arg5 harg5 arg7 harg7 arg8 harg8 arg9 harg9 arg20 arg21 (up2 (φ := .f32) I.x) (up2 (φ := .bf16) I.c) (up2 (φ := .bf16) I.wo) (up2 (φ := .bf16) I.wq) (up2 (φ := .bf16) I.k) (up2 (φ := .bf16) I.v) (up2 (φ := .f32) I.gx) = up2 (φ := .f32) (I.lo.o) := by
  simp only [kernelRun0_B.sl.v251, B_HS2_8, rd_o_lo]

theorem B_r_15 : kernelRun0_B.sl.r_15 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (fun i _ => I.lo.r3 i) := by
  simp only [kernelRun0_B.sl.r_15, View.readAt_eq_ld, Memref.IsWhole.read_unread, ld_w, B_r_2, B_v251]
  exact pay58 _ _ _

theorem B_r_16 : kernelRun0_B.sl.r_16 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (I.lo.x2h) := by
  simp only [kernelRun0_B.sl.r_16, View.readAt_eq_ld, Memref.IsWhole.read_unread, ld_w, B_r_2, B_v251]
  exact pay59 _ _ _

theorem B_r_17 : kernelRun0_B.sl.r_17 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dy) := by
  simp only [kernelRun0_B.sl.r_17, View.readAt_eq_ld, Memref.IsWhole.read_unread, ld_w, ld_t_lo, B_r_1, B_r_2, B_v251]
  exact pay61 _ _ _ _ _

theorem B_r_21 : kernelRun0_B.sl.r_21 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dx2) := by
  simp only [kernelRun0_B.sl.r_21, B_r_1, B_r_15, B_r_16, B_r_17]
  exact pay65 _ _ _ _

theorem B_r_27 : kernelRun0_B.sl.r_27 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dO) := by
  simp only [kernelRun0_B.sl.r_27, View.readAt_eq_ld, Memref.IsWhole.read_unread, ld_w, B_r_21]
  exact pay78 _ _

theorem B_HS0_8 : kernelRun0_B.sl.HS0_8 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = pL I := by
  simp only [kernelRun0_B.sl.HS0_8, View.readAt_eq_ld, Memref.IsWhole.read_unread, ld_hd2, ld_hd1, ld_hd3, ld_hd0, B_r_10, B_r_11, B_r_12, B_r_13, B_r_14, B_r_9, B_v113, B_v136, B_v182, B_v205, B_v67, pay27, pay32, pay35, pay38, pay43, pay46, pay49, pay54]
  rfl

theorem B_v381 : kernelRun0_B.sl.v381 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 1) := by
  simp only [kernelRun0_B.sl.v381, B_HS0_8, rd_p_lo1]

theorem B_r_32 : kernelRun0_B.sl.r_32 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.ds 1) := by
  simp only [kernelRun0_B.sl.r_32, View.readAt_eq_ld, Memref.IsWhole.read_unread, ld_hd1, B_r_27, B_v381]
  exact pay85 _ _ _

theorem B_v408 : kernelRun0_B.sl.v408 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 2) := by
  simp only [kernelRun0_B.sl.v408, B_HS0_8, rd_p_lo2]

theorem B_r_36 : kernelRun0_B.sl.r_36 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 2) (hd 2 I.lo.dO)) := by
  simp only [kernelRun0_B.sl.r_36, B_r_27, B_v408]
  exact pay91 _ _

theorem B_r_41 : kernelRun0_B.sl.r_41 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dO) := by
  simp only [kernelRun0_B.sl.r_41, View.readAt_eq_ld, Memref.IsWhole.read_unread, ld_w, B_r_40]
  exact pay99 _ _

theorem B_v527 : kernelRun0_B.sl.v527 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 2) := by
  simp only [kernelRun0_B.sl.v527, B_HS0_8, rd_p_hi2]

theorem B_r_50 : kernelRun0_B.sl.r_50 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 2) (hd 2 I.lo.dO)) (tmm (I.hi.p 2) (hd 2 I.hi.dO))) := by
  simp only [kernelRun0_B.sl.r_50, B_r_36, B_r_41, B_v527]
  exact pay112 _ _ _

theorem B_r_8 : kernelRun0_B.sl.r_8 (F := Ideal) c arg1 harg1 arg2 harg2 arg4 harg4 (up2 (φ := .f32) I.x) (up2 (φ := .bf16) I.c) (up2 (φ := .bf16) I.wo) = up2 (I.hi.x1h) := by
  simp only [kernelRun0_B.sl.r_8, View.readAt_eq_ld, Memref.IsWhole.read_unread, ld_c_hi, ld_x_hi, ld_wo]
  exact pay22 _ _ _

theorem B_r_4 : kernelRun0_B.sl.r_4 (F := Ideal) c arg1 harg1 arg2 harg2 arg4 harg4 (up2 (φ := .f32) I.x) (up2 (φ := .bf16) I.c) (up2 (φ := .bf16) I.wo) = up2 (I.lo.x1h) := by
  simp only [kernelRun0_B.sl.r_4, View.readAt_eq_ld, Memref.IsWhole.read_unread, ld_c_lo, ld_x_lo, ld_wo]
  exact pay14 _ _ _

theorem B_v556 : kernelRun0_B.sl.v556 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 3) := by
  simp only [kernelRun0_B.sl.v556, B_HS0_8, rd_p_hi3]

theorem B_r_48 : kernelRun0_B.sl.r_48 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.ds 2) := by
  simp only [kernelRun0_B.sl.r_48, View.readAt_eq_ld, Memref.IsWhole.read_unread, ld_hd2, B_r_41, B_v527]
  exact pay110 _ _ _

theorem B_r_49 : kernelRun0_B.sl.r_49 (F := Ideal) c arg7 harg7 (up2 (φ := .bf16) I.k) = up2 (φ := .bf16) (hd 2 I.k) := by
  simp only [kernelRun0_B.sl.r_49, View.readAt_eq_ld, Memref.IsWhole.read_unread, ld_hd2]

theorem B_v498 : kernelRun0_B.sl.v498 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 1) := by
  simp only [kernelRun0_B.sl.v498, B_HS0_8, rd_p_hi1]

theorem B_r_44 : kernelRun0_B.sl.r_44 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (mmT (hd 1 (mmT I.hi.dx2 I.wx)) (hd 1 I.v)) := by
  simp only [kernelRun0_B.sl.r_44, View.readAt_eq_ld, Memref.IsWhole.read_unread, ld_w, ld_hd1, B_r_40]
  exact pay104 _ _ _

theorem B_v469 : kernelRun0_B.sl.v469 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 0) := by
  simp only [kernelRun0_B.sl.v469, B_HS0_8, rd_p_hi0]

theorem B_v435 : kernelRun0_B.sl.v435 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 3) := by
  simp only [kernelRun0_B.sl.v435, B_HS0_8, rd_p_lo3]

theorem B_v354 : kernelRun0_B.sl.v354 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 0) := by
  simp only [kernelRun0_B.sl.v354, B_HS0_8, rd_p_lo0]

theorem B_r_28 : kernelRun0_B.sl.r_28 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (hd 0 I.lo.dO) := by
  simp only [kernelRun0_B.sl.r_28, View.readAt_eq_ld, Memref.IsWhole.read_unread, ld_w, B_r_21]
  exact pay79 _ _

theorem B_HS3_8 : kernelRun0_B.sl.HS3_8 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = dqL I := by
  simp only [kernelRun0_B.sl.HS3_8, View.readAt_eq_ld, Memref.IsWhole.read_unread, ld_hd3, ld_hd1, ld_w, ld_hd0, ld_hd2, B_r_27, B_r_28, B_r_32, B_r_40, B_r_41, B_r_44, B_r_48, B_r_49, B_v354, B_v408, B_v435, B_v469, B_v498, B_v556, pay81, pay86, pay90, pay94, pay101, pay106, pay111, pay115]
  rfl

theorem B_v617 : kernelRun0_B.sl.v617 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .bf16) (I.lo.dq) := by
  simp only [kernelRun0_B.sl.v617, B_HS3_8, rd_dq_lo]

theorem B_r_57 : kernelRun0_B.sl.r_57 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (fold8 (mulm (mmT I.lo.dq I.wq) I.lo.x1h)) := by
  simp only [kernelRun0_B.sl.r_57, View.readAt_eq_ld, Memref.IsWhole.read_unread, ld_w, B_r_4, B_v617]
  exact pay129 _ _ _

theorem B_v647 : kernelRun0_B.sl.v647 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .bf16) (I.hi.dq) := by
  simp only [kernelRun0_B.sl.v647, B_HS3_8, rd_dq_hi]

theorem B_r_59 : kernelRun0_B.sl.r_59 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (fold8 (mulm (mmT I.lo.dq I.wq) I.lo.x1h)) (fold8 (mulm (mmT I.hi.dq I.wq) I.hi.x1h))) := by
  simp only [kernelRun0_B.sl.r_59, View.readAt_eq_ld, Memref.IsWhole.read_unread, ld_w, B_r_57, B_r_8, B_v647]
  exact pay135 _ _ _ _

theorem B_r_3 : kernelRun0_B.sl.r_3 (F := Ideal) c arg1 harg1 arg2 harg2 arg4 harg4 (up2 (φ := .f32) I.x) (up2 (φ := .bf16) I.c) (up2 (φ := .bf16) I.wo) = up2 (fun i _ => I.lo.r2 i) := by
  simp only [kernelRun0_B.sl.r_3, View.readAt_eq_ld, Memref.IsWhole.read_unread, ld_c_lo, ld_x_lo, ld_wo]
  exact pay13 _ _ _

theorem B_r_61 : kernelRun0_B.sl.r_61 (F := Ideal) c arg4 harg4 (up2 (φ := .bf16) I.wo) = up2 (φ := .bf16) (I.wo) := by
  simp only [kernelRun0_B.sl.r_61, View.readAt_eq_ld, Memref.IsWhole.read_unread, ld_wo]

theorem B_r_30 : kernelRun0_B.sl.r_30 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (dscore (I.lo.p 0) (mmT (hd 0 I.lo.dO) (hd 0 I.v))) (hd 0 I.lo.q)) := by
  simp only [kernelRun0_B.sl.r_30, View.readAt_eq_ld, Memref.IsWhole.read_unread, ld_hd0, B_r_28, B_v354, B_v67]
  exact pay83 _ _ _ _

theorem B_r_31 : kernelRun0_B.sl.r_31 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.ds 1) := by
  simp only [kernelRun0_B.sl.r_31, View.readAt_eq_ld, Memref.IsWhole.read_unread, ld_hd1, B_r_27, B_v381]
  exact pay84 _ _ _

theorem B_r_34 : kernelRun0_B.sl.r_34 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.ds 1) (hd 1 I.lo.q)) := by
  simp only [kernelRun0_B.sl.r_34, B_r_31, B_v90]
  exact pay88 _ _

theorem B_r_46 : kernelRun0_B.sl.r_46 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.ds 1) (hd 1 I.lo.q)) (tmm (dscore (I.hi.p 1) (mmT (hd 1 (mmT I.hi.dx2 I.wx)) (hd 1 I.v))) (hd 1 I.hi.q))) := by
  simp only [kernelRun0_B.sl.r_46, B_r_34, B_r_44, B_v182, B_v498]
  exact pay108 _ _ _ _

theorem B_r_38 : kernelRun0_B.sl.r_38 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 3) (hd 3 I.lo.dO)) := by
  simp only [kernelRun0_B.sl.r_38, B_r_27, B_v435]
  exact pay95 _ _

theorem B_r_33 : kernelRun0_B.sl.r_33 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 1) (hd 1 I.lo.dO)) := by
  simp only [kernelRun0_B.sl.r_33, B_r_27, B_v381]
  exact pay87 _ _

theorem B_r_35 : kernelRun0_B.sl.r_35 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.ds 2) := by
  simp only [kernelRun0_B.sl.r_35, View.readAt_eq_ld, Memref.IsWhole.read_unread, ld_hd2, B_r_27, B_v408]
  exact pay89 _ _ _

theorem B_r_7 : kernelRun0_B.sl.r_7 (F := Ideal) c arg1 harg1 arg2 harg2 arg4 harg4 (up2 (φ := .f32) I.x) (up2 (φ := .bf16) I.c) (up2 (φ := .bf16) I.wo) = up2 (fun i _ => I.hi.r2 i) := by
  simp only [kernelRun0_B.sl.r_7, View.readAt_eq_ld, Memref.IsWhole.read_unread, ld_c_hi, ld_x_hi, ld_wo]
  exact pay21 _ _ _

theorem B_r_60 : kernelRun0_B.sl.r_60 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dx1) := by
  simp only [kernelRun0_B.sl.r_60, View.readAt_eq_ld, Memref.IsWhole.read_unread, ld_w, B_r, B_r_26, B_r_7, B_r_8, B_v647]
  exact pay136 _ _ _ _ _ _

theorem B_v593 : kernelRun0_B.sl.v593 (F := Ideal) c arg15 harg15 (up2 (φ := .f32) dv) = up2 (φ := .f32) (hd 1 dv) := by
  simp only [kernelRun0_B.sl.v593, View.readAt_eq_ld, Memref.IsWhole.read_unread, ld_hd1f]

theorem B_r_47 : kernelRun0_B.sl.r_47 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.ds 2) := by
  simp only [kernelRun0_B.sl.r_47, View.readAt_eq_ld, Memref.IsWhole.read_unread, ld_hd2, B_r_41, B_v527]
  exact pay109 _ _ _

theorem B_r_29 : kernelRun0_B.sl.r_29 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 0) (hd 0 I.lo.dO)) := by
  simp only [kernelRun0_B.sl.r_29, B_r_27, B_v354]
  exact pay82 _ _

theorem B_r_42 : kernelRun0_B.sl.r_42 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 0) (hd 0 I.lo.dO)) (tmm (I.hi.p 0) (hd 0 (mmT I.hi.dx2 I.wx)))) := by
  simp only [kernelRun0_B.sl.r_42, View.readAt_eq_ld, Memref.IsWhole.read_unread, ld_w, B_r_29, B_r_40, B_v469]
  exact pay102 _ _ _ _

theorem B_r_52 : kernelRun0_B.sl.r_52 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.ds 3) := by
  simp only [kernelRun0_B.sl.r_52, View.readAt_eq_ld, Memref.IsWhole.read_unread, ld_hd3, B_r_41, B_v556]
  exact pay114 _ _ _

theorem B_r_18 : kernelRun0_B.sl.r_18 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up3 (split8 (mulm I.lo.err I.lo.err)) := by
  simp only [kernelRun0_B.sl.r_18, View.readAt_eq_ld, Memref.IsWhole.read_unread, ld_w, ld_t_lo, B_r_1, B_r_2, B_v251]
  exact pay62 _ _ _ _ _

theorem B_r_19 : kernelRun0_B.sl.r_19 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (fold8 (mulm I.lo.err I.lo.err)) := by
  simp only [kernelRun0_B.sl.r_19, B_r_18]
  exact pay63 _

theorem B_r_37 : kernelRun0_B.sl.r_37 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.ds 2) (hd 2 I.lo.q)) := by
  simp only [kernelRun0_B.sl.r_37, B_r_35, B_v113]
  exact pay92 _ _

theorem B_r_51 : kernelRun0_B.sl.r_51 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.ds 2) (hd 2 I.lo.q)) (tmm (I.hi.ds 2) (hd 2 I.hi.q))) := by
  simp only [kernelRun0_B.sl.r_51, B_r_37, B_r_47, B_v205]
  exact pay113 _ _ _

theorem B_v605 : kernelRun0_B.sl.v605 (F := Ideal) c arg14 harg14 (up2 (φ := .f32) dk) = up2 (φ := .f32) (hd 2 dk) := by
  simp only [kernelRun0_B.sl.v605, View.readAt_eq_ld, Memref.IsWhole.read_unread, ld_hd2f]

theorem B_r_56 : kernelRun0_B.sl.r_56 (F := Ideal) c arg1 harg1 arg2 harg2 arg3 harg3 arg4 harg4 arg5 harg5 arg6 harg6 arg7 harg7 arg8 harg8 arg9 harg9 arg10 harg10 arg14 harg14 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) = up2 (addm (hd 2 dk) (addm (tmm (I.lo.ds 2) (hd 2 I.lo.q)) (tmm (I.hi.ds 2) (hd 2 I.hi.q)))) := by
  simp only [kernelRun0_B.sl.r_56, B_r_51, B_v605]
  exact pay124 _ _

theorem B_r_43 : kernelRun0_B.sl.r_43 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (dscore (I.lo.p 0) (mmT (hd 0 I.lo.dO) (hd 0 I.v))) (hd 0 I.lo.q)) (tmm (dscore (I.hi.p 0) (mmT (hd 0 (mmT I.hi.dx2 I.wx)) (hd 0 I.v))) (hd 0 I.hi.q))) := by
  simp only [kernelRun0_B.sl.r_43, View.readAt_eq_ld, Memref.IsWhole.read_unread, ld_w, ld_hd0, B_r_30, B_r_40, B_v159, B_v469]
  exact pay103 _ _ _ _ _ _

theorem B_r_39 : kernelRun0_B.sl.r_39 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (dscore (I.lo.p 3) (mmT (hd 3 I.lo.dO) (hd 3 I.v))) (hd 3 I.lo.q)) := by
  simp only [kernelRun0_B.sl.r_39, View.readAt_eq_ld, Memref.IsWhole.read_unread, ld_hd3, B_r_27, B_v136, B_v435]
  exact pay96 _ _ _ _

theorem B_r_55 : kernelRun0_B.sl.r_55 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (dscore (I.lo.p 3) (mmT (hd 3 I.lo.dO) (hd 3 I.v))) (hd 3 I.lo.q)) (tmm (I.hi.ds 3) (hd 3 I.hi.q))) := by
  simp only [kernelRun0_B.sl.r_55, B_r_39, B_r_52, B_v228]
  exact pay118 _ _ _

theorem B_v609 : kernelRun0_B.sl.v609 (F := Ideal) c arg15 harg15 (up2 (φ := .f32) dv) = up2 (φ := .f32) (hd 3 dv) := by
  simp only [kernelRun0_B.sl.v609, View.readAt_eq_ld, Memref.IsWhole.read_unread, ld_hd3f]

theorem B_v601 : kernelRun0_B.sl.v601 (F := Ideal) c arg15 harg15 (up2 (φ := .f32) dv) = up2 (φ := .f32) (hd 2 dv) := by
  simp only [kernelRun0_B.sl.v601, View.readAt_eq_ld, Memref.IsWhole.read_unread, ld_hd2f]

theorem B_r_53 : kernelRun0_B.sl.r_53 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.hi.p 3) (hd 3 I.hi.dO)) := by
  simp only [kernelRun0_B.sl.r_53, B_r_41, B_v556]
  exact pay116 _ _

theorem B_r_45 : kernelRun0_B.sl.r_45 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 1) (hd 1 I.lo.dO)) (tmm (I.hi.p 1) (hd 1 I.hi.dO))) := by
  simp only [kernelRun0_B.sl.r_45, B_r_33, B_r_41, B_v498]
  exact pay107 _ _ _

theorem B_r_58 : kernelRun0_B.sl.r_58 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dx1) := by
  simp only [kernelRun0_B.sl.r_58, View.readAt_eq_ld, Memref.IsWhole.read_unread, ld_w, B_r, B_r_21, B_r_3, B_r_4, B_v617]
  exact pay130 _ _ _ _ _ _

theorem B_r_54 : kernelRun0_B.sl.r_54 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 3) (hd 3 I.lo.dO)) (tmm (I.hi.p 3) (hd 3 I.hi.dO))) := by
  simp only [kernelRun0_B.sl.r_54, B_r_38, B_r_53]
  exact pay117 _ _

theorem B_r_20 : kernelRun0_B.sl.r_20 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (fold8 (mulm I.lo.dy I.lo.x2h)) := by
  simp only [kernelRun0_B.sl.r_20, B_r_16, B_r_17]
  exact pay64 _ _

theorem B_v597 : kernelRun0_B.sl.v597 (F := Ideal) c arg14 harg14 (up2 (φ := .f32) dk) = up2 (φ := .f32) (hd 1 dk) := by
  simp only [kernelRun0_B.sl.v597, View.readAt_eq_ld, Memref.IsWhole.read_unread, ld_hd1f]

theorem B_v613 : kernelRun0_B.sl.v613 (F := Ideal) c arg14 harg14 (up2 (φ := .f32) dk) = up2 (φ := .f32) (hd 3 dk) := by
  simp only [kernelRun0_B.sl.v613, View.readAt_eq_ld, Memref.IsWhole.read_unread, ld_hd3f]

theorem B_r_25 : kernelRun0_B.sl.r_25 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up3 (split8 (mulm I.hi.err I.hi.err)) := by
  simp only [kernelRun0_B.sl.r_25, View.readAt_eq_ld, Memref.IsWhole.read_unread, ld_w, ld_t_hi, B_r_1, B_r_6, B_v293]
  exact pay72 _ _ _ _ _

end Cert.Lift

end
-- ==== Proof.OutsB.lean ====
/- What the body leaves in its outputs and its running sums at the points between, on matrices. -/
module

public import proofs.«01_k».proof.Proof.Stores
public import proofs.«01_k».proof.Proof.Gen.KernelIdeal.Frame
public import proofs.«01_k».proof.Proof.WordsB

@[expose] public section

set_option maxRecDepth 16384

noncomputable section

namespace Cert.Lift

open Idealize.ShloMosaic Idealize.SL.Sem Cert.KernelIdeal Cert.KernelIdeal.Gen Cert.Spec Cert.Reals

variable {c : Dev nD}
  {arg1 : Memref sig .tc .vmem S512x1024 .f32} {harg1 : arg1.IsWhole}
  {arg2 : Memref sig .tc .vmem S512x2048 .bf16} {harg2 : arg2.IsWhole}
  {arg3 : Memref sig .tc .vmem S512x1024 .f32} {harg3 : arg3.IsWhole}
  {arg4 : Memref sig .tc .vmem S2048x1024 .bf16} {harg4 : arg4.IsWhole}
  {arg5 : Memref sig .tc .vmem S1024x1024 .bf16} {harg5 : arg5.IsWhole}
  {arg6 : Memref sig .tc .vmem S1024x1024 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S512x2048 .bf16} {harg11 : arg11.IsWhole}
  {arg12 : Memref sig .tc .vmem S4096x512 .bf16} {harg12 : arg12.IsWhole}
  {arg13 : Memref sig .tc .vmem S3x512x1024 .bf16} {harg13 : arg13.IsWhole}
  {arg14 : Memref sig .tc .vmem S256x1024 .f32} {harg14 : arg14.IsWhole}
  {arg15 : Memref sig .tc .vmem S256x1024 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S512x1024 .f32} {harg19 : arg19.IsWhole}
  {arg20 : Memref sig .tc .vmem S512x1024 .bf16} {harg20 : arg20.IsWhole}
  {arg21 : Memref sig .tc .vmem S512x1024 .f32} {harg21 : arg21.IsWhole}
  {arg22 : Memref sig .tc .vmem S512x1024 .bf16} {harg22 : arg22.IsWhole}
  {arg23 : Memref sig .tc .vmem S8x1024 .f32} {harg23 : arg23.IsWhole}
  {arg24 : Memref sig .tc .vmem S8x1024 .f32} {harg24 : arg24.IsWhole}
  {arg25 : Memref sig .tc .vmem S8x1024 .f32} {harg25 : arg25.IsWhole}
variable (I : In 512) (dk dv : Mat 256 1024) (gf gx ls : Mat 8 1024)

theorem B_out10 {i : grid0.Coords} (hc0 : ¬cond0_0 i) (hc1 : ¬cond0_1 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .bf16) I.dcat := by
  unfold out0_B_10
  rw [View.read_writes_junk_eq_canon]
  dsimp only [kernelRun0_B]
  simp only [View.readAt_eq_ld, Memref.IsWhole.read_unread, ld_wo, B_r_58, B_r_60, B_r_61, pay1, pay132, kernelRun0_B.sl.cst_403]
  exact canon_dcatL I

theorem B_out11 {i : grid0.Coords} (hc0 : ¬cond0_0 i) (hc1 : ¬cond0_1 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .bf16) I.actt := by
  unfold out0_B_11
  rw [View.read_writes_junk_eq_canon]
  dsimp only [kernelRun0_B]
  simp only [View.readAt_eq_ld, Memref.IsWhole.read_unread, ld_c_hi, ld_x_hi, ld_wo, ld_g, ld_c_lo, ld_x_lo, B_r, B_v251, B_v293, pay11, pay16, pay19, pay24, pay56, pay66]
  exact canon_acttL I

theorem B_out12 {i : grid0.Coords} (hc0 : ¬cond0_0 i) (hc1 : ¬cond0_1 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up3 (φ := .bf16) I.cot := by
  unfold out0_B_12
  rw [View.read_writes_junk_eq_canon]
  dsimp only [kernelRun0_B]
  simp only [View.readAt_eq_ld, Memref.IsWhole.read_unread, ld_w, B_r, B_r_21, B_r_26, B_r_58, B_r_7, B_r_8, B_v617, B_v647, pay77, pay98, pay127, pay131, pay133, pay137]
  exact canon_cotL I

theorem B_out13 {i : grid0.Coords} (hc0 : ¬cond0_0 i) (hc1 : ¬cond0_1 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm dk I.dk) := by
  unfold out0_B_13
  rw [View.read_writes_junk_eq_canon]
  dsimp only [kernelRun0_B]
  simp only [View.readAt_eq_ld, Memref.IsWhole.read_unread, ld_hd0f, B_r_43, B_r_46, B_r_55, B_r_56, B_v597, B_v613, pay120, pay122, pay126]
  rw [← dk_halves]
  exact canon_accL dk (fun h => addm (tmm (I.lo.ds h) (hd h I.lo.q)) (tmm (I.hi.ds h) (hd h I.hi.q)))

theorem B_out14 {i : grid0.Coords} (hc0 : ¬cond0_0 i) (hc1 : ¬cond0_1 i) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm dv I.dv) := by
  unfold out0_B_14
  rw [View.read_writes_junk_eq_canon]
  dsimp only [kernelRun0_B]
  simp only [View.readAt_eq_ld, Memref.IsWhole.read_unread, ld_hd0f, B_r_42, B_r_45, B_r_50, B_r_54, B_v593, B_v601, B_v609, pay119, pay121, pay123, pay125]
  rw [← dv_halves]
  exact canon_accL dv (fun h => addm (tmm (I.lo.p h) (hd h I.lo.dO)) (tmm (I.hi.p h) (hd h I.hi.dO)))

theorem B_sum4 {i : grid0.Coords} (hc0 : ¬cond0_0 i) (hc1 : ¬cond0_1 i) : sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm gf (part8 (mulm I.dy I.x2h))) := by
  unfold sout0_B_4
  rw [View.read_writes_junk_eq_canon]
  dsimp only [kernelRun0_B]
  simp only [View.readAt_eq_ld, Memref.IsWhole.read_unread, ld_8, B_r_20, B_r_23, B_r_24, pay75]
  exact canon_whole8 _ _

theorem B_sum5 {i : grid0.Coords} (hc0 : ¬cond0_0 i) (hc1 : ¬cond0_1 i) : sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm gx (part8 (mulm I.dh2 I.x1h))) := by
  unfold sout0_B_5
  rw [View.read_writes_junk_eq_canon]
  dsimp only [kernelRun0_B]
  simp only [View.readAt_eq_ld, Memref.IsWhole.read_unread, ld_8, B_r_59, pay2]
  exact canon_whole8 _ _

theorem B_sum6 {i : grid0.Coords} (hc0 : ¬cond0_0 i) (hc1 : ¬cond0_1 i) : sout0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm ls (part8 (mulm I.err I.err))) := by
  unfold sout0_B_6
  rw [View.read_writes_junk_eq_canon]
  dsimp only [kernelRun0_B]
  simp only [View.readAt_eq_ld, Memref.IsWhole.read_unread, ld_8, B_r_19, B_r_25, pay74]
  exact canon_whole8 _ _

end Cert.Lift

end
-- ==== Proof.WordsC.lean ====
/- What the values named by the kernel's body hold at the last point, on matrices. -/
module

public import proofs.«01_k».proof.Proof.Stores
public import proofs.«01_k».proof.Proof.Gen.KernelIdeal.Frame.RunC

@[expose] public section

set_option maxRecDepth 16384

noncomputable section

namespace Cert.Lift

open Idealize.ShloMosaic Idealize.SL.Sem Cert.KernelIdeal Cert.KernelIdeal.Gen Cert.Spec Cert.Reals

variable {c : Dev nD}
  {arg1 : Memref sig .tc .vmem S512x1024 .f32} {harg1 : arg1.IsWhole}
  {arg2 : Memref sig .tc .vmem S512x2048 .bf16} {harg2 : arg2.IsWhole}
  {arg3 : Memref sig .tc .vmem S512x1024 .f32} {harg3 : arg3.IsWhole}
  {arg4 : Memref sig .tc .vmem S2048x1024 .bf16} {harg4 : arg4.IsWhole}
  {arg5 : Memref sig .tc .vmem S1024x1024 .bf16} {harg5 : arg5.IsWhole}
  {arg6 : Memref sig .tc .vmem S1024x1024 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S512x2048 .bf16} {harg11 : arg11.IsWhole}
  {arg12 : Memref sig .tc .vmem S4096x512 .bf16} {harg12 : arg12.IsWhole}
  {arg13 : Memref sig .tc .vmem S3x512x1024 .bf16} {harg13 : arg13.IsWhole}
  {arg14 : Memref sig .tc .vmem S256x1024 .f32} {harg14 : arg14.IsWhole}
  {arg15 : Memref sig .tc .vmem S256x1024 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S512x1024 .f32} {harg19 : arg19.IsWhole}
  {arg20 : Memref sig .tc .vmem S512x1024 .bf16} {harg20 : arg20.IsWhole}
  {arg21 : Memref sig .tc .vmem S512x1024 .f32} {harg21 : arg21.IsWhole}
  {arg22 : Memref sig .tc .vmem S512x1024 .bf16} {harg22 : arg22.IsWhole}
  {arg23 : Memref sig .tc .vmem S8x1024 .f32} {harg23 : arg23.IsWhole}
  {arg24 : Memref sig .tc .vmem S8x1024 .f32} {harg24 : arg24.IsWhole}
  {arg25 : Memref sig .tc .vmem S8x1024 .f32} {harg25 : arg25.IsWhole}
variable (I : In 512) (dk dv : Mat 256 1024) (gf gx ls : Mat 8 1024)

theorem C_r_1 : kernelRun0_C.sl.r_1 (F := Ideal) c arg10 harg10 (up2 (φ := .f32) I.gf) = up2 (φ := .f32) (I.gf) := by
  simp only [kernelRun0_C.sl.r_1, View.readAt_eq_ld, Memref.IsWhole.read_unread, ld_g]

theorem C_r_2 : kernelRun0_C.sl.r_2 (F := Ideal) c arg1 harg1 arg2 harg2 arg4 harg4 (up2 (φ := .f32) I.x) (up2 (φ := .bf16) I.c) (up2 (φ := .bf16) I.wo) = up2 (I.lo.x1) := by
  simp only [kernelRun0_C.sl.r_2, View.readAt_eq_ld, Memref.IsWhole.read_unread, ld_c_lo, ld_x_lo, ld_wo]
  exact pay12 _ _ _

theorem C_r : kernelRun0_C.sl.r (F := Ideal) c arg9 harg9 (up2 (φ := .f32) I.gx) = up2 (φ := .f32) (I.gx) := by
  simp only [kernelRun0_C.sl.r, View.readAt_eq_ld, Memref.IsWhole.read_unread, ld_g]

theorem C_r_5 : kernelRun0_C.sl.r_5 (F := Ideal) c arg1 harg1 arg2 harg2 arg4 harg4 arg5 harg5 arg9 harg9 (up2 (φ := .f32) I.x) (up2 (φ := .bf16) I.c) (up2 (φ := .bf16) I.wo) (up2 (φ := .bf16) I.wq) (up2 (φ := .f32) I.gx) = up2 (I.lo.q) := by
  simp only [kernelRun0_C.sl.r_5, View.readAt_eq_ld, Memref.IsWhole.read_unread, ld_g, ld_c_lo, ld_x_lo, ld_wo, ld_w]
  exact pay17 _ _ _ _ _

theorem C_HS1_2 : kernelRun0_C.sl.HS1_2 (F := Ideal) c arg1 harg1 arg2 harg2 arg4 harg4 arg5 harg5 arg9 harg9 (up2 (φ := .f32) I.x) (up2 (φ := .bf16) I.c) (up2 (φ := .bf16) I.wo) (up2 (φ := .bf16) I.wq) (up2 (φ := .f32) I.gx) = qL I := by
  simp only [kernelRun0_C.sl.HS1_2, View.readAt_eq_ld, Memref.IsWhole.read_unread, ld_c_hi, ld_x_hi, ld_wo, ld_w, C_r, C_r_5, pay18, pay25]
  rfl

theorem C_v228 : kernelRun0_C.sl.v228 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 3 I.hi.q) := by
  simp only [kernelRun0_C.sl.v228, C_HS1_2, rd_q_hi3]

theorem C_r_13 : kernelRun0_C.sl.r_13 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (expo (score (hd 3 I.hi.q) (hd 3 I.k))) := by
  simp only [kernelRun0_C.sl.r_13, View.readAt_eq_ld, Memref.IsWhole.read_unread, ld_hd3, C_v228]
  exact pay51 _ _

theorem C_r_14 : kernelRun0_C.sl.r_14 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (fun i _ => tot (expo (score (hd 3 I.hi.q) (hd 3 I.k))) i) := by
  simp only [kernelRun0_C.sl.r_14, View.readAt_eq_ld, Memref.IsWhole.read_unread, ld_hd3, C_v228]
  exact pay52 _ _

theorem C_v205 : kernelRun0_C.sl.v205 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 2 I.hi.q) := by
  simp only [kernelRun0_C.sl.v205, C_HS1_2, rd_q_hi2]

theorem C_v182 : kernelRun0_C.sl.v182 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 1 I.hi.q) := by
  simp only [kernelRun0_C.sl.v182, C_HS1_2, rd_q_hi1]

theorem C_v159 : kernelRun0_C.sl.v159 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 0 I.hi.q) := by
  simp only [kernelRun0_C.sl.v159, C_HS1_2, rd_q_hi0]

theorem C_r_11 : kernelRun0_C.sl.r_11 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (expo (score (hd 0 I.hi.q) (hd 0 I.k))) := by
  simp only [kernelRun0_C.sl.r_11, View.readAt_eq_ld, Memref.IsWhole.read_unread, ld_hd0, C_v159]
  exact pay40 _ _

theorem C_r_12 : kernelRun0_C.sl.r_12 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (fun i _ => tot (expo (score (hd 0 I.hi.q) (hd 0 I.k))) i) := by
  simp only [kernelRun0_C.sl.r_12, View.readAt_eq_ld, Memref.IsWhole.read_unread, ld_hd0, C_v159]
  exact pay41 _ _

theorem C_v136 : kernelRun0_C.sl.v136 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 3 I.lo.q) := by
  simp only [kernelRun0_C.sl.v136, C_HS1_2, rd_q_lo3]

theorem C_v113 : kernelRun0_C.sl.v113 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 2 I.lo.q) := by
  simp only [kernelRun0_C.sl.v113, C_HS1_2, rd_q_lo2]

theorem C_v90 : kernelRun0_C.sl.v90 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 1 I.lo.q) := by
  simp only [kernelRun0_C.sl.v90, C_HS1_2, rd_q_lo1]

theorem C_r_9 : kernelRun0_C.sl.r_9 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (expo (score (hd 1 I.lo.q) (hd 1 I.k))) := by
  simp only [kernelRun0_C.sl.r_9, View.readAt_eq_ld, Memref.IsWhole.read_unread, ld_hd1, C_v90]
  exact pay29 _ _

theorem C_r_10 : kernelRun0_C.sl.r_10 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = up2 (fun i _ => tot (expo (score (hd 1 I.lo.q) (hd 1 I.k))) i) := by
  simp only [kernelRun0_C.sl.r_10, View.readAt_eq_ld, Memref.IsWhole.read_unread, ld_hd1, C_v90]
  exact pay30 _ _

theorem C_v67 : kernelRun0_C.sl.v67 (F := Ideal) c arg1 harg1 arg2 harg2 arg4 harg4 arg5 harg5 arg9 harg9 arg20 (up2 (φ := .f32) I.x) (up2 (φ := .bf16) I.c) (up2 (φ := .bf16) I.wo) (up2 (φ := .bf16) I.wq) (up2 (φ := .f32) I.gx) = up2 (φ := .bf16) (hd 0 I.lo.q) := by
  simp only [kernelRun0_C.sl.v67, C_HS1_2, rd_q_lo0]

theorem C_HS2_8 : kernelRun0_C.sl.HS2_8 (F := Ideal) c arg1 harg1 arg2 harg2 arg4 harg4 arg5 harg5 arg7 harg7 arg8 harg8 arg9 harg9 arg20 (up2 (φ := .f32) I.x) (up2 (φ := .bf16) I.c) (up2 (φ := .bf16) I.wo) (up2 (φ := .bf16) I.wq) (up2 (φ := .bf16) I.k) (up2 (φ := .bf16) I.v) (up2 (φ := .f32) I.gx) = oL I := by
  simp only [kernelRun0_C.sl.HS2_8, View.readAt_eq_ld, Memref.IsWhole.read_unread, ld_hd3, ld_hd2, ld_hd1, ld_hd0, C_r_10, C_r_11, C_r_12, C_r_13, C_r_14, C_r_9, C_v113, C_v136, C_v182, C_v205, C_v67, pay28, pay33, pay36, pay39, pay44, pay47, pay50, pay55]
  rfl

theorem C_v251 : kernelRun0_C.sl.v251 (F := Ideal) c arg1 harg1 arg2 harg2 arg4 harg4 arg5 harg5 arg7 harg7 arg8 harg8 arg9 harg9 arg20 arg21 (up2 (φ := .f32) I.x) (up2 (φ := .bf16) I.c) (up2 (φ := .bf16) I.wo) (up2 (φ := .bf16) I.wq) (up2 (φ := .bf16) I.k) (up2 (φ := .bf16) I.v) (up2 (φ := .f32) I.gx) = up2 (φ := .f32) (I.lo.o) := by
  simp only [kernelRun0_C.sl.v251, C_HS2_8, rd_o_lo]

theorem C_r_15 : kernelRun0_C.sl.r_15 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (fun i _ => I.lo.r3 i) := by
  simp only [kernelRun0_C.sl.r_15, View.readAt_eq_ld, Memref.IsWhole.read_unread, ld_w, C_r_2, C_v251]
  exact pay58 _ _ _

theorem C_r_16 : kernelRun0_C.sl.r_16 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (I.lo.x2h) := by
  simp only [kernelRun0_C.sl.r_16, View.readAt_eq_ld, Memref.IsWhole.read_unread, ld_w, C_r_2, C_v251]
  exact pay59 _ _ _

theorem C_r_17 : kernelRun0_C.sl.r_17 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dy) := by
  simp only [kernelRun0_C.sl.r_17, View.readAt_eq_ld, Memref.IsWhole.read_unread, ld_w, ld_t_lo, C_r_1, C_r_2, C_v251]
  exact pay61 _ _ _ _ _

theorem C_r_21 : kernelRun0_C.sl.r_21 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dx2) := by
  simp only [kernelRun0_C.sl.r_21, C_r_1, C_r_15, C_r_16, C_r_17]
  exact pay65 _ _ _ _

theorem C_r_27 : kernelRun0_C.sl.r_27 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dO) := by
  simp only [kernelRun0_C.sl.r_27, View.readAt_eq_ld, Memref.IsWhole.read_unread, ld_w, C_r_21]
  exact pay78 _ _

theorem C_HS0_8 : kernelRun0_C.sl.HS0_8 (F := Ideal) c arg1 harg1 arg2 harg2 arg4 harg4 arg5 harg5 arg7 harg7 arg9 harg9 arg20 (up2 (φ := .f32) I.x) (up2 (φ := .bf16) I.c) (up2 (φ := .bf16) I.wo) (up2 (φ := .bf16) I.wq) (up2 (φ := .bf16) I.k) (up2 (φ := .f32) I.gx) = pL I := by
  simp only [kernelRun0_C.sl.HS0_8, View.readAt_eq_ld, Memref.IsWhole.read_unread, ld_hd2, ld_hd1, ld_hd3, ld_hd0, C_r_10, C_r_11, C_r_12, C_r_13, C_r_14, C_r_9, C_v113, C_v136, C_v182, C_v205, C_v67, pay27, pay32, pay35, pay38, pay43, pay46, pay49, pay54]
  rfl

theorem C_v408 : kernelRun0_C.sl.v408 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 2) := by
  simp only [kernelRun0_C.sl.v408, C_HS0_8, rd_p_lo2]

theorem C_r_36 : kernelRun0_C.sl.r_36 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 2) (hd 2 I.lo.dO)) := by
  simp only [kernelRun0_C.sl.r_36, C_r_27, C_v408]
  exact pay91 _ _

theorem C_r_8 : kernelRun0_C.sl.r_8 (F := Ideal) c arg1 harg1 arg2 harg2 arg4 harg4 (up2 (φ := .f32) I.x) (up2 (φ := .bf16) I.c) (up2 (φ := .bf16) I.wo) = up2 (I.hi.x1h) := by
  simp only [kernelRun0_C.sl.r_8, View.readAt_eq_ld, Memref.IsWhole.read_unread, ld_c_hi, ld_x_hi, ld_wo]
  exact pay22 _ _ _

theorem C_r_4 : kernelRun0_C.sl.r_4 (F := Ideal) c arg1 harg1 arg2 harg2 arg4 harg4 (up2 (φ := .f32) I.x) (up2 (φ := .bf16) I.c) (up2 (φ := .bf16) I.wo) = up2 (I.lo.x1h) := by
  simp only [kernelRun0_C.sl.r_4, View.readAt_eq_ld, Memref.IsWhole.read_unread, ld_c_lo, ld_x_lo, ld_wo]
  exact pay14 _ _ _

theorem C_r_6 : kernelRun0_C.sl.r_6 (F := Ideal) c arg1 harg1 arg2 harg2 arg4 harg4 (up2 (φ := .f32) I.x) (up2 (φ := .bf16) I.c) (up2 (φ := .bf16) I.wo) = up2 (I.hi.x1) := by
  simp only [kernelRun0_C.sl.r_6, View.readAt_eq_ld, Memref.IsWhole.read_unread, ld_c_hi, ld_x_hi, ld_wo]
  exact pay20 _ _ _

theorem C_v293 : kernelRun0_C.sl.v293 (F := Ideal) c arg1 harg1 arg2 harg2 arg4 harg4 arg5 harg5 arg7 harg7 arg8 harg8 arg9 harg9 arg20 arg21 (up2 (φ := .f32) I.x) (up2 (φ := .bf16) I.c) (up2 (φ := .bf16) I.wo) (up2 (φ := .bf16) I.wq) (up2 (φ := .bf16) I.k) (up2 (φ := .bf16) I.v) (up2 (φ := .f32) I.gx) = up2 (φ := .f32) (I.hi.o) := by
  simp only [kernelRun0_C.sl.v293, C_HS2_8, rd_o_hi]

theorem C_r_22 : kernelRun0_C.sl.r_22 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (fun i _ => I.hi.r3 i) := by
  simp only [kernelRun0_C.sl.r_22, View.readAt_eq_ld, Memref.IsWhole.read_unread, ld_w, C_r_6, C_v293]
  exact pay68 _ _ _

theorem C_r_23 : kernelRun0_C.sl.r_23 (F := Ideal) c arg1 harg1 arg2 harg2 arg4 harg4 arg5 harg5 arg6 harg6 arg7 harg7 arg8 harg8 arg9 harg9 arg20 arg21 (up2 (φ := .f32) I.x) (up2 (φ := .bf16) I.c) (up2 (φ := .bf16) I.wo) (up2 (φ := .bf16) I.wq) (up2 (φ := .bf16) I.wx) (up2 (φ := .bf16) I.k) (up2 (φ := .bf16) I.v) (up2 (φ := .f32) I.gx) = up2 (I.hi.x2h) := by
  simp only [kernelRun0_C.sl.r_23, View.readAt_eq_ld, Memref.IsWhole.read_unread, ld_w, C_r_6, C_v293]
  exact pay69 _ _ _

theorem C_r_24 : kernelRun0_C.sl.r_24 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dy) := by
  simp only [kernelRun0_C.sl.r_24, View.readAt_eq_ld, Memref.IsWhole.read_unread, ld_w, ld_t_hi, C_r_1, C_r_6, C_v293]
  exact pay71 _ _ _ _ _

theorem C_r_26 : kernelRun0_C.sl.r_26 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dx2) := by
  simp only [kernelRun0_C.sl.r_26, C_r_1, C_r_22, C_r_23, C_r_24]
  exact pay73 _ _ _ _

theorem C_r_40 : kernelRun0_C.sl.r_40 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dx2) := by
  simp only [kernelRun0_C.sl.r_40, C_r_26]
  exact pay97 _

theorem C_r_41 : kernelRun0_C.sl.r_41 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dO) := by
  simp only [kernelRun0_C.sl.r_41, View.readAt_eq_ld, Memref.IsWhole.read_unread, ld_w, C_r_40]
  exact pay99 _ _

theorem C_v556 : kernelRun0_C.sl.v556 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 3) := by
  simp only [kernelRun0_C.sl.v556, C_HS0_8, rd_p_hi3]

theorem C_v527 : kernelRun0_C.sl.v527 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 2) := by
  simp only [kernelRun0_C.sl.v527, C_HS0_8, rd_p_hi2]

theorem C_r_48 : kernelRun0_C.sl.r_48 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.ds 2) := by
  simp only [kernelRun0_C.sl.r_48, View.readAt_eq_ld, Memref.IsWhole.read_unread, ld_hd2, C_r_41, C_v527]
  exact pay110 _ _ _

theorem C_r_49 : kernelRun0_C.sl.r_49 (F := Ideal) c arg7 harg7 (up2 (φ := .bf16) I.k) = up2 (φ := .bf16) (hd 2 I.k) := by
  simp only [kernelRun0_C.sl.r_49, View.readAt_eq_ld, Memref.IsWhole.read_unread, ld_hd2]

theorem C_v498 : kernelRun0_C.sl.v498 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 1) := by
  simp only [kernelRun0_C.sl.v498, C_HS0_8, rd_p_hi1]

theorem C_r_44 : kernelRun0_C.sl.r_44 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (mmT (hd 1 (mmT I.hi.dx2 I.wx)) (hd 1 I.v)) := by
  simp only [kernelRun0_C.sl.r_44, View.readAt_eq_ld, Memref.IsWhole.read_unread, ld_w, ld_hd1, C_r_40]
  exact pay104 _ _ _

theorem C_v469 : kernelRun0_C.sl.v469 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.hi.p 0) := by
  simp only [kernelRun0_C.sl.v469, C_HS0_8, rd_p_hi0]

theorem C_v435 : kernelRun0_C.sl.v435 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 3) := by
  simp only [kernelRun0_C.sl.v435, C_HS0_8, rd_p_lo3]

theorem C_v381 : kernelRun0_C.sl.v381 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 1) := by
  simp only [kernelRun0_C.sl.v381, C_HS0_8, rd_p_lo1]

theorem C_r_32 : kernelRun0_C.sl.r_32 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.ds 1) := by
  simp only [kernelRun0_C.sl.r_32, View.readAt_eq_ld, Memref.IsWhole.read_unread, ld_hd1, C_r_27, C_v381]
  exact pay85 _ _ _

theorem C_v354 : kernelRun0_C.sl.v354 (F := Ideal) c arg1 harg1 arg2 harg2 arg4 harg4 arg5 harg5 arg7 harg7 arg9 harg9 arg19 arg20 (up2 (φ := .f32) I.x) (up2 (φ := .bf16) I.c) (up2 (φ := .bf16) I.wo) (up2 (φ := .bf16) I.wq) (up2 (φ := .bf16) I.k) (up2 (φ := .f32) I.gx) = up2 (φ := .f32) (I.lo.p 0) := by
  simp only [kernelRun0_C.sl.v354, C_HS0_8, rd_p_lo0]

theorem C_r_28 : kernelRun0_C.sl.r_28 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (hd 0 I.lo.dO) := by
  simp only [kernelRun0_C.sl.r_28, View.readAt_eq_ld, Memref.IsWhole.read_unread, ld_w, C_r_21]
  exact pay79 _ _

theorem C_HS3_8 : kernelRun0_C.sl.HS3_8 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = dqL I := by
  simp only [kernelRun0_C.sl.HS3_8, View.readAt_eq_ld, Memref.IsWhole.read_unread, ld_hd3, ld_hd1, ld_w, ld_hd0, ld_hd2, C_r_27, C_r_28, C_r_32, C_r_40, C_r_41, C_r_44, C_r_48, C_r_49, C_v354, C_v408, C_v435, C_v469, C_v498, C_v556, pay81, pay86, pay90, pay94, pay101, pay106, pay111, pay115]
  rfl

theorem C_v617 : kernelRun0_C.sl.v617 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .bf16) (I.lo.dq) := by
  simp only [kernelRun0_C.sl.v617, C_HS3_8, rd_dq_lo]

theorem C_r_57 : kernelRun0_C.sl.r_57 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (fold8 (mulm (mmT I.lo.dq I.wq) I.lo.x1h)) := by
  simp only [kernelRun0_C.sl.r_57, View.readAt_eq_ld, Memref.IsWhole.read_unread, ld_w, C_r_4, C_v617]
  exact pay129 _ _ _

theorem C_v647 : kernelRun0_C.sl.v647 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (φ := .bf16) (I.hi.dq) := by
  simp only [kernelRun0_C.sl.v647, C_HS3_8, rd_dq_hi]

theorem C_r_59 : kernelRun0_C.sl.r_59 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (fold8 (mulm (mmT I.lo.dq I.wq) I.lo.x1h)) (fold8 (mulm (mmT I.hi.dq I.wq) I.hi.x1h))) := by
  simp only [kernelRun0_C.sl.r_59, View.readAt_eq_ld, Memref.IsWhole.read_unread, ld_w, C_r_57, C_r_8, C_v647]
  exact pay135 _ _ _ _

theorem C_v690 : kernelRun0_C.sl.v690 (F := Ideal) c arg1 harg1 arg2 harg2 arg3 harg3 arg4 harg4 arg5 harg5 arg6 harg6 arg7 harg7 arg8 harg8 arg9 harg9 arg10 harg10 arg19 arg20 arg21 arg22 arg24 harg24 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) gx) = up2 (φ := .f32) (addm gx (part8 (mulm I.dh2 I.x1h))) := by
  simp only [kernelRun0_C.sl.v690, kernelRun0_C.sl.HS5_1, View.readAt_eq_ld, Memref.IsWhole.read_unread, ld_8, C_r_59, pay2]
  exact readCov_whole8 _ _

theorem C_r_39 : kernelRun0_C.sl.r_39 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (dscore (I.lo.p 3) (mmT (hd 3 I.lo.dO) (hd 3 I.v))) (hd 3 I.lo.q)) := by
  simp only [kernelRun0_C.sl.r_39, View.readAt_eq_ld, Memref.IsWhole.read_unread, ld_hd3, C_r_27, C_v136, C_v435]
  exact pay96 _ _ _ _

theorem C_r_52 : kernelRun0_C.sl.r_52 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.ds 3) := by
  simp only [kernelRun0_C.sl.r_52, View.readAt_eq_ld, Memref.IsWhole.read_unread, ld_hd3, C_r_41, C_v556]
  exact pay114 _ _ _

theorem C_r_55 : kernelRun0_C.sl.r_55 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (dscore (I.lo.p 3) (mmT (hd 3 I.lo.dO) (hd 3 I.v))) (hd 3 I.lo.q)) (tmm (I.hi.ds 3) (hd 3 I.hi.q))) := by
  simp only [kernelRun0_C.sl.r_55, C_r_39, C_r_52, C_v228]
  exact pay118 _ _ _

theorem C_r_20 : kernelRun0_C.sl.r_20 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (fold8 (mulm I.lo.dy I.lo.x2h)) := by
  simp only [kernelRun0_C.sl.r_20, C_r_16, C_r_17]
  exact pay64 _ _

theorem C_v686 : kernelRun0_C.sl.v686 (F := Ideal) c arg1 harg1 arg2 harg2 arg3 harg3 arg4 harg4 arg5 harg5 arg6 harg6 arg7 harg7 arg8 harg8 arg9 harg9 arg10 harg10 arg20 arg21 arg23 harg23 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) gf) = up2 (φ := .f32) (addm gf (part8 (mulm I.dy I.x2h))) := by
  simp only [kernelRun0_C.sl.v686, kernelRun0_C.sl.HS4_1, View.readAt_eq_ld, Memref.IsWhole.read_unread, ld_8, C_r_20, C_r_23, C_r_24, pay75]
  exact readCov_whole8 _ _

theorem C_r_7 : kernelRun0_C.sl.r_7 (F := Ideal) c arg1 harg1 arg2 harg2 arg4 harg4 (up2 (φ := .f32) I.x) (up2 (φ := .bf16) I.c) (up2 (φ := .bf16) I.wo) = up2 (fun i _ => I.hi.r2 i) := by
  simp only [kernelRun0_C.sl.r_7, View.readAt_eq_ld, Memref.IsWhole.read_unread, ld_c_hi, ld_x_hi, ld_wo]
  exact pay21 _ _ _

theorem C_r_3 : kernelRun0_C.sl.r_3 (F := Ideal) c arg1 harg1 arg2 harg2 arg4 harg4 (up2 (φ := .f32) I.x) (up2 (φ := .bf16) I.c) (up2 (φ := .bf16) I.wo) = up2 (fun i _ => I.lo.r2 i) := by
  simp only [kernelRun0_C.sl.r_3, View.readAt_eq_ld, Memref.IsWhole.read_unread, ld_c_lo, ld_x_lo, ld_wo]
  exact pay13 _ _ _

theorem C_r_58 : kernelRun0_C.sl.r_58 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.dx1) := by
  simp only [kernelRun0_C.sl.r_58, View.readAt_eq_ld, Memref.IsWhole.read_unread, ld_w, C_r, C_r_21, C_r_3, C_r_4, C_v617]
  exact pay130 _ _ _ _ _ _

theorem C_r_60 : kernelRun0_C.sl.r_60 (F := Ideal) c arg1 harg1 arg2 harg2 arg3 harg3 arg4 harg4 arg5 harg5 arg6 harg6 arg7 harg7 arg8 harg8 arg9 harg9 arg10 harg10 arg19 arg20 arg21 arg22 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.dx1) := by
  simp only [kernelRun0_C.sl.r_60, View.readAt_eq_ld, Memref.IsWhole.read_unread, ld_w, C_r, C_r_26, C_r_7, C_r_8, C_v647]
  exact pay136 _ _ _ _ _ _

theorem C_r_18 : kernelRun0_C.sl.r_18 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up3 (split8 (mulm I.lo.err I.lo.err)) := by
  simp only [kernelRun0_C.sl.r_18, View.readAt_eq_ld, Memref.IsWhole.read_unread, ld_w, ld_t_lo, C_r_1, C_r_2, C_v251]
  exact pay62 _ _ _ _ _

theorem C_r_19 : kernelRun0_C.sl.r_19 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (fold8 (mulm I.lo.err I.lo.err)) := by
  simp only [kernelRun0_C.sl.r_19, C_r_18]
  exact pay63 _

theorem C_r_25 : kernelRun0_C.sl.r_25 (F := Ideal) c arg1 harg1 arg2 harg2 arg3 harg3 arg4 harg4 arg5 harg5 arg6 harg6 arg7 harg7 arg8 harg8 arg9 harg9 arg10 harg10 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up3 (split8 (mulm I.hi.err I.hi.err)) := by
  simp only [kernelRun0_C.sl.r_25, View.readAt_eq_ld, Memref.IsWhole.read_unread, ld_w, ld_t_hi, C_r_1, C_r_6, C_v293]
  exact pay72 _ _ _ _ _

theorem C_v694 : kernelRun0_C.sl.v694 (F := Ideal) c arg1 harg1 arg2 harg2 arg3 harg3 arg4 harg4 arg5 harg5 arg6 harg6 arg7 harg7 arg8 harg8 arg9 harg9 arg10 harg10 arg20 arg21 arg25 harg25 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) ls) = up2 (φ := .f32) (addm ls (part8 (mulm I.err I.err))) := by
  simp only [kernelRun0_C.sl.v694, kernelRun0_C.sl.HS6_1, View.readAt_eq_ld, Memref.IsWhole.read_unread, ld_8, C_r_19, C_r_25, pay74]
  exact readCov_whole8 _ _

theorem C_r_50 : kernelRun0_C.sl.r_50 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 2) (hd 2 I.lo.dO)) (tmm (I.hi.p 2) (hd 2 I.hi.dO))) := by
  simp only [kernelRun0_C.sl.r_50, C_r_36, C_r_41, C_v527]
  exact pay112 _ _ _

theorem C_r_35 : kernelRun0_C.sl.r_35 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.ds 2) := by
  simp only [kernelRun0_C.sl.r_35, View.readAt_eq_ld, Memref.IsWhole.read_unread, ld_hd2, C_r_27, C_v408]
  exact pay89 _ _ _

theorem C_r_29 : kernelRun0_C.sl.r_29 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 0) (hd 0 I.lo.dO)) := by
  simp only [kernelRun0_C.sl.r_29, C_r_27, C_v354]
  exact pay82 _ _

theorem C_r_37 : kernelRun0_C.sl.r_37 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.ds 2) (hd 2 I.lo.q)) := by
  simp only [kernelRun0_C.sl.r_37, C_r_35, C_v113]
  exact pay92 _ _

theorem C_r_47 : kernelRun0_C.sl.r_47 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.hi.ds 2) := by
  simp only [kernelRun0_C.sl.r_47, View.readAt_eq_ld, Memref.IsWhole.read_unread, ld_hd2, C_r_41, C_v527]
  exact pay109 _ _ _

theorem C_r_51 : kernelRun0_C.sl.r_51 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.ds 2) (hd 2 I.lo.q)) (tmm (I.hi.ds 2) (hd 2 I.hi.q))) := by
  simp only [kernelRun0_C.sl.r_51, C_r_37, C_r_47, C_v205]
  exact pay113 _ _ _

theorem C_r_61 : kernelRun0_C.sl.r_61 (F := Ideal) c arg4 harg4 (up2 (φ := .bf16) I.wo) = up2 (φ := .bf16) (I.wo) := by
  simp only [kernelRun0_C.sl.r_61, View.readAt_eq_ld, Memref.IsWhole.read_unread, ld_wo]

theorem C_r_38 : kernelRun0_C.sl.r_38 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 3) (hd 3 I.lo.dO)) := by
  simp only [kernelRun0_C.sl.r_38, C_r_27, C_v435]
  exact pay95 _ _

theorem C_r_53 : kernelRun0_C.sl.r_53 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.hi.p 3) (hd 3 I.hi.dO)) := by
  simp only [kernelRun0_C.sl.r_53, C_r_41, C_v556]
  exact pay116 _ _

theorem C_r_54 : kernelRun0_C.sl.r_54 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 3) (hd 3 I.lo.dO)) (tmm (I.hi.p 3) (hd 3 I.hi.dO))) := by
  simp only [kernelRun0_C.sl.r_54, C_r_38, C_r_53]
  exact pay117 _ _

theorem C_r_31 : kernelRun0_C.sl.r_31 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (I.lo.ds 1) := by
  simp only [kernelRun0_C.sl.r_31, View.readAt_eq_ld, Memref.IsWhole.read_unread, ld_hd1, C_r_27, C_v381]
  exact pay84 _ _ _

theorem C_v605 : kernelRun0_C.sl.v605 (F := Ideal) c arg14 harg14 (up2 (φ := .f32) dk) = up2 (φ := .f32) (hd 2 dk) := by
  simp only [kernelRun0_C.sl.v605, View.readAt_eq_ld, Memref.IsWhole.read_unread, ld_hd2f]

theorem C_r_56 : kernelRun0_C.sl.r_56 (F := Ideal) c arg1 harg1 arg2 harg2 arg3 harg3 arg4 harg4 arg5 harg5 arg6 harg6 arg7 harg7 arg8 harg8 arg9 harg9 arg10 harg10 arg14 harg14 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) = up2 (addm (hd 2 dk) (addm (tmm (I.lo.ds 2) (hd 2 I.lo.q)) (tmm (I.hi.ds 2) (hd 2 I.hi.q)))) := by
  simp only [kernelRun0_C.sl.r_56, C_r_51, C_v605]
  exact pay124 _ _

theorem C_r_33 : kernelRun0_C.sl.r_33 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.p 1) (hd 1 I.lo.dO)) := by
  simp only [kernelRun0_C.sl.r_33, C_r_27, C_v381]
  exact pay87 _ _

theorem C_r_45 : kernelRun0_C.sl.r_45 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 1) (hd 1 I.lo.dO)) (tmm (I.hi.p 1) (hd 1 I.hi.dO))) := by
  simp only [kernelRun0_C.sl.r_45, C_r_33, C_r_41, C_v498]
  exact pay107 _ _ _

theorem C_v597 : kernelRun0_C.sl.v597 (F := Ideal) c arg14 harg14 (up2 (φ := .f32) dk) = up2 (φ := .f32) (hd 1 dk) := by
  simp only [kernelRun0_C.sl.v597, View.readAt_eq_ld, Memref.IsWhole.read_unread, ld_hd1f]

theorem C_r_34 : kernelRun0_C.sl.r_34 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (I.lo.ds 1) (hd 1 I.lo.q)) := by
  simp only [kernelRun0_C.sl.r_34, C_r_31, C_v90]
  exact pay88 _ _

theorem C_v601 : kernelRun0_C.sl.v601 (F := Ideal) c arg15 harg15 (up2 (φ := .f32) dv) = up2 (φ := .f32) (hd 2 dv) := by
  simp only [kernelRun0_C.sl.v601, View.readAt_eq_ld, Memref.IsWhole.read_unread, ld_hd2f]

theorem C_v609 : kernelRun0_C.sl.v609 (F := Ideal) c arg15 harg15 (up2 (φ := .f32) dv) = up2 (φ := .f32) (hd 3 dv) := by
  simp only [kernelRun0_C.sl.v609, View.readAt_eq_ld, Memref.IsWhole.read_unread, ld_hd3f]

theorem C_r_42 : kernelRun0_C.sl.r_42 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.p 0) (hd 0 I.lo.dO)) (tmm (I.hi.p 0) (hd 0 (mmT I.hi.dx2 I.wx)))) := by
  simp only [kernelRun0_C.sl.r_42, View.readAt_eq_ld, Memref.IsWhole.read_unread, ld_w, C_r_29, C_r_40, C_v469]
  exact pay102 _ _ _ _

theorem C_r_46 : kernelRun0_C.sl.r_46 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (I.lo.ds 1) (hd 1 I.lo.q)) (tmm (dscore (I.hi.p 1) (mmT (hd 1 (mmT I.hi.dx2 I.wx)) (hd 1 I.v))) (hd 1 I.hi.q))) := by
  simp only [kernelRun0_C.sl.r_46, C_r_34, C_r_44, C_v182, C_v498]
  exact pay108 _ _ _ _

theorem C_v613 : kernelRun0_C.sl.v613 (F := Ideal) c arg14 harg14 (up2 (φ := .f32) dk) = up2 (φ := .f32) (hd 3 dk) := by
  simp only [kernelRun0_C.sl.v613, View.readAt_eq_ld, Memref.IsWhole.read_unread, ld_hd3f]

theorem C_v593 : kernelRun0_C.sl.v593 (F := Ideal) c arg15 harg15 (up2 (φ := .f32) dv) = up2 (φ := .f32) (hd 1 dv) := by
  simp only [kernelRun0_C.sl.v593, View.readAt_eq_ld, Memref.IsWhole.read_unread, ld_hd1f]

theorem C_r_30 : kernelRun0_C.sl.r_30 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (tmm (dscore (I.lo.p 0) (mmT (hd 0 I.lo.dO) (hd 0 I.v))) (hd 0 I.lo.q)) := by
  simp only [kernelRun0_C.sl.r_30, View.readAt_eq_ld, Memref.IsWhole.read_unread, ld_hd0, C_r_28, C_v354, C_v67]
  exact pay83 _ _ _ _

theorem C_r_43 : kernelRun0_C.sl.r_43 (F := Ideal) c arg1 harg1 arg2 harg2 arg3 harg3 arg4 harg4 arg5 harg5 arg6 harg6 arg7 harg7 arg8 harg8 arg9 harg9 arg10 harg10 arg19 arg20 arg21 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) = up2 (addm (tmm (dscore (I.lo.p 0) (mmT (hd 0 I.lo.dO) (hd 0 I.v))) (hd 0 I.lo.q)) (tmm (dscore (I.hi.p 0) (mmT (hd 0 (mmT I.hi.dx2 I.wx)) (hd 0 I.v))) (hd 0 I.hi.q))) := by
  simp only [kernelRun0_C.sl.r_43, View.readAt_eq_ld, Memref.IsWhole.read_unread, ld_w, ld_hd0, C_r_30, C_r_40, C_v159, C_v469]
  exact pay103 _ _ _ _ _ _

end Cert.Lift

end
-- ==== Proof.OutsC.lean ====
/- What the body leaves in its outputs and its running sums at the last point, on matrices. -/
module

public import proofs.«01_k».proof.Proof.Stores
public import proofs.«01_k».proof.Proof.Gen.KernelIdeal.Frame
public import proofs.«01_k».proof.Proof.WordsC

@[expose] public section

set_option maxRecDepth 16384

noncomputable section

namespace Cert.Lift

open Idealize.ShloMosaic Idealize.SL.Sem Cert.KernelIdeal Cert.KernelIdeal.Gen Cert.Spec Cert.Reals

variable {c : Dev nD}
  {arg1 : Memref sig .tc .vmem S512x1024 .f32} {harg1 : arg1.IsWhole}
  {arg2 : Memref sig .tc .vmem S512x2048 .bf16} {harg2 : arg2.IsWhole}
  {arg3 : Memref sig .tc .vmem S512x1024 .f32} {harg3 : arg3.IsWhole}
  {arg4 : Memref sig .tc .vmem S2048x1024 .bf16} {harg4 : arg4.IsWhole}
  {arg5 : Memref sig .tc .vmem S1024x1024 .bf16} {harg5 : arg5.IsWhole}
  {arg6 : Memref sig .tc .vmem S1024x1024 .bf16} {harg6 : arg6.IsWhole}
  {arg7 : Memref sig .tc .vmem S256x1024 .bf16} {harg7 : arg7.IsWhole}
  {arg8 : Memref sig .tc .vmem S256x1024 .bf16} {harg8 : arg8.IsWhole}
  {arg9 : Memref sig .tc .vmem S1x1024 .f32} {harg9 : arg9.IsWhole}
  {arg10 : Memref sig .tc .vmem S1x1024 .f32} {harg10 : arg10.IsWhole}
  {arg11 : Memref sig .tc .vmem S512x2048 .bf16} {harg11 : arg11.IsWhole}
  {arg12 : Memref sig .tc .vmem S4096x512 .bf16} {harg12 : arg12.IsWhole}
  {arg13 : Memref sig .tc .vmem S3x512x1024 .bf16} {harg13 : arg13.IsWhole}
  {arg14 : Memref sig .tc .vmem S256x1024 .f32} {harg14 : arg14.IsWhole}
  {arg15 : Memref sig .tc .vmem S256x1024 .f32} {harg15 : arg15.IsWhole}
  {arg16 : Memref sig .tc .vmem S1x1024 .f32} {harg16 : arg16.IsWhole}
  {arg17 : Memref sig .tc .vmem S1x1024 .f32} {harg17 : arg17.IsWhole}
  {arg18 : Memref sig .tc .vmem S1x1024 .f32} {harg18 : arg18.IsWhole}
  {arg19 : Memref sig .tc .vmem S512x1024 .f32} {harg19 : arg19.IsWhole}
  {arg20 : Memref sig .tc .vmem S512x1024 .bf16} {harg20 : arg20.IsWhole}
  {arg21 : Memref sig .tc .vmem S512x1024 .f32} {harg21 : arg21.IsWhole}
  {arg22 : Memref sig .tc .vmem S512x1024 .bf16} {harg22 : arg22.IsWhole}
  {arg23 : Memref sig .tc .vmem S8x1024 .f32} {harg23 : arg23.IsWhole}
  {arg24 : Memref sig .tc .vmem S8x1024 .f32} {harg24 : arg24.IsWhole}
  {arg25 : Memref sig .tc .vmem S8x1024 .f32} {harg25 : arg25.IsWhole}
variable (I : In 512) (dk dv : Mat 256 1024) (gf gx ls : Mat 8 1024)

theorem C_out10 {i : grid0.Coords} (hc0 : ¬cond0_0 i) (hc1 : cond0_1 i) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .bf16) I.dcat := by
  unfold out0_C_10
  rw [View.read_writes_junk_eq_canon]
  dsimp only [kernelRun0_C]
  simp only [View.readAt_eq_ld, Memref.IsWhole.read_unread, ld_wo, C_r_58, C_r_60, C_r_61, pay1, pay132, kernelRun0_C.sl.cst_403]
  exact canon_dcatL I

theorem C_out11 {i : grid0.Coords} (hc0 : ¬cond0_0 i) (hc1 : cond0_1 i) : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .bf16) I.actt := by
  unfold out0_C_11
  rw [View.read_writes_junk_eq_canon]
  dsimp only [kernelRun0_C]
  simp only [View.readAt_eq_ld, Memref.IsWhole.read_unread, ld_c_hi, ld_x_hi, ld_wo, ld_g, ld_c_lo, ld_x_lo, C_r, C_v251, C_v293, pay11, pay16, pay19, pay24, pay56, pay66]
  exact canon_acttL I

theorem C_out12 {i : grid0.Coords} (hc0 : ¬cond0_0 i) (hc1 : cond0_1 i) : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up3 (φ := .bf16) I.cot := by
  unfold out0_C_12
  rw [View.read_writes_junk_eq_canon]
  dsimp only [kernelRun0_C]
  simp only [View.readAt_eq_ld, Memref.IsWhole.read_unread, ld_w, C_r, C_r_21, C_r_26, C_r_58, C_r_7, C_r_8, C_v617, C_v647, pay77, pay98, pay127, pay131, pay133, pay137]
  exact canon_cotL I

theorem C_out13 {i : grid0.Coords} (hc0 : ¬cond0_0 i) (hc1 : cond0_1 i) : out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm dk I.dk) := by
  unfold out0_C_13
  rw [View.read_writes_junk_eq_canon]
  dsimp only [kernelRun0_C]
  simp only [View.readAt_eq_ld, Memref.IsWhole.read_unread, ld_hd0f, C_r_43, C_r_46, C_r_55, C_r_56, C_v597, C_v613, pay120, pay122, pay126]
  rw [← dk_halves]
  exact canon_accL dk (fun h => addm (tmm (I.lo.ds h) (hd h I.lo.q)) (tmm (I.hi.ds h) (hd h I.hi.q)))

theorem C_out14 {i : grid0.Coords} (hc0 : ¬cond0_0 i) (hc1 : cond0_1 i) : out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm dv I.dv) := by
  unfold out0_C_14
  rw [View.read_writes_junk_eq_canon]
  dsimp only [kernelRun0_C]
  simp only [View.readAt_eq_ld, Memref.IsWhole.read_unread, ld_hd0f, C_r_42, C_r_45, C_r_50, C_r_54, C_v593, C_v601, C_v609, pay119, pay121, pay123, pay125]
  rw [← dv_halves]
  exact canon_accL dv (fun h => addm (tmm (I.lo.p h) (hd h I.lo.dO)) (tmm (I.hi.p h) (hd h I.hi.dO)))

theorem C_out15 {i : grid0.Coords} (hc0 : ¬cond0_0 i) (hc1 : cond0_1 i) : out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (sum8 (addm gf (part8 (mulm I.dy I.x2h)))) := by
  unfold out0_C_15
  rw [View.read_writes_junk_eq_canon]
  dsimp only [kernelRun0_C]
  simp only [C_v686, pay3]
  exact canon_row _

theorem C_out16 {i : grid0.Coords} (hc0 : ¬cond0_0 i) (hc1 : cond0_1 i) : out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (sum8 (addm gx (part8 (mulm I.dh2 I.x1h)))) := by
  unfold out0_C_16
  rw [View.read_writes_junk_eq_canon]
  dsimp only [kernelRun0_C]
  simp only [C_v690, pay4]
  exact canon_row _

theorem C_out17 {i : grid0.Coords} (hc0 : ¬cond0_0 i) (hc1 : cond0_1 i) : out0_C_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (sum8 (addm ls (part8 (mulm I.err I.err)))) := by
  unfold out0_C_17
  rw [View.read_writes_junk_eq_canon]
  dsimp only [kernelRun0_C]
  simp only [C_v694, pay5]
  exact canon_row _

theorem C_sum4 {i : grid0.Coords} (hc0 : ¬cond0_0 i) (hc1 : cond0_1 i) : sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm gf (part8 (mulm I.dy I.x2h))) := by
  unfold sout0_C_4
  rw [View.read_writes_junk_eq_canon]
  dsimp only [kernelRun0_C]
  simp only [kernelRun0_C.sl.HS4_1, C_r_20, C_r_23, C_r_24, View.readAt_eq_ld, Memref.IsWhole.read_unread, ld_8, pay75]
  exact canon_whole8 _ _

theorem C_sum5 {i : grid0.Coords} (hc0 : ¬cond0_0 i) (hc1 : cond0_1 i) : sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm gx (part8 (mulm I.dh2 I.x1h))) := by
  unfold sout0_C_5
  rw [View.read_writes_junk_eq_canon]
  dsimp only [kernelRun0_C]
  simp only [kernelRun0_C.sl.HS5_1, C_r_59, View.readAt_eq_ld, Memref.IsWhole.read_unread, ld_8, pay2]
  exact canon_whole8 _ _

theorem C_sum6 {i : grid0.Coords} (hc0 : ¬cond0_0 i) (hc1 : cond0_1 i) : sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 (up2 (φ := .f32) I.x) (up2 (φ := .bf16) I.c) (up2 (φ := .f32) I.t) (up2 (φ := .bf16) I.wo) (up2 (φ := .bf16) I.wq) (up2 (φ := .bf16) I.wx) (up2 (φ := .bf16) I.k) (up2 (φ := .bf16) I.v) (up2 (φ := .f32) I.gx) (up2 (φ := .f32) I.gf) (up2 (φ := .f32) dk) (up2 (φ := .f32) dv) (up2 (φ := .f32) gf) (up2 (φ := .f32) gx) (up2 (φ := .f32) ls) = up2 (φ := .f32) (addm ls (part8 (mulm I.err I.err))) := by
  unfold sout0_C_6
  rw [View.read_writes_junk_eq_canon]
  dsimp only [kernelRun0_C]
  simp only [kernelRun0_C.sl.HS6_1, C_r_19, C_r_25, View.readAt_eq_ld, Memref.IsWhole.read_unread, ld_8, pay74]
  exact canon_whole8 _ _

end Cert.Lift

end
-- ==== Proof.Inputs.lean ====
/- The device's arguments as matrices. -/
module

public import proofs.«01_k».proof.Proof.Lift
public import Idealize.ShloMosaic.Lib.Pointwise

@[expose] public section

set_option maxRecDepth 16384

noncomputable section

namespace Cert.Inputs

open Idealize.ShloMosaic Idealize.SL.Sem Cert.Spec Cert.Reals
open Cert.Lift (up1 up2 up3)

/-- The entries. -/
def ent {φ : FTy} {a b : ℕ} (x : FVec Ideal ⟨2, ![a, b]⟩ φ) : Mat a b := fun i j => x (ix2 i j)

theorem eq_up2 {φ : FTy} {a b : ℕ} (x : FVec Ideal ⟨2, ![a, b]⟩ φ) : x = up2 (ent x) := by
  funext i
  exact congrArg x (show i = ix2 (i 0) (i 1) by funext d; match d with | ⟨0, _⟩ => rfl | ⟨1, _⟩ => rfl)

/-- The device's arguments as matrices. -/
def ins (m : (ℓ : Loc Cert.KernelIdeal.nD Cert.KernelIdeal.τ Cert.KernelIdeal.sig) → Buf (Elt Ideal) ℓ) (c : Dev Cert.KernelIdeal.nD) : In 4096 where
  x := ent (φ := .f32) (m ((c.tc : Thread Cert.KernelIdeal.nD Cert.KernelIdeal.τ).loc Cert.KernelIdeal.main_arg0))
  c := ent (φ := .bf16) (m ((c.tc : Thread Cert.KernelIdeal.nD Cert.KernelIdeal.τ).loc Cert.KernelIdeal.main_arg1))
  t := ent (φ := .f32) (m ((c.tc : Thread Cert.KernelIdeal.nD Cert.KernelIdeal.τ).loc Cert.KernelIdeal.main_arg2))
  wo := ent (φ := .bf16) (m ((c.tc : Thread Cert.KernelIdeal.nD Cert.KernelIdeal.τ).loc Cert.KernelIdeal.main_arg3))
  wq := ent (φ := .bf16) (m ((c.tc : Thread Cert.KernelIdeal.nD Cert.KernelIdeal.τ).loc Cert.KernelIdeal.main_arg4))
  wx := ent (φ := .bf16) (m ((c.tc : Thread Cert.KernelIdeal.nD Cert.KernelIdeal.τ).loc Cert.KernelIdeal.main_arg5))
  k := ent (φ := .bf16) (m ((c.tc : Thread Cert.KernelIdeal.nD Cert.KernelIdeal.τ).loc Cert.KernelIdeal.main_arg6))
  v := ent (φ := .bf16) (m ((c.tc : Thread Cert.KernelIdeal.nD Cert.KernelIdeal.τ).loc Cert.KernelIdeal.main_arg7))
  gx := ent (φ := .f32) (m ((c.tc : Thread Cert.KernelIdeal.nD Cert.KernelIdeal.τ).loc Cert.KernelIdeal.main_arg8))
  gf := ent (φ := .f32) (m ((c.tc : Thread Cert.KernelIdeal.nD Cert.KernelIdeal.τ).loc Cert.KernelIdeal.main_arg9))

/-- The device's ten argument arrays are the arrays `I`. -/
structure Holds (m : (ℓ : Loc Cert.KernelIdeal.nD Cert.KernelIdeal.τ Cert.KernelIdeal.sig) → Buf (Elt Ideal) ℓ) (d : Dev Cert.KernelIdeal.nD) (I : In 4096) : Prop where
  x : m ((d.tc : Thread Cert.KernelIdeal.nD Cert.KernelIdeal.τ).loc Cert.KernelIdeal.main_arg0) = (up2 I.x : FVec Ideal ⟨2, ![4096, 1024]⟩ .f32)
  c : m ((d.tc : Thread Cert.KernelIdeal.nD Cert.KernelIdeal.τ).loc Cert.KernelIdeal.main_arg1) = (up2 I.c : FVec Ideal ⟨2, ![4096, 2048]⟩ .bf16)
  t : m ((d.tc : Thread Cert.KernelIdeal.nD Cert.KernelIdeal.τ).loc Cert.KernelIdeal.main_arg2) = (up2 I.t : FVec Ideal ⟨2, ![4096, 1024]⟩ .f32)
  wo : m ((d.tc : Thread Cert.KernelIdeal.nD Cert.KernelIdeal.τ).loc Cert.KernelIdeal.main_arg3) = (up2 I.wo : FVec Ideal ⟨2, ![2048, 1024]⟩ .bf16)
  wq : m ((d.tc : Thread Cert.KernelIdeal.nD Cert.KernelIdeal.τ).loc Cert.KernelIdeal.main_arg4) = (up2 I.wq : FVec Ideal ⟨2, ![1024, 1024]⟩ .bf16)
  wx : m ((d.tc : Thread Cert.KernelIdeal.nD Cert.KernelIdeal.τ).loc Cert.KernelIdeal.main_arg5) = (up2 I.wx : FVec Ideal ⟨2, ![1024, 1024]⟩ .bf16)
  k : m ((d.tc : Thread Cert.KernelIdeal.nD Cert.KernelIdeal.τ).loc Cert.KernelIdeal.main_arg6) = (up2 I.k : FVec Ideal ⟨2, ![256, 1024]⟩ .bf16)
  v : m ((d.tc : Thread Cert.KernelIdeal.nD Cert.KernelIdeal.τ).loc Cert.KernelIdeal.main_arg7) = (up2 I.v : FVec Ideal ⟨2, ![256, 1024]⟩ .bf16)
  gx : m ((d.tc : Thread Cert.KernelIdeal.nD Cert.KernelIdeal.τ).loc Cert.KernelIdeal.main_arg8) = (up2 I.gx : FVec Ideal ⟨2, ![1, 1024]⟩ .f32)
  gf : m ((d.tc : Thread Cert.KernelIdeal.nD Cert.KernelIdeal.τ).loc Cert.KernelIdeal.main_arg9) = (up2 I.gf : FVec Ideal ⟨2, ![1, 1024]⟩ .f32)

theorem holds (m : (ℓ : Loc Cert.KernelIdeal.nD Cert.KernelIdeal.τ Cert.KernelIdeal.sig) → Buf (Elt Ideal) ℓ) (c : Dev Cert.KernelIdeal.nD) : Holds m c (ins m c) :=
  ⟨eq_up2 (φ := .f32) _, eq_up2 (φ := .bf16) _, eq_up2 (φ := .f32) _, eq_up2 (φ := .bf16) _, eq_up2 (φ := .bf16) _,
    eq_up2 (φ := .bf16) _, eq_up2 (φ := .bf16) _, eq_up2 (φ := .bf16) _, eq_up2 (φ := .f32) _, eq_up2 (φ := .f32) _⟩

end Cert.Inputs

end
-- ==== Proof.Steps.lean ====
/- What the call's buffers hold, point by point, on matrices. -/
module

public import proofs.«01_k».proof.Proof.OutsA
public import proofs.«01_k».proof.Proof.OutsB
public import proofs.«01_k».proof.Proof.OutsC
public import proofs.«01_k».proof.Proof.Inputs
public import proofs.«01_k».proof.Proof.Gen.KernelIdeal.Value

@[expose] public section

set_option maxRecDepth 16384

noncomputable section

namespace Cert.Arrays

open Idealize.ShloMosaic Idealize.ShloMosaic.TcCoe Idealize.SL.Sem Cert.KernelIdeal Cert.KernelIdeal.Gen Cert.Spec Cert.Reals Cert.Lift
open Idealize.ShloMosaic.Pipeline (Dat)
open Cert.Inputs (Holds)

variable {m : (ℓ : Loc nD τ sig) → Buf (Elt Ideal) ℓ} {c : Dev nD} {I : In 4096}

/-- Which block of its array each window holds at each point. -/
theorem idx : ∀ t : Fin cfg0.N, win0_0.index t = ![t.val, 0] ∧ win0_1.index t = ![t.val, 0] ∧ win0_2.index t = ![t.val, 0] ∧ win0_3.index t = ![0, 0] ∧
    win0_4.index t = ![0, 0] ∧ win0_5.index t = ![0, 0] ∧ win0_6.index t = ![0, 0] ∧ win0_7.index t = ![0, 0] ∧ win0_8.index t = ![0, 0] ∧ win0_9.index t = ![0, 0] ∧
    win0_10.index t = ![t.val, 0] ∧ win0_11.index t = ![0, t.val] ∧ win0_12.index t = ![0, t.val, 0] :=
  (by decide +kernel : ∀ t : Fin grid0.N, _)

theorem point_lt (t : Fin cfg0.N) : t.val < 8 := lt_of_lt_of_eq t.isLt N_0

/-- The rows `512 n, …, 512 n + 511`, those point `n` works on. -/
def blk (I : In 4096) (n : ℕ) : In 512 := I.rows fun r => ⟨(512 * n + r.val) % 4096, by omega⟩

theorem blk_x (H : Holds m c I) (t : Fin cfg0.N) : (iblk m c 0 t : Vec Ideal S512x1024 .f32) = up2 (φ := .f32) (blk I t.val).x := by
  funext y
  blk_simp [iblk, V]
  rw [H.x]
  have ht := point_lt t
  have hy : (y 0).val < 512 := (y 0).isLt
  refine congrArg₂ I.x (Fin.ext ?_) (Fin.ext ?_)
  · blk_simp [idx t]
    simp only
    omega
  · blk_simp [idx t]

theorem blk_c (H : Holds m c I) (t : Fin cfg0.N) : (iblk m c 1 t : Vec Ideal S512x2048 .bf16) = up2 (φ := .bf16) (blk I t.val).c := by
  funext y
  blk_simp [iblk, V]
  rw [H.c]
  have ht := point_lt t
  have hy : (y 0).val < 512 := (y 0).isLt
  refine congrArg₂ I.c (Fin.ext ?_) (Fin.ext ?_)
  · blk_simp [idx t]
    simp only
    omega
  · blk_simp [idx t]

theorem blk_t (H : Holds m c I) (t : Fin cfg0.N) : (iblk m c 2 t : Vec Ideal S512x1024 .f32) = up2 (φ := .f32) (blk I t.val).t := by
  funext y
  blk_simp [iblk, V]
  rw [H.t]
  have ht := point_lt t
  have hy : (y 0).val < 512 := (y 0).isLt
  refine congrArg₂ I.t (Fin.ext ?_) (Fin.ext ?_)
  · blk_simp [idx t]
    simp only
    omega
  · blk_simp [idx t]

theorem blk_wo (H : Holds m c I) (t : Fin cfg0.N) : (iblk m c 3 t : Vec Ideal S2048x1024 .bf16) = up2 (φ := .bf16) (blk I t.val).wo := by
  funext y
  blk_simp [iblk, V]
  rw [H.wo]
  exact congrArg (up2 I.wo) (by blk_ext [idx t])

theorem blk_wq (H : Holds m c I) (t : Fin cfg0.N) : (iblk m c 4 t : Vec Ideal S1024x1024 .bf16) = up2 (φ := .bf16) (blk I t.val).wq := by
  funext y
  blk_simp [iblk, V]
  rw [H.wq]
  exact congrArg (up2 I.wq) (by blk_ext [idx t])

theorem blk_wx (H : Holds m c I) (t : Fin cfg0.N) : (iblk m c 5 t : Vec Ideal S1024x1024 .bf16) = up2 (φ := .bf16) (blk I t.val).wx := by
  funext y
  blk_simp [iblk, V]
  rw [H.wx]
  exact congrArg (up2 I.wx) (by blk_ext [idx t])

theorem blk_k (H : Holds m c I) (t : Fin cfg0.N) : (iblk m c 6 t : Vec Ideal S256x1024 .bf16) = up2 (φ := .bf16) (blk I t.val).k := by
  funext y
  blk_simp [iblk, V]
  rw [H.k]
  exact congrArg (up2 I.k) (by blk_ext [idx t])

theorem blk_v (H : Holds m c I) (t : Fin cfg0.N) : (iblk m c 7 t : Vec Ideal S256x1024 .bf16) = up2 (φ := .bf16) (blk I t.val).v := by
  funext y
  blk_simp [iblk, V]
  rw [H.v]
  exact congrArg (up2 I.v) (by blk_ext [idx t])

theorem blk_gx (H : Holds m c I) (t : Fin cfg0.N) : (iblk m c 8 t : Vec Ideal S1x1024 .f32) = up2 (φ := .f32) (blk I t.val).gx := by
  funext y
  blk_simp [iblk, V]
  rw [H.gx]
  exact congrArg (up2 I.gx) (by blk_ext [idx t])

theorem blk_gf (H : Holds m c I) (t : Fin cfg0.N) : (iblk m c 9 t : Vec Ideal S1x1024 .f32) = up2 (φ := .f32) (blk I t.val).gf := by
  funext y
  blk_simp [iblk, V]
  rw [H.gf]
  exact congrArg (up2 I.gf) (by blk_ext [idx t])

/-- All that a point leaves: its blocks of three results, two sums, three rows, and three sums over eight rows. -/
abbrev Left := Vec Ideal S512x2048 .bf16 × Vec Ideal S4096x512 .bf16 × Vec Ideal S3x512x1024 .bf16 × Vec Ideal S256x1024 .f32 × Vec Ideal S256x1024 .f32 ×
  Vec Ideal S1x1024 .f32 × Vec Ideal S1x1024 .f32 × Vec Ideal S1x1024 .f32 × Vec Ideal S8x1024 .f32 × Vec Ideal S8x1024 .f32 × Vec Ideal S8x1024 .f32

/-- Its blocks are those of `J`'s rows and its sums the given ones. -/
structure Leaves (o : Left) (J : In 512) (dk dv : Mat 256 1024) (gf gx ls : Mat 8 1024) : Prop where
  dcat : o.1 = up2 (φ := .bf16) J.dcat
  actt : o.2.1 = up2 (φ := .bf16) J.actt
  cot : o.2.2.1 = up3 (φ := .bf16) J.cot
  dk : o.2.2.2.1 = up2 (φ := .f32) dk
  dv : o.2.2.2.2.1 = up2 (φ := .f32) dv
  gf : o.2.2.2.2.2.2.2.2.1 = up2 (φ := .f32) gf
  gx : o.2.2.2.2.2.2.2.2.2.1 = up2 (φ := .f32) gx
  ls : o.2.2.2.2.2.2.2.2.2.2 = up2 (φ := .f32) ls

/-- Its rows are the sums of the eight rows. -/
structure Rows (o : Left) (gf gx ls : Mat 8 1024) : Prop where
  gf : o.2.2.2.2.2.1 = up2 (φ := .f32) (sum8 gf)
  gx : o.2.2.2.2.2.2.1 = up2 (φ := .f32) (sum8 gx)
  ls : o.2.2.2.2.2.2.2.1 = up2 (φ := .f32) (sum8 ls)

section Steps

variable (H : Holds m c I) (t : Fin cfg0.N)
include H

theorem step_A (h0 : t.val % 8 = 0) (h1 : ¬t.val % 8 = 7) :
    Leaves (outsAt0 m c t.val t.isLt) (blk I t.val) (addm (fun _ _ => 0) (blk I t.val).dk) (addm (fun _ _ => 0) (blk I t.val).dv) (addm (fun _ _ => 0) (part8 (mulm (blk I t.val).dy (blk I t.val).x2h))) (addm (fun _ _ => 0) (part8 (mulm (blk I t.val).dh2 (blk I t.val).x1h))) (addm (fun _ _ => 0) (part8 (mulm (blk I t.val).err (blk I t.val).err))) := by
  rw [outsAt0_A m c t h0 h1]
  simp only [blk_x H, blk_c H, blk_t H, blk_wo H, blk_wq H, blk_wx H, blk_k H, blk_v H, blk_gx H, blk_gf H]
  constructor
  all_goals dsimp only
  · exact A_out10 (blk I t.val) _ _
  · exact A_out11 (blk I t.val) _ _
  · exact A_out12 (blk I t.val) _ _
  · exact A_out13 (blk I t.val) _ _
  · exact A_out14 (blk I t.val) _ _
  · exact A_sum4 (blk I t.val) _ _
  · exact A_sum5 (blk I t.val) _ _
  · exact A_sum6 (blk I t.val) _ _

theorem step_B (h0 : ¬t.val % 8 = 0) (h1 : ¬t.val % 8 = 7) {J : In 512} {dk dv : Mat 256 1024} {gf gx ls : Mat 8 1024}
    (P : Leaves (outsAt0 m c (t.val - 1) (Nat.lt_of_le_of_lt (Nat.sub_le _ _) t.isLt)) J dk dv gf gx ls) :
    Leaves (outsAt0 m c t.val t.isLt) (blk I t.val) (addm dk (blk I t.val).dk) (addm dv (blk I t.val).dv) (addm gf (part8 (mulm (blk I t.val).dy (blk I t.val).x2h))) (addm gx (part8 (mulm (blk I t.val).dh2 (blk I t.val).x1h))) (addm ls (part8 (mulm (blk I t.val).err (blk I t.val).err))) := by
  rw [outsAt0_B m c t h0 h1]
  simp only [blk_x H, blk_c H, blk_t H, blk_wo H, blk_wq H, blk_wx H, blk_k H, blk_v H, blk_gx H, blk_gf H, P.dk, P.dv, P.gf, P.gx, P.ls]
  constructor
  all_goals dsimp only
  · exact B_out10 (blk I t.val) dk dv gf gx ls _ _
  · exact B_out11 (blk I t.val) dk dv gf gx ls _ _
  · exact B_out12 (blk I t.val) dk dv gf gx ls _ _
  · exact B_out13 (blk I t.val) dk dv gf gx ls _ _
  · exact B_out14 (blk I t.val) dk dv gf gx ls _ _
  · exact B_sum4 (blk I t.val) dk dv gf gx ls _ _
  · exact B_sum5 (blk I t.val) dk dv gf gx ls _ _
  · exact B_sum6 (blk I t.val) dk dv gf gx ls _ _

theorem step_C (h0 : ¬t.val % 8 = 0) (h1 : t.val % 8 = 7) {J : In 512} {dk dv : Mat 256 1024} {gf gx ls : Mat 8 1024}
    (P : Leaves (outsAt0 m c (t.val - 1) (Nat.lt_of_le_of_lt (Nat.sub_le _ _) t.isLt)) J dk dv gf gx ls) :
    Leaves (outsAt0 m c t.val t.isLt) (blk I t.val) (addm dk (blk I t.val).dk) (addm dv (blk I t.val).dv) (addm gf (part8 (mulm (blk I t.val).dy (blk I t.val).x2h))) (addm gx (part8 (mulm (blk I t.val).dh2 (blk I t.val).x1h))) (addm ls (part8 (mulm (blk I t.val).err (blk I t.val).err))) ∧
      Rows (outsAt0 m c t.val t.isLt) (addm gf (part8 (mulm (blk I t.val).dy (blk I t.val).x2h))) (addm gx (part8 (mulm (blk I t.val).dh2 (blk I t.val).x1h))) (addm ls (part8 (mulm (blk I t.val).err (blk I t.val).err))) := by
  rw [outsAt0_C m c t h0 h1]
  simp only [blk_x H, blk_c H, blk_t H, blk_wo H, blk_wq H, blk_wx H, blk_k H, blk_v H, blk_gx H, blk_gf H, P.dk, P.dv, P.gf, P.gx, P.ls]
  refine ⟨?_, ?_⟩
  all_goals constructor
  all_goals dsimp only
  · exact C_out10 (blk I t.val) dk dv gf gx ls _ _
  · exact C_out11 (blk I t.val) dk dv gf gx ls _ _
  · exact C_out12 (blk I t.val) dk dv gf gx ls _ _
  · exact C_out13 (blk I t.val) dk dv gf gx ls _ _
  · exact C_out14 (blk I t.val) dk dv gf gx ls _ _
  · exact C_sum4 (blk I t.val) dk dv gf gx ls _ _
  · exact C_sum5 (blk I t.val) dk dv gf gx ls _ _
  · exact C_sum6 (blk I t.val) dk dv gf gx ls _ _
  · exact C_out15 (blk I t.val) dk dv gf gx ls _ _
  · exact C_out16 (blk I t.val) dk dv gf gx ls _ _
  · exact C_out17 (blk I t.val) dk dv gf gx ls _ _

end Steps

/-- The sum of the first `n + 1` terms. -/
def upto {a b : ℕ} (f : ℕ → Mat a b) : ℕ → Mat a b
  | 0 => addm (fun _ _ => 0) (f 0)
  | n + 1 => addm (upto f n) (f (n + 1))

theorem upto_apply {a b : ℕ} (f : ℕ → Mat a b) (n : ℕ) (i : Fin a) (j : Fin b) : upto f n i j = ∑ s ∈ Finset.range (n + 1), f s i j := by
  induction n with
  | zero => simp [upto, addm]
  | succ n ih => rw [Finset.sum_range_succ, ← ih]; rfl

/-- What every point leaves. -/
theorem leaves (H : Holds m c I) (n : ℕ) (hn : n < cfg0.N) :
    Leaves (outsAt0 m c n hn) (blk I n) (upto (fun s => (blk I s).dk) n) (upto (fun s => (blk I s).dv) n) (upto (fun s => part8 (mulm (blk I s).dy (blk I s).x2h)) n)
      (upto (fun s => part8 (mulm (blk I s).dh2 (blk I s).x1h)) n) (upto (fun s => part8 (mulm (blk I s).err (blk I s).err)) n) := by
  induction n with
  | zero => exact step_A H ⟨0, hn⟩ rfl (by simp only; omega)
  | succ n ih =>
    have h8 : n + 1 < 8 := lt_of_lt_of_eq hn N_0
    by_cases h : (n + 1) % 8 = 7
    · exact (step_C H ⟨n + 1, hn⟩ (by simp only; omega) h (ih (Nat.lt_of_succ_lt hn))).1
    · exact step_B H ⟨n + 1, hn⟩ (by simp only; omega) h (ih (Nat.lt_of_succ_lt hn))

theorem rows (H : Holds m c I) (hn : 7 < cfg0.N) :
    Rows (outsAt0 m c 7 hn) (upto (fun s => part8 (mulm (blk I s).dy (blk I s).x2h)) 7)
      (upto (fun s => part8 (mulm (blk I s).dh2 (blk I s).x1h)) 7) (upto (fun s => part8 (mulm (blk I s).err (blk I s).err)) 7) :=
  (step_C H ⟨7, hn⟩ (by simp only; omega) (by simp only) (leaves H 6 (Nat.lt_of_succ_lt hn))).2

end Cert.Arrays

end
-- ==== Proof.Arrays.lean ====
/- What the call's result arrays hold after the last point, on matrices. -/
module

public import proofs.«01_k».proof.Proof.Steps

@[expose] public section

set_option maxRecDepth 16384

noncomputable section

namespace Cert.Arrays

open Idealize.ShloMosaic Idealize.ShloMosaic.TcCoe Idealize.SL.Sem Cert.KernelIdeal Cert.KernelIdeal.Gen Cert.Spec Cert.Reals Cert.Lift
open Idealize.ShloMosaic.Pipeline (Dat)
open Cert.Inputs (Holds)

variable {m : (ℓ : Loc nD τ sig) → Buf (Elt Ideal) ℓ} {c : Dev nD} {I : In 4096}

/-- A sum over all rows, block by block. -/
theorem sum_blocks (f : Fin 4096 → EReal) : ∑ s ∈ Finset.range 8, ∑ r : Fin 512, f ⟨(512 * s + r.val) % 4096, by omega⟩ = ∑ i, f i := by
  rw [Fin.sum_univ_tiles 8 512 rfl f, Finset.sum_range]
  refine Finset.sum_congr rfl fun s _ => Finset.sum_congr rfl fun r _ => congrArg f (Fin.ext ?_)
  simp only
  omega

theorem dk_all : upto (fun s => (blk I s).dk) 7 = I.dk := by
  funext i j
  rw [upto_apply]
  exact sum_blocks fun r => I.ds ⟨j.val / 256, by omega⟩ r i * hd ⟨j.val / 256, by omega⟩ I.q r ⟨j.val % 256, by omega⟩

theorem dv_all : upto (fun s => (blk I s).dv) 7 = I.dv := by
  funext i j
  rw [upto_apply]
  exact sum_blocks fun r => I.p ⟨j.val / 256, by omega⟩ r i * hd ⟨j.val / 256, by omega⟩ I.dO r ⟨j.val % 256, by omega⟩

theorem sum8_all (f : ℕ → Mat 512 1024) (g : Fin 4096 → Fin 1024 → EReal) (h : ∀ s i j, f s i j = g ⟨(512 * s + i.val) % 4096, by omega⟩ j) :
    sum8 (upto (fun s => part8 (f s)) 7) = fun _ j => ∑ i, g i j := by
  funext _ j
  simp only [sum8, upto_apply]
  rw [Finset.sum_comm, ← sum_blocks]
  refine Finset.sum_congr rfl fun s _ => ?_
  rw [sum_part8]
  exact Finset.sum_congr rfl fun i _ => h s i j

theorem dgf_all : sum8 (upto (fun s => part8 (mulm (blk I s).dy (blk I s).x2h)) 7) = fun _ j => I.dgf j :=
  sum8_all _ (fun i j => I.dy i j * I.x2h i j) fun _ _ _ => rfl

theorem dgx_all : sum8 (upto (fun s => part8 (mulm (blk I s).dh2 (blk I s).x1h)) 7) = fun _ j => I.dgx j :=
  sum8_all _ (fun i j => I.dh2 i j * I.x1h i j) fun _ _ _ => rfl

theorem loss_all : sum8 (upto (fun s => part8 (mulm (blk I s).err (blk I s).err)) 7) = fun _ j => I.loss j :=
  sum8_all _ (fun i j => I.err i j * I.err i j) fun _ _ _ => rfl

/-- The block of the mixer's cotangent, read at an index of the array. -/
theorem up2_dcat (n : ℕ) (hn : n < 8) (y : S512x2048.Idx) (z : S4096x2048.Idx) (h0 : (z 0).val = n * 512 + (y 0).val) (h1 : (z 1).val = (y 1).val) :
    up2 (φ := .bf16) (blk I n).dcat y = up2 (φ := .bf16) I.dcat z := by
  have hy : (y 0).val < 512 := (y 0).isLt
  have e0 : z 0 = (⟨(512 * n + (y 0).val) % 4096, by omega⟩ : Fin 4096) := Fin.ext (by simp only; omega)
  have e1 : z 1 = (y 1 : Fin 2048) := Fin.ext h1
  have e : (blk I n).dcat = fun r => I.dcat ⟨(512 * n + r.val) % 4096, by omega⟩ := In.rows_dcat I _
  unfold up2
  rw [e, e0, e1]

section Finals

variable (H : Holds m c I)
include H

theorem final_dcat : (dats m 0 c).arrAt 10 cfg0.N = (up2 (φ := .bf16) I.dcat : Vec Ideal S4096x2048 .bf16) := by
  refine (dats m 0 c).arrAt_eq_of_covers 10 _ (by decide +kernel) fun t _ y => ?_
  blk_simp
  rw [after0_10, (leaves H t.val t.isLt).dcat]
  refine up2_dcat t.val (point_lt t) _ _ ?_ ?_
  · blk_simp [idx t]
  · blk_simp [idx t]

theorem final_actt : (dats m 0 c).arrAt 11 cfg0.N = (up2 (φ := .bf16) I.actt : Vec Ideal S4096x4096 .bf16) := by
  refine (dats m 0 c).arrAt_eq_of_covers 11 _ (by decide +kernel) fun t _ y => ?_
  blk_simp
  rw [after0_11, (leaves H t.val t.isLt).actt]
  have ht := point_lt t
  have hy : (y 1).val < 512 := (y 1).isLt
  have hb (r : Fin 4096) (i : Fin 512) : (blk I t.val).actt r i = I.actt r ⟨(512 * t.val + i.val) % 4096, by omega⟩ := by
    unfold In.actt
    split_ifs <;> rfl
  refine (hb _ _).trans (congrArg₂ I.actt (Fin.ext ?_) (Fin.ext ?_))
  · blk_simp [idx t]
  · blk_simp [idx t]
    simp only
    omega

theorem final_cot : (dats m 0 c).arrAt 12 cfg0.N = (up3 (φ := .bf16) I.cot : Vec Ideal S3x4096x1024 .bf16) := by
  refine (dats m 0 c).arrAt_eq_of_covers 12 _ (by decide +kernel) fun t _ y => ?_
  blk_simp
  rw [after0_12, (leaves H t.val t.isLt).cot]
  have ht := point_lt t
  have hy : (y 1).val < 512 := (y 1).isLt
  have hb (s : Fin 3) (i : Fin 512) (j : Fin 1024) : (blk I t.val).cot s i j = I.cot s ⟨(512 * t.val + i.val) % 4096, by omega⟩ j := by
    unfold In.cot
    split_ifs <;> rfl
  refine (hb _ _ _).trans ?_
  congr 1 <;> refine Fin.ext ?_
  · blk_simp [idx t]
  · blk_simp [idx t]
    simp only
    omega
  · blk_simp [idx t]

theorem final_dk : (dats m 0 c).arrAt 13 cfg0.N = (up2 (φ := .f32) I.dk : Vec Ideal S256x1024 .f32) := by
  refine (dats m 0 c).arrAt_eq_of_after_last 13 t0_7 (by decide +kernel) _ fun j => ?_
  blk_simp
  rw [after0_13, (leaves H t0_7.val t0_7.isLt).dk]
  exact congrFun (congrArg (up2 (φ := .f32)) dk_all) j

theorem final_dv : (dats m 0 c).arrAt 14 cfg0.N = (up2 (φ := .f32) I.dv : Vec Ideal S256x1024 .f32) := by
  refine (dats m 0 c).arrAt_eq_of_after_last 14 t0_7 (by decide +kernel) _ fun j => ?_
  blk_simp
  rw [after0_14, (leaves H t0_7.val t0_7.isLt).dv]
  exact congrFun (congrArg (up2 (φ := .f32)) dv_all) j

theorem final_dgf : (dats m 0 c).arrAt 15 cfg0.N = (up2 (φ := .f32) (fun _ j => I.dgf j) : Vec Ideal S1x1024 .f32) := by
  refine (dats m 0 c).arrAt_eq_of_after_last 15 t0_7 (by decide +kernel) _ fun j => ?_
  blk_simp
  rw [after0_15]
  exact congrFun ((rows H t0_7.isLt).gf.trans (congrArg (up2 (φ := .f32)) dgf_all)) j

theorem final_dgx : (dats m 0 c).arrAt 16 cfg0.N = (up2 (φ := .f32) (fun _ j => I.dgx j) : Vec Ideal S1x1024 .f32) := by
  refine (dats m 0 c).arrAt_eq_of_after_last 16 t0_7 (by decide +kernel) _ fun j => ?_
  blk_simp
  rw [after0_16]
  exact congrFun ((rows H t0_7.isLt).gx.trans (congrArg (up2 (φ := .f32)) dgx_all)) j

theorem final_loss : (dats m 0 c).arrAt 17 cfg0.N = (up2 (φ := .f32) (fun _ j => I.loss j) : Vec Ideal S1x1024 .f32) := by
  refine (dats m 0 c).arrAt_eq_of_after_last 17 t0_7 (by decide +kernel) _ fun j => ?_
  blk_simp
  rw [after0_17]
  exact congrFun ((rows H t0_7.isLt).ls.trans (congrArg (up2 (φ := .f32)) loss_all)) j

end Finals

end Cert.Arrays

end
-- ==== Proof.RefValue.lean ====
/- What each named value of the reference is, on matrices. -/
module

public import proofs.«01_k».proof.Proof.Lift
public import proofs.«01_k».proof.Proof.Gen.ReferenceIdeal.Run
public import Idealize.ShloMosaic.Lib.Pointwise

@[expose] public section

set_option maxRecDepth 16384

noncomputable section

namespace Cert.RefValue

open Cert.ReferenceIdeal Cert.ReferenceIdeal.Gen Cert.ReferenceIdeal.Value
open Idealize.ShloMosaic Idealize.ShloMosaic.TcCoe Idealize.SL.Sem Idealize.ShloMosaic.StableHlo
open Cert.Spec Cert.Reals
open Cert.Lift (up1 up2 up3)

/-- The buffers hold the arrays `I`. -/
structure Holds (V : Valuation τ sig (Elt Ideal)) (I : In 4096) : Prop where
  x : V (Proc.devRef .tc main_arg0) = (up2 I.x : FVec Ideal S4096x1024 .f32)
  c : V (Proc.devRef .tc main_arg1) = (up2 I.c : FVec Ideal S4096x2048 .bf16)
  t : V (Proc.devRef .tc main_arg2) = (up2 I.t : FVec Ideal S4096x1024 .f32)
  wo : V (Proc.devRef .tc main_arg3) = (up2 I.wo : FVec Ideal S2048x1024 .bf16)
  wq : V (Proc.devRef .tc main_arg4) = (up2 I.wq : FVec Ideal S1024x1024 .bf16)
  wx : V (Proc.devRef .tc main_arg5) = (up2 I.wx : FVec Ideal S1024x1024 .bf16)
  k : V (Proc.devRef .tc main_arg6) = (up2 I.k : FVec Ideal S256x1024 .bf16)
  v : V (Proc.devRef .tc main_arg7) = (up2 I.v : FVec Ideal S256x1024 .bf16)
  gx : V (Proc.devRef .tc main_arg8) = (up2 I.gx : FVec Ideal S1x1024 .f32)
  gf : V (Proc.devRef .tc main_arg9) = (up2 I.gf : FVec Ideal S1x1024 .f32)

variable {V : Valuation τ sig (Elt Ideal)} {I : In 4096} (hV : Holds V I)
include hV

theorem r0 : res_main_v0 V = (up2 I.c : FVec Ideal S4096x2048 .f32) := by rw [res_main_v0, hV.c]; rfl

theorem r1 : res_main_v1 V = (up2 I.wo : FVec Ideal S2048x1024 .f32) := by rw [res_main_v1, hV.wo]; rfl

theorem r2 : res_main_v2 V = (up2 I.wq : FVec Ideal S1024x1024 .f32) := by rw [res_main_v2, hV.wq]; rfl

theorem r3 : res_main_v3 V = (up2 I.wx : FVec Ideal S1024x1024 .f32) := by rw [res_main_v3, hV.wx]; rfl

omit hV in
theorem r6 : res_main_v6 V = (up2 fun _ _ => 0 : FVec Ideal S4096x1024 .f32) := by
  funext i
  idx_vars i
  pointwise [res_main_v6, up2]

theorem r8 : res_main_v8 V = (up2 I.x1 : FVec Ideal S4096x1024 .f32) := by
  funext i
  idx_vars i
  pointwise [res_main_v8, hV.x, r0 hV, r1 hV, up2]
  rfl

theorem r15 : res_main_v15 V = (up2 fun i _ => ms I.x1 i : FVec Ideal S4096x1 .f32) := by
  funext i
  idx_vars i
  pointwise [res_main_v15, r8 hV, up2]
  simp only [zero_add, bits_1024, bits_eps]
  rfl

theorem r16 : res_main_v16 V = (up2 fun i _ => I.r2 i : FVec Ideal S4096x1 .f32) := by
  funext i
  idx_vars i
  pointwise [res_main_v16, r15 hV, up2]
  rfl

theorem r21 : res_main_v21 V = (up2 I.x1h : FVec Ideal S4096x1024 .f32) := by
  funext i
  idx_vars i
  pointwise [res_main_v21, r8 hV, r16 hV, up2]
  rfl

theorem r23 : res_main_v23 V = (up2 I.h2 : FVec Ideal S4096x1024 .f32) := by
  funext i
  idx_vars i
  pointwise [res_main_v23, r21 hV, hV.gx, up2]
  rfl

theorem r26 : res_main_v26 V = (up3 fun i h d => hd h I.q i d : FVec Ideal S4096x4x256 .f32) := by
  funext i
  idx_vars i
  pointwise [res_main_v26, r23 hV, r2 hV, r6, up2, up3]
  rfl

theorem r27 : res_main_v27 V = (up3 fun i h d => hd h I.k i d : FVec Ideal S256x4x256 .f32) := by
  funext i
  idx_vars i
  pointwise [res_main_v27, hV.k, up2, up3]
  rfl

theorem r28 : res_main_v28 V = (up3 fun i h d => hd h I.v i d : FVec Ideal S256x4x256 .f32) := by
  funext i
  idx_vars i
  pointwise [res_main_v28, hV.v, up2, up3]
  rfl

theorem r31 : res_main_v31 V = (up3 fun h i j => score (hd h I.q) (hd h I.k) i j : FVec Ideal S4x4096x256 .f32) := by
  funext i
  idx_vars i
  pointwise [res_main_v31, r26 hV, r27 hV, up3]
  simp only [bits_inv16]
  rfl

omit hV in
theorem hostMax (f : Fin 4 → Mat 4096 256) :
    Host.reduce FloatOps.maximumf (up3 f : FVec Ideal S4x4096x256 .f32) (constant S_ .f32 0xFF800000#32)
      reducesTo_S4x4096x256_S4x4096_d2 h_S_ = (up2 fun h i => top (f h) i : FVec Ideal S4x4096 .f32) := by
  funext i
  idx_vars i
  pointwise [up2, up3]
  simp only [bits_bot, top]

theorem r32 : res_main_v32 V = (up2 fun h i => top (score (hd h I.q) (hd h I.k)) i : FVec Ideal S4x4096 .f32) := by
  rw [res_main_v32, r31 hV]
  exact hostMax _

theorem r52 : res_main_v52 V = (up3 fun h i j => expo (score (hd h I.q) (hd h I.k)) i j : FVec Ideal S4x4096x256 .f32) := by
  funext i
  idx_vars i
  pointwise [res_main_v52, r31 hV, r32 hV, up2, up3]
  simp only [bits_bot, bot_sup_eq, max_bot_left]
  rfl

theorem r54 : res_main_v54 V = (up3 fun h i _ => tot (expo (score (hd h I.q) (hd h I.k))) i : FVec Ideal S4x4096x1 .f32) := by
  funext i
  idx_vars i
  pointwise [res_main_v54, r52 hV, up3]
  rfl

theorem r56 : res_main_v56 V = (up3 fun h i j => I.p h i j : FVec Ideal S4x4096x256 .f32) := by
  funext i
  idx_vars i
  pointwise [res_main_v56, r52 hV, r54 hV, up3]
  rfl

theorem r62 : res_main_v62 V = (up2 I.o : FVec Ideal S4096x1024 .f32) := by
  funext i
  idx_vars i
  pointwise [res_main_v62, r28 hV, r56 hV, up2, up3]
  exact Finset.sum_congr rfl fun l _ => EReal.mul_comm _ _

theorem r65 : res_main_v65 V = (up2 I.x2 : FVec Ideal S4096x1024 .f32) := by
  funext i
  idx_vars i
  pointwise [res_main_v65, r8 hV, r62 hV, r3 hV, r6, up2]
  rfl

theorem r72 : res_main_v72 V = (up2 fun i _ => ms I.x2 i : FVec Ideal S4096x1 .f32) := by
  funext i
  idx_vars i
  pointwise [res_main_v72, r65 hV, up2]
  simp only [zero_add, bits_1024, bits_eps]
  rfl

theorem r73 : res_main_v73 V = (up2 fun i _ => I.r3 i : FVec Ideal S4096x1 .f32) := by
  funext i
  idx_vars i
  pointwise [res_main_v73, r72 hV, up2]
  rfl

theorem r78 : res_main_v78 V = (up2 I.x2h : FVec Ideal S4096x1024 .f32) := by
  funext i
  idx_vars i
  pointwise [res_main_v78, r65 hV, r73 hV, up2]
  rfl

theorem r81 : res_main_v81 V = (up2 I.err : FVec Ideal S4096x1024 .f32) := by
  funext i
  idx_vars i
  pointwise [res_main_v81, r78 hV, hV.gf, hV.t, up2]
  rfl

theorem r82 : res_main_v82 V = (up2 (mulm I.err I.err) : FVec Ideal S4096x1024 .f32) := by
  funext i
  idx_vars i
  pointwise [res_main_v82, r81 hV, up2]
  rfl

theorem r95 : res_main_v95 V = (up2 I.dy : FVec Ideal S4096x1024 .f32) := by
  funext i
  idx_vars i
  pointwise [res_main_v95, r81 hV, up2]
  simp only [bits_half, bits_two, bits_1024, mul_one]
  rw [Ideal.div_coe (by norm_num), ← EReal.coe_mul, ← mul_assoc, ← EReal.coe_mul, mul_comm, show (1 / 2 : ℝ) * (1 / 1024) * 2 = 1 / 1024 by norm_num]
  rfl

theorem r100 : res_main_v100 V = (up2 (scl I.dy I.gf) : FVec Ideal S4096x1024 .f32) := by
  funext i
  idx_vars i
  pointwise [res_main_v100, r95 hV, hV.gf, up2]
  rfl

theorem r110 : res_main_v110 V = (up2 fun i _ => msBack (scl I.dy I.gf) I.x2 i : FVec Ideal S4096x1024 .f32) := by
  funext i
  idx_vars i
  pointwise [res_main_v110, r65 hV, r100 hV, r72 hV, r73 hV, up2]
  simp only [zero_add, bits_1024, bits_neg_half]
  simp only [Fin.sum_univ_one]
  rfl

theorem r114 : res_main_v114 V = (up2 I.dx2 : FVec Ideal S4096x1024 .f32) := by
  funext i
  idx_vars i
  pointwise [res_main_v114, r100 hV, r73 hV, r65 hV, r110 hV, up2]
  exact back_eq _ _ _ _

theorem r117 : res_main_v117 V = (up3 fun h d i => hd h I.dO i d : FVec Ideal S4x256x4096 .f32) := by
  funext i
  idx_vars i
  pointwise [res_main_v117, r114 hV, r3 hV, up2, up3]
  rfl

theorem r118 : res_main_v118 V = (up3 fun h i j => mmT (hd h I.dO) (hd h I.v) i j : FVec Ideal S4x4096x256 .f32) := by
  funext i
  idx_vars i
  pointwise [res_main_v118, r117 hV, r28 hV, up3]
  rfl

theorem r134 : res_main_v134 V = (up3 fun h i j => I.ds h i j : FVec Ideal S4x4096x256 .f32) := by
  funext i
  idx_vars i
  pointwise [res_main_v134, r118 hV, r54 hV, r52 hV, up3]
  simp only [Fin.sum_univ_one, zero_add, bits_inv16]
  exact dscore_eq _ _ _ _ fun h => I.dead _ _ h

theorem r141 : res_main_v141 V = (up2 I.dq : FVec Ideal S4096x1024 .f32) := by
  funext i
  idx_vars i
  pointwise [res_main_v141, r134 hV, r27 hV, up2, up3]
  rfl

theorem r142 : res_main_v142 V = (up2 I.dh2 : FVec Ideal S4096x1024 .f32) := by
  funext i
  idx_vars i
  pointwise [res_main_v142, r141 hV, r2 hV, up2]
  rfl

theorem r147 : res_main_v147 V = (up2 (scl I.dh2 I.gx) : FVec Ideal S4096x1024 .f32) := by
  funext i
  idx_vars i
  pointwise [res_main_v147, r142 hV, hV.gx, up2]
  rfl

theorem r158 : res_main_v158 V = (up2 fun i _ => msBack (scl I.dh2 I.gx) I.x1 i : FVec Ideal S4096x1024 .f32) := by
  funext i
  idx_vars i
  pointwise [res_main_v158, r8 hV, r147 hV, r15 hV, r16 hV, up2]
  simp only [zero_add, bits_1024, bits_neg_half]
  simp only [Fin.sum_univ_one]
  rfl

theorem r162 : res_main_v162 V = (up2 I.dx1 : FVec Ideal S4096x1024 .f32) := by
  funext i
  idx_vars i
  pointwise [res_main_v162, r114 hV, r147 hV, r16 hV, r8 hV, r158 hV, up2]
  rw [add_assoc, add_assoc, ← add_assoc (_ * _)]
  exact congrArg _ (back_eq _ _ _ _)

theorem out0 : truncf .bf16 (Host.dotGeneral (φ₁ := .f32) (φ₂ := .f32) dot_S4096x1024_S2048x1024_S4096x2048_1_1_0_0_n_n none (res_main_v162 V) (res_main_v1 V)) bitsLt_bf16_f32 =
    (up2 I.dcat : FVec Ideal S4096x2048 .bf16) := by
  funext i
  idx_vars i
  pointwise [r162 hV, r1 hV, up2]
  rfl

theorem out1 : truncf .bf16 (transpose S4096x4096 [1, 0] (concatenate S4096x4096 1 [⟨S4096x2048, res_main_v0 V⟩, ⟨S4096x1024, res_main_v23 V⟩, ⟨S4096x1024, res_main_v62 V⟩] concatenates_S4096x2048_S4096x1024_S4096x1024_S4096x4096_d1) transposes_S4096x4096_S4096x4096_1_0) bitsLt_bf16_f32 =
    (up2 I.actt : FVec Ideal S4096x4096 .bf16) := by
  rw [r0 hV, r23 hV, r62 hV]
  funext i
  idx_vars i
  pointwise [up2]
  rw [In.actt]

theorem out2 : truncf .bf16 (concatenate S3x4096x1024 0 [⟨S1x4096x1024, broadcastInDim S1x4096x1024 ![1, 2] bcast_S4096x1024_S1x4096x1024_1_2 (res_main_v162 V)⟩, ⟨S1x4096x1024, broadcastInDim S1x4096x1024 ![1, 2] bcast_S4096x1024_S1x4096x1024_1_2 (res_main_v141 V)⟩, ⟨S1x4096x1024, broadcastInDim S1x4096x1024 ![1, 2] bcast_S4096x1024_S1x4096x1024_1_2 (res_main_v114 V)⟩] concatenates_S1x4096x1024_S1x4096x1024_S1x4096x1024_S3x4096x1024_d0) bitsLt_bf16_f32 =
    (up3 I.cot : FVec Ideal S3x4096x1024 .bf16) := by
  rw [r162 hV, r141 hV, r114 hV]
  funext i
  idx_vars i
  pointwise [up2, up3]
  rw [In.cot]
  split_ifs <;> rfl

theorem out3 : shapeCast S256x1024 (transpose S256x4x256 [1, 0, 2] (Host.dotGeneral (φ₁ := .f32) (φ₂ := .f32) dot_S4x4096x256_S4096x4x256_S4x256x256_1_0_2_2_0_1 none (res_main_v134 V) (res_main_v26 V)) transposes_S4x256x256_S256x4x256_1_0_2) shapeCasts_S256x4x256_S256x1024 =
    (up2 I.dk : FVec Ideal S256x1024 .f32) := by
  funext i
  idx_vars i
  pointwise [r134 hV, r26 hV, up2, up3]
  rfl

theorem out4 : shapeCast S256x1024 (transpose S256x4x256 [2, 0, 1] (Host.dotGeneral (φ₁ := .f32) (φ₂ := .f32) dot_S4x256x4096_S4x4096x256_S4x256x256_2_1_1_2_0_0 none (res_main_v117 V) (res_main_v56 V)) transposes_S4x256x256_S256x4x256_2_0_1) shapeCasts_S256x4x256_S256x1024 =
    (up2 I.dv : FVec Ideal S256x1024 .f32) := by
  funext i
  idx_vars i
  pointwise [r117 hV, r56 hV, up2, up3]
  exact Finset.sum_congr rfl fun l _ => EReal.mul_comm _ _

theorem out5 : shapeCast S1x1024 (Host.reduceAdd (mulf (res_main_v78 V) (res_main_v95 V)) (constant S_ .f32 0x00000000#32) reducesTo_S4096x1024_S1024_d0 h_S_) shapeCasts_S1024_S1x1024 =
    (up2 fun _ j => I.dgf j : FVec Ideal S1x1024 .f32) := by
  funext i
  idx_vars i
  pointwise [r78 hV, r95 hV, up2]
  exact Finset.sum_congr rfl fun l _ => EReal.mul_comm _ _

theorem out6 : shapeCast S1x1024 (Host.reduceAdd (mulf (res_main_v21 V) (res_main_v142 V)) (constant S_ .f32 0x00000000#32) reducesTo_S4096x1024_S1024_d0 h_S_) shapeCasts_S1024_S1x1024 =
    (up2 fun _ j => I.dgx j : FVec Ideal S1x1024 .f32) := by
  funext i
  idx_vars i
  pointwise [r21 hV, r142 hV, up2]
  exact Finset.sum_congr rfl fun l _ => EReal.mul_comm _ _

theorem out7 : broadcastInDim S1x1024 ![1] bcast_S1024_S1x1024_1 (Host.reduceAdd (res_main_v82 V) (constant S_ .f32 0x00000000#32) reducesTo_S4096x1024_S1024_d0 h_S_) =
    (up2 fun _ j => I.loss j : FVec Ideal S1x1024 .f32) := by
  funext i
  idx_vars i
  pointwise [r82 hV, up2]
  rfl

end Cert.RefValue

end
-- ==== Proof.Claims.lean ====
/- The claims: each program's frame, and the kernel's eight results equal to the reference's. -/
module

public import proofs.«01_k».proof.Defs
public import proofs.«01_k».proof.Proof.Arrays
public import proofs.«01_k».proof.Proof.RefValue
public import proofs.«01_k».proof.Proof.Gen.Kernel.Frame
public import Idealize.ShloMosaic.Lib.Claim

@[expose] public section

noncomputable section

namespace Cert.Claims

open Idealize.ShloMosaic Idealize.SL.Sem Cert.Spec
open Cert.Lift (up2 up3)

theorem frame_p : @Cert.quiescent_Kernel Cert.Kernel.Gen.facts := fun m ρ _ => Cert.Kernel.Gen.frame m ρ

theorem frame_pi : @Cert.quiescent_KernelIdeal Cert.KernelIdeal.Gen.facts := fun m ρ _ => Cert.KernelIdeal.Gen.frame m ρ

/-- The reference has no semaphores, and its run keeps the arguments beside the eight results. -/
theorem frame_ri : @Cert.quiescent_ReferenceIdeal Cert.ReferenceIdeal.Gen.facts := fun m ρ _ =>
  (θ_run Cert.ReferenceIdeal.defs _ _).mono
    (fun r h => ⟨fun c => (h c).2.2.2.2.2.2.2.2, Idealize.ShloMosaic.sem_eq_zero_of_no_sems (by decide) r.2⟩)
    (Cert.ReferenceIdeal.Value.run (F := Ideal) m ρ)

/-- The kernel's results are the reference's: both are the same functions of the arguments, infinite entries included. -/
theorem algebraic : @Cert.algebraic_KernelIdeal_ReferenceIdeal Cert.KernelIdeal.Gen.facts Cert.ReferenceIdeal.Gen.facts := by
  intro m g m' g' _ hagree
  have H (c : Dev Cert.KernelIdeal.nD) := Cert.Inputs.holds m c
  have HV (c : Dev Cert.ReferenceIdeal.nD) : Cert.RefValue.Holds (StableHlo.launchContents m' c) (Cert.Inputs.ins m c) := by
    obtain ⟨h0, h1, h2, h3, h4, h5, h6, h7, h8, h9⟩ := hagree c
    exact ⟨h0.trans (H c).x, h1.trans (H c).c, h2.trans (H c).t, h3.trans (H c).wo, h4.trans (H c).wq, h5.trans (H c).wx, h6.trans (H c).k, h7.trans (H c).v,
      h8.trans (H c).gx, h9.trans (H c).gf⟩
  refine ⟨fun c => (up2 (φ := .bf16) (Cert.Inputs.ins m c).dcat),
    fun c => (up2 (φ := .bf16) (Cert.Inputs.ins m c).actt),
    fun c => (up3 (φ := .bf16) (Cert.Inputs.ins m c).cot),
    fun c => (up2 (φ := .f32) (Cert.Inputs.ins m c).dk),
    fun c => (up2 (φ := .f32) (Cert.Inputs.ins m c).dv),
    fun c => (up2 (φ := .f32) fun _ j => (Cert.Inputs.ins m c).dgf j),
    fun c => (up2 (φ := .f32) fun _ j => (Cert.Inputs.ins m c).dgx j),
    fun c => (up2 (φ := .f32) fun _ j => (Cert.Inputs.ins m c).loss j),
    ?_, ?_⟩
  · refine (θ_run Cert.KernelIdeal.defs _ _).mono (fun r h c => ?_) (Cert.KernelIdeal.Value.run_blocks (F := Ideal) m g)
    obtain ⟨h0, h1, h2, h3, h4, h5, h6, h7, hk⟩ := h c
    exact ⟨h0.trans (Cert.Arrays.final_dcat (H c)), h1.trans (Cert.Arrays.final_actt (H c)), h2.trans (Cert.Arrays.final_cot (H c)), h3.trans (Cert.Arrays.final_dk (H c)), h4.trans (Cert.Arrays.final_dv (H c)), h5.trans (Cert.Arrays.final_dgf (H c)), h6.trans (Cert.Arrays.final_dgx (H c)), h7.trans (Cert.Arrays.final_loss (H c)), hk⟩
  · refine (θ_run Cert.ReferenceIdeal.defs _ _).mono (fun r h c => ?_) (Cert.ReferenceIdeal.Value.run (F := Ideal) m' g')
    obtain ⟨h0, h1, h2, h3, h4, h5, h6, h7, hk⟩ := h c
    exact ⟨h0.trans (Cert.RefValue.out0 (HV c)), h1.trans (Cert.RefValue.out1 (HV c)), h2.trans (Cert.RefValue.out2 (HV c)), h3.trans (Cert.RefValue.out3 (HV c)), h4.trans (Cert.RefValue.out4 (HV c)), h5.trans (Cert.RefValue.out5 (HV c)), h6.trans (Cert.RefValue.out6 (HV c)), h7.trans (Cert.RefValue.out7 (HV c)), hk⟩

end Cert.Claims

end
-- ==== Proof.Proj.lean ====
/- The input projection's backward pass, over the extended reals: the cotangent of the normalised rows, of the rows
   before normalisation, and of the gain. -/
module

public import proofs.«01_k».proof.Proof.Inputs
public import proofs.«01_k».proof.Proof.Gen.Kernel2Ideal.Frame
public import Idealize.ShloMosaic.Lib.Pipeline.ValueKit

@[expose] public section

set_option maxRecDepth 16384

noncomputable section

namespace Cert.Spec

open Idealize.ShloMosaic Cert.Reals

/-- The arguments: the projection's cotangent, its weights, the rows, three cotangents of the rows (the first is used),
    and the gain. -/
structure Pj (n : ℕ) where
  p : Mat n 7168
  w : Mat 1024 7168
  x : Mat n 1024
  t : Fin 3 → Fin n → Fin 1024 → EReal
  g : Mat 1 1024

namespace Pj

variable {n : ℕ} (I : Pj n)

/-- The cotangent of the scaled rows. -/
def dh : Mat n 1024 := mmT I.p I.w

/-- The cotangent of the rows: what reaches them past the projection, and through the normalisation. -/
def dx : Mat n 1024 := addm (I.t 0) (back (scl I.dh I.g) (nrm I.x) (inv I.x))

/-- The rows' parts of the gain's cotangent. -/
def gr : Mat n 1024 := mulm I.dh (nrm I.x)

/-- The cotangent of the gain. -/
def dg : Fin 1024 → EReal := fun j => ∑ i, I.gr i j

/-- The rows `f`. -/
def rows {k : ℕ} (f : Fin k → Fin n) : Pj k where
  p i := I.p (f i)
  w := I.w
  x i := I.x (f i)
  t l i := I.t l (f i)
  g := I.g

theorem rows_dx {k : ℕ} (f : Fin k → Fin n) : (I.rows f).dx = fun i => I.dx (f i) := rfl

end Pj

/-- The sums over the rows `8 l + r` of 512. -/
def fold512 (a : Mat 512 1024) : Mat 8 1024 := fun r j => ∑ l : Fin 64, a ⟨l.val * 8 + r.val, by omega⟩ j

theorem sum_fold512 (a : Mat 512 1024) (j : Fin 1024) : ∑ r, fold512 a r j = ∑ i, a i j := by
  unfold fold512
  rw [Finset.sum_comm, Fin.sum_univ_tiles 64 8 rfl fun i => a i j]

end Cert.Spec

namespace Cert.Proj

open Idealize.ShloMosaic Idealize.SL.Sem Cert.Kernel2Ideal Cert.Kernel2Ideal.Gen Cert.Spec Cert.Reals
open Cert.Lift (up1 up2 up3 add_up mul_up sub_up)

theorem mmT_big (f : Mat 512 7168) (g : Mat 1024 7168) :
    matmul dot_S512x7168_S1024x7168_S512x1024_1_1_0_0_n_n none (up2 f : FVec Ideal S512x7168 .bf16) (up2 g : FVec Ideal S1024x7168 .bf16)
      (constant S512x1024 .f32 0x00000000#32) = (up2 (mmT f g) : FVec Ideal S512x1024 .f32) := by
  funext i
  idx_vars i
  pointwise [up2]
  simp only [zero_add, mmT]

theorem rowsum (f : Mat 512 1024) :
    multiReduction .add [1] S512 (up2 f : FVec Ideal S512x1024 .f32) 0x00000000#32 reduces_S512x1024_S512 (.inl rfl) rfl = (up1 fun i => ∑ j, f i j : FVec Ideal S512 .f32) := by
  funext i
  idx_vars i
  pointwise [up1, up2, up3]

theorem col_up (f : Fin 512 → EReal) :
    shapeCast S512x1 (up1 f : FVec Ideal S512 .f32) shapeCasts_S512_S512x1 = (up2 fun i _ => f i : FVec Ideal S512x1 .f32) := by
  funext i
  idx_vars i
  pointwise [up1, up2, up3]

theorem bcol (f : Mat 512 1) :
    broadcastTo S512x1024 (up2 f : FVec Ideal S512x1 .f32) broadcasts_S512x1_S512x1024 = (up2 fun i _ => f i 0 : FVec Ideal S512x1024 .f32) := by
  funext i
  idx_vars i
  pointwise [up1, up2, up3]

theorem brow (f : Mat 1 1024) :
    broadcastTo S512x1024 (up2 f : FVec Ideal S1x1024 .f32) broadcasts_S1x1024_S512x1024 = (up2 fun _ j => f 0 j : FVec Ideal S512x1024 .f32) := by
  funext i
  idx_vars i
  pointwise [up1, up2, up3]

theorem div_n (f : Mat 512 1) :
    divf (up2 f : FVec Ideal S512x1 .f32) (broadcast S512x1 (Scalar.ofBits .f32 0x44800000#32)) = up2 fun i j => Ideal.div (f i j) ((1024 : ℝ) : EReal) := by
  funext i
  idx_vars i
  pointwise [up1, up2, up3]
  rw [bits_1024]

theorem inv_up (v : Mat 512 1024) :
    rsqrt (addf (up2 fun i _ => Ideal.div (∑ j, v i j * v i j) ((1024 : ℝ) : EReal) : FVec Ideal S512x1 .f32) (broadcast S512x1 (Scalar.ofBits .f32 0x358637BD#32))) = up2 fun i _ => inv v i := by
  funext i
  idx_vars i
  pointwise [up1, up2, up3]
  rw [bits_eps, Spec.inv, ms]

theorem same_8 (f : Mat 8 1024) :
    shapeCast S8x1024 (up2 f : FVec Ideal S8x1024 .f32) shapeCasts_S8x1024_S8x1024 = up2 f := by
  funext i
  idx_vars i
  pointwise [up2]

theorem fold_up (f : Mat 512 1024) :
    multiReduction .add [0] S8x1024 (shapeCast S64x8x1024 (up2 f : FVec Ideal S512x1024 .f32) shapeCasts_S512x1024_S64x8x1024) 0x00000000#32 reduces_S64x8x1024_S8x1024 (.inl rfl) rfl
      = (up2 (fold512 f) : FVec Ideal S8x1024 .f32) := by
  funext i
  idx_vars i
  pointwise [up1, up2, up3]
  rfl

theorem sum8_up (f : Mat 8 1024) :
    multiReduction .add [0] S1024 (up2 f : FVec Ideal S8x1024 .f32) 0x00000000#32 reduces_S8x1024_S1024 (.inl rfl) rfl = (up1 fun j => ∑ r, f r j : FVec Ideal S1024 .f32) := by
  funext i
  idx_vars i
  pointwise [up1, up2, up3]

theorem row_up (f : Fin 1024 → EReal) :
    shapeCast S1x1024 (up1 f : FVec Ideal S1024 .f32) shapeCasts_S1024_S1x1024 = (up2 fun _ j => f j : FVec Ideal S1x1024 .f32) := by
  funext i
  idx_vars i
  pointwise [up1, up2, up3]

theorem zero_8 :
    broadcast S8x1024 (Scalar.ofBits .f32 0x00000000#32 : Ideal .f32) = (up2 fun _ _ => 0 : FVec Ideal S8x1024 .f32) := by
  funext i
  idx_vars i
  pointwise [up1, up2, up3]

/-- The one plane of a stack of one. -/
theorem plane_up (f : Fin 1 → Fin 512 → Fin 1024 → EReal) :
    extf .f32 (shapeCast S512x1024 (up3 f : FVec Ideal S1x512x1024 .bf16) shapeCasts_S1x512x1024_S512x1024) bitsLt_bf16_f32 = (up2 (f 0) : FVec Ideal S512x1024 .f32) := by
  funext i
  idx_vars i
  pointwise [up1, up2, up3]

/-! What the body's values are, on matrices. -/

theorem pay4 (p : Mat 512 7168) (w : Mat 1024 7168) :
    k0_pay4 (F := Ideal) (up2 (φ := .bf16) p) (up2 (φ := .bf16) w) = up2 (mmT p w) := by
  simp -proj only [k0_pay4, mmT_big]

theorem pay5 (x : Mat 512 1024) : k0_pay5 (F := Ideal) (up2 (φ := .f32) x) = up2 fun i _ => inv x i := by
  simp -proj only [k0_pay5, mul_up, rowsum, col_up, div_n, inv_up]

theorem pay6 (x : Mat 512 1024) : k0_pay6 (F := Ideal) (up2 (φ := .f32) x) = up2 (nrm x) := by
  simp -proj only [k0_pay6, pay5, bcol, mul_up]
  try rfl

theorem pay7 (p : Mat 512 7168) (w : Mat 1024 7168) (x : Mat 512 1024) (a : Mat 8 1024) :
    k0_pay7 (F := Ideal) (up2 (φ := .bf16) p) (up2 (φ := .bf16) w) (up2 (φ := .f32) x) (up2 (φ := .f32) a) = up2 (addm a (fold512 (mulm (mmT p w) (nrm x)))) := by
  simp -proj only [k0_pay7, pay4, pay6, mul_up, fold_up, add_up, same_8]
  try rfl

theorem pay8 (t : Fin 1 → Fin 512 → Fin 1024 → EReal) : k0_pay8 (F := Ideal) (up3 (φ := .bf16) t) = up2 (t 0) := by
  simp -proj only [k0_pay8, plane_up]

theorem pay9 (p : Mat 512 7168) (w : Mat 1024 7168) (g : Mat 1 1024) :
    k0_pay9 (F := Ideal) (up2 (φ := .bf16) p) (up2 (φ := .bf16) w) (up2 (φ := .f32) g) = up2 (scl (mmT p w) g) := by
  simp -proj only [k0_pay9, pay4, brow, mul_up]
  try rfl

theorem pay10 (p : Mat 512 7168) (w : Mat 1024 7168) (x : Mat 512 1024) (g : Mat 1 1024) :
    k0_pay10 (F := Ideal) (up2 (φ := .bf16) p) (up2 (φ := .bf16) w) (up2 (φ := .f32) x) (up2 (φ := .f32) g) = up2 fun i _ => ∑ l, scl (mmT p w) g i l * nrm x i l := by
  simp -proj only [k0_pay10, pay9, pay6, mul_up, rowsum, col_up]

theorem pay1 (r : Fin 512 → EReal) (xh t d : Mat 512 1024) :
    k0_pay1 (F := Ideal) (up2 (φ := .f32) fun i _ => r i) (up2 (φ := .f32) xh) (up2 (φ := .f32) t) (up2 (φ := .f32) d) (up2 (φ := .f32) fun i _ => ∑ l, d i l * xh i l)
      = up2 (addm t (back d xh r)) := by
  simp -proj only [k0_pay1, div_n, bcol, mul_up, sub_up, add_up]
  try rfl

theorem pay2 (a : Mat 8 1024) : k0_pay2 (F := Ideal) (up2 (φ := .f32) a) = up2 (sum8 a) := by
  simp -proj only [k0_pay2, sum8_up, row_up]
  try rfl

theorem pay3 : k0_pay3 (F := Ideal) = up2 fun _ _ => 0 := by
  simp -proj only [k0_pay3, same_8, zero_8]

/-! What a point of each case leaves. -/

theorem canon_whole8 (w : Vec Ideal S8x1024 .f32) (L : List (View.Piece (Elt Ideal) S8x1024 .f32)) :
    View.canon (⟨Rect.unit ![0, 0] ![8, 1024] inb_S8x1024_S8x1024_0_0, w⟩ :: L) = w :=
  View.canon_cons_unit_lit' _ w L (by decide)

theorem canon_whole512 (w : Vec Ideal S512x1024 .f32) (L : List (View.Piece (Elt Ideal) S512x1024 .f32)) :
    View.canon (⟨Rect.unit ![0, 0] ![512, 1024] inb_S512x1024_S512x1024_0_0, w⟩ :: L) = w :=
  View.canon_cons_unit_lit' _ w L (by decide)

theorem canon_whole1 (w : Vec Ideal S1x1024 .f32) (L : List (View.Piece (Elt Ideal) S1x1024 .f32)) :
    View.canon (⟨Rect.unit ![0, 0] ![1, 1024] inb_S1x1024_S1x1024_0_0, w⟩ :: L) = w :=
  View.canon_cons_unit_lit' _ w L (by decide)

variable {c : Dev nD}
  {arg1 : Memref sig .tc .vmem S512x7168 .bf16} {harg1 : arg1.IsWhole}
  {arg2 : Memref sig .tc .vmem S1024x7168 .bf16} {harg2 : arg2.IsWhole}
  {arg3 : Memref sig .tc .vmem S512x1024 .f32} {harg3 : arg3.IsWhole}
  {arg4 : Memref sig .tc .vmem S1x512x1024 .bf16} {harg4 : arg4.IsWhole}
  {arg5 : Memref sig .tc .vmem S1x1024 .f32} {harg5 : arg5.IsWhole}
  {arg7 : Memref sig .tc .vmem S512x1024 .f32} {harg7 : arg7.IsWhole}
  {arg8 : Memref sig .tc .vmem S1x1024 .f32} {harg8 : arg8.IsWhole}
  {arg9 : Memref sig .tc .vmem S8x1024 .f32} {harg9 : arg9.IsWhole}
variable (I : Pj 512) (a : Mat 8 1024)

theorem A_dx {i : grid0.Coords} (hc0 : cond0_0 i) (hc1 : ¬cond0_1 i) :
    out0_A_5 (F := Ideal) c i arg1 harg1 arg2 harg2 arg3 harg3 arg4 harg4 arg5 harg5 arg7 harg7 arg8 harg8 arg9 harg9 hc0 hc1 (up2 (φ := .bf16) I.p) (up2 (φ := .bf16) I.w) (up2 (φ := .f32) I.x) (up3 (φ := .bf16) fun _ => I.t 0) (up2 (φ := .f32) I.g) = up2 (φ := .f32) I.dx := by
  unfold out0_A_5
  rw [View.read_writes_junk_eq_canon]
  dsimp only [kernelRun0_A]
  rw [canon_whole512]
  simp (disch := decide) only [kernelRun0_A.sl.r, kernelRun0_A.sl.r_1, kernelRun0_A.sl.r_2, kernelRun0_A.sl.r_3, kernelRun0_A.sl.r_4, View.readAt_eq_ld, Memref.IsWhole.read_unread, View.ld_unit_lit', pay5, pay6, pay8, pay9, pay10, pay1]
  rfl

theorem A_sum {i : grid0.Coords} (hc0 : cond0_0 i) (hc1 : ¬cond0_1 i) :
    sout0_A_0 (F := Ideal) c i arg1 harg1 arg2 harg2 arg3 harg3 arg4 harg4 arg5 harg5 arg7 harg7 arg8 harg8 arg9 harg9 hc0 hc1 (up2 (φ := .bf16) I.p) (up2 (φ := .bf16) I.w) (up2 (φ := .f32) I.x) (up3 (φ := .bf16) fun _ => I.t 0) (up2 (φ := .f32) I.g) = up2 (φ := .f32) (addm (fun _ _ => 0) (fold512 I.gr)) := by
  unfold sout0_A_0
  rw [View.read_writes_junk_eq_canon]
  dsimp only [kernelRun0_A]
  rw [canon_whole8]
  simp (disch := decide) only [kernelRun0_A.sl.v17, kernelRun0_A.sl.HS0_1, View.readCov_cons_unit_lit', View.readCov_unit_lit', pay3, View.readAt_eq_ld, Memref.IsWhole.read_unread, View.ld_unit_lit', pay7]
  rfl

theorem B_dx {i : grid0.Coords} (hc0 : ¬cond0_0 i) (hc1 : ¬cond0_1 i) :
    out0_B_5 (F := Ideal) c i arg1 harg1 arg2 harg2 arg3 harg3 arg4 harg4 arg5 harg5 arg7 harg7 arg8 harg8 arg9 harg9 hc0 hc1 (up2 (φ := .bf16) I.p) (up2 (φ := .bf16) I.w) (up2 (φ := .f32) I.x) (up3 (φ := .bf16) fun _ => I.t 0) (up2 (φ := .f32) I.g) (up2 (φ := .f32) a) = up2 (φ := .f32) I.dx := by
  unfold out0_B_5
  rw [View.read_writes_junk_eq_canon]
  dsimp only [kernelRun0_B]
  rw [canon_whole512]
  simp (disch := decide) only [kernelRun0_B.sl.r, kernelRun0_B.sl.r_1, kernelRun0_B.sl.r_2, kernelRun0_B.sl.r_3, kernelRun0_B.sl.r_4, View.readAt_eq_ld, Memref.IsWhole.read_unread, View.ld_unit_lit', pay5, pay6, pay8, pay9, pay10, pay1]
  rfl

theorem B_sum {i : grid0.Coords} (hc0 : ¬cond0_0 i) (hc1 : ¬cond0_1 i) :
    sout0_B_0 (F := Ideal) c i arg1 harg1 arg2 harg2 arg3 harg3 arg4 harg4 arg5 harg5 arg7 harg7 arg8 harg8 arg9 harg9 hc0 hc1 (up2 (φ := .bf16) I.p) (up2 (φ := .bf16) I.w) (up2 (φ := .f32) I.x) (up3 (φ := .bf16) fun _ => I.t 0) (up2 (φ := .f32) I.g) (up2 (φ := .f32) a) = up2 (φ := .f32) (addm a (fold512 I.gr)) := by
  unfold sout0_B_0
  rw [View.read_writes_junk_eq_canon]
  dsimp only [kernelRun0_B]
  rw [canon_whole8]
  simp (disch := decide) only [View.readAt_eq_ld, Memref.IsWhole.read_unread, View.ld_unit_lit', pay7]
  rfl

theorem C_dx {i : grid0.Coords} (hc0 : ¬cond0_0 i) (hc1 : cond0_1 i) :
    out0_C_5 (F := Ideal) c i arg1 harg1 arg2 harg2 arg3 harg3 arg4 harg4 arg5 harg5 arg7 harg7 arg8 harg8 arg9 harg9 hc0 hc1 (up2 (φ := .bf16) I.p) (up2 (φ := .bf16) I.w) (up2 (φ := .f32) I.x) (up3 (φ := .bf16) fun _ => I.t 0) (up2 (φ := .f32) I.g) (up2 (φ := .f32) a) = up2 (φ := .f32) I.dx := by
  unfold out0_C_5
  rw [View.read_writes_junk_eq_canon]
  dsimp only [kernelRun0_C]
  rw [canon_whole512]
  simp (disch := decide) only [kernelRun0_C.sl.r, kernelRun0_C.sl.r_1, kernelRun0_C.sl.r_2, kernelRun0_C.sl.r_3, kernelRun0_C.sl.r_4, View.readAt_eq_ld, Memref.IsWhole.read_unread, View.ld_unit_lit', pay5, pay6, pay8, pay9, pay10, pay1]
  rfl

theorem C_sum {i : grid0.Coords} (hc0 : ¬cond0_0 i) (hc1 : cond0_1 i) :
    sout0_C_0 (F := Ideal) c i arg1 harg1 arg2 harg2 arg3 harg3 arg4 harg4 arg5 harg5 arg7 harg7 arg8 harg8 arg9 harg9 hc0 hc1 (up2 (φ := .bf16) I.p) (up2 (φ := .bf16) I.w) (up2 (φ := .f32) I.x) (up3 (φ := .bf16) fun _ => I.t 0) (up2 (φ := .f32) I.g) (up2 (φ := .f32) a) = up2 (φ := .f32) (addm a (fold512 I.gr)) := by
  unfold sout0_C_0
  rw [View.read_writes_junk_eq_canon]
  dsimp only [kernelRun0_C]
  simp only [kernelRun0_C.sl.HS0_1, canon_whole8]
  simp (disch := decide) only [View.readAt_eq_ld, Memref.IsWhole.read_unread, View.ld_unit_lit', pay7]
  rfl

theorem C_row {i : grid0.Coords} (hc0 : ¬cond0_0 i) (hc1 : cond0_1 i) :
    out0_C_6 (F := Ideal) c i arg1 harg1 arg2 harg2 arg3 harg3 arg4 harg4 arg5 harg5 arg7 harg7 arg8 harg8 arg9 harg9 hc0 hc1 (up2 (φ := .bf16) I.p) (up2 (φ := .bf16) I.w) (up2 (φ := .f32) I.x) (up3 (φ := .bf16) fun _ => I.t 0) (up2 (φ := .f32) I.g) (up2 (φ := .f32) a) = up2 (φ := .f32) (sum8 (addm a (fold512 I.gr))) := by
  unfold out0_C_6
  rw [View.read_writes_junk_eq_canon]
  dsimp only [kernelRun0_C]
  rw [canon_whole1]
  simp (disch := decide) only [kernelRun0_C.sl.v46, kernelRun0_C.sl.HS0_1, View.readCov_cons_unit_lit', View.readCov_unit_lit', View.readAt_eq_ld, Memref.IsWhole.read_unread, View.ld_unit_lit', pay7, pay2]
  rfl

end Cert.Proj

end
-- ==== Proof.ProjArrays.lean ====
/- What the projection's backward call leaves at each point, and in its result arrays after the last. -/
module

public import proofs.«01_k».proof.Proof.Proj
public import proofs.«01_k».proof.Proof.Arrays
public import proofs.«01_k».proof.Proof.Gen.Kernel2Ideal.Value

@[expose] public section

set_option maxRecDepth 16384

noncomputable section

namespace Cert.Proj

open Idealize.ShloMosaic Idealize.ShloMosaic.TcCoe Idealize.SL.Sem Cert.Kernel2Ideal Cert.Kernel2Ideal.Gen Cert.Spec Cert.Reals
open Cert.Lift (up1 up2 up3)
open Cert.Arrays (upto upto_apply sum_blocks)
open Idealize.ShloMosaic.Pipeline (Dat)

/-- The device's argument arrays are the arrays `I`. -/
structure Holds (m : (ℓ : Loc nD τ sig) → Buf (Elt Ideal) ℓ) (c : Dev nD) (I : Pj 4096) : Prop where
  p : m ((c.tc : Thread nD τ).loc main_arg0) = (up2 I.p : FVec Ideal ⟨2, ![4096, 7168]⟩ .bf16)
  w : m ((c.tc : Thread nD τ).loc main_arg1) = (up2 I.w : FVec Ideal ⟨2, ![1024, 7168]⟩ .bf16)
  x : m ((c.tc : Thread nD τ).loc main_arg2) = (up2 I.x : FVec Ideal ⟨2, ![4096, 1024]⟩ .f32)
  t : m ((c.tc : Thread nD τ).loc main_arg3) = (up3 I.t : FVec Ideal ⟨3, ![3, 4096, 1024]⟩ .bf16)
  g : m ((c.tc : Thread nD τ).loc main_arg4) = (up2 I.g : FVec Ideal ⟨2, ![1, 1024]⟩ .f32)

variable {m : (ℓ : Loc nD τ sig) → Buf (Elt Ideal) ℓ} {c : Dev nD} {I : Pj 4096}

/-- Which block of its array each window holds at each point. -/
theorem idx : ∀ t : Fin cfg0.N, win0_0.index t = ![t.val, 0] ∧ win0_1.index t = ![0, 0] ∧ win0_2.index t = ![t.val, 0] ∧ win0_3.index t = ![0, t.val, 0] ∧
    win0_4.index t = ![0, 0] ∧ win0_5.index t = ![t.val, 0] :=
  (by decide +kernel : ∀ t : Fin grid0.N, _)

theorem point_lt (t : Fin cfg0.N) : t.val < 8 := lt_of_lt_of_eq t.isLt N_0

/-- The rows `512 n, …, 512 n + 511`, those point `n` works on. -/
def blk (I : Pj 4096) (n : ℕ) : Pj 512 := I.rows fun r => ⟨(512 * n + r.val) % 4096, by omega⟩

theorem blk_p (H : Holds m c I) (t : Fin cfg0.N) : (iblk m c 0 t : Vec Ideal S512x7168 .bf16) = up2 (φ := .bf16) (blk I t.val).p := by
  funext y
  blk_simp [iblk, V]
  rw [H.p]
  have ht := point_lt t
  have hy : (y 0).val < 512 := (y 0).isLt
  refine congrArg₂ I.p (Fin.ext ?_) (Fin.ext ?_)
  · blk_simp [idx t]
    simp only
    omega
  · blk_simp [idx t]

theorem blk_w (H : Holds m c I) (t : Fin cfg0.N) : (iblk m c 1 t : Vec Ideal S1024x7168 .bf16) = up2 (φ := .bf16) (blk I t.val).w := by
  funext y
  blk_simp [iblk, V]
  rw [H.w]
  exact congrArg (up2 I.w) (by blk_ext [idx t])

theorem blk_x (H : Holds m c I) (t : Fin cfg0.N) : (iblk m c 2 t : Vec Ideal S512x1024 .f32) = up2 (φ := .f32) (blk I t.val).x := by
  funext y
  blk_simp [iblk, V]
  rw [H.x]
  have ht := point_lt t
  have hy : (y 0).val < 512 := (y 0).isLt
  refine congrArg₂ I.x (Fin.ext ?_) (Fin.ext ?_)
  · blk_simp [idx t]
    simp only
    omega
  · blk_simp [idx t]

theorem blk_t (H : Holds m c I) (t : Fin cfg0.N) : (iblk m c 3 t : Vec Ideal S1x512x1024 .bf16) = up3 (φ := .bf16) fun _ => (blk I t.val).t 0 := by
  funext y
  blk_simp [iblk, V]
  rw [H.t]
  have ht := point_lt t
  have hy : (y 1).val < 512 := (y 1).isLt
  have e {s s' : Fin 3} {i i' : Fin 4096} {j j' : Fin 1024} (hs : s = s') (hi : i = i') (hj : j = j') : I.t s i j = I.t s' i' j' := by rw [hs, hi, hj]
  refine e (Fin.ext ?_) (Fin.ext ?_) (Fin.ext ?_)
  · blk_simp [idx t]
    rfl
  · blk_simp [idx t]
    simp only
    omega
  · blk_simp [idx t]

theorem blk_g (H : Holds m c I) (t : Fin cfg0.N) : (iblk m c 4 t : Vec Ideal S1x1024 .f32) = up2 (φ := .f32) (blk I t.val).g := by
  funext y
  blk_simp [iblk, V]
  rw [H.g]
  exact congrArg (up2 I.g) (by blk_ext [idx t])

/-- A point leaves the block of `J`'s rows, and the sums `a`. -/
structure Leaves (o : Vec Ideal S512x1024 .f32 × Vec Ideal S1x1024 .f32 × Vec Ideal S8x1024 .f32) (J : Pj 512) (a : Mat 8 1024) : Prop where
  dx : o.1 = up2 (φ := .f32) J.dx
  sum : o.2.2 = up2 (φ := .f32) a

section Steps

variable (H : Holds m c I) (t : Fin cfg0.N)
include H

theorem step_A (h0 : t.val % 8 = 0) (h1 : ¬t.val % 8 = 7) :
    Leaves (outsAt0 m c t.val t.isLt) (blk I t.val) (addm (fun _ _ => 0) (fold512 (blk I t.val).gr)) := by
  rw [outsAt0_A m c t h0 h1]
  simp only [blk_p H, blk_w H, blk_x H, blk_t H, blk_g H]
  constructor
  all_goals dsimp only
  · exact A_dx (blk I t.val) _ _
  · exact A_sum (blk I t.val) _ _

theorem step_B (h0 : ¬t.val % 8 = 0) (h1 : ¬t.val % 8 = 7) {J : Pj 512} {a : Mat 8 1024}
    (P : Leaves (outsAt0 m c (t.val - 1) (Nat.lt_of_le_of_lt (Nat.sub_le _ _) t.isLt)) J a) :
    Leaves (outsAt0 m c t.val t.isLt) (blk I t.val) (addm a (fold512 (blk I t.val).gr)) := by
  rw [outsAt0_B m c t h0 h1]
  simp only [blk_p H, blk_w H, blk_x H, blk_t H, blk_g H, P.sum]
  constructor
  all_goals dsimp only
  · exact B_dx (blk I t.val) a _ _
  · exact B_sum (blk I t.val) a _ _

theorem step_C (h0 : ¬t.val % 8 = 0) (h1 : t.val % 8 = 7) {J : Pj 512} {a : Mat 8 1024}
    (P : Leaves (outsAt0 m c (t.val - 1) (Nat.lt_of_le_of_lt (Nat.sub_le _ _) t.isLt)) J a) :
    Leaves (outsAt0 m c t.val t.isLt) (blk I t.val) (addm a (fold512 (blk I t.val).gr)) ∧
      (outsAt0 m c t.val t.isLt).2.1 = up2 (φ := .f32) (sum8 (addm a (fold512 (blk I t.val).gr))) := by
  rw [outsAt0_C m c t h0 h1]
  simp only [blk_p H, blk_w H, blk_x H, blk_t H, blk_g H, P.sum]
  refine ⟨⟨?_, ?_⟩, ?_⟩
  all_goals try dsimp only
  · exact C_dx (blk I t.val) a _ _
  · exact C_sum (blk I t.val) a _ _
  · exact C_row (blk I t.val) a _ _

end Steps

/-- What every point leaves. -/
theorem leaves (H : Holds m c I) (n : ℕ) (hn : n < cfg0.N) :
    Leaves (outsAt0 m c n hn) (blk I n) (upto (fun s => fold512 (blk I s).gr) n) := by
  induction n with
  | zero => exact step_A H ⟨0, hn⟩ rfl (by simp only; omega)
  | succ n ih =>
    have h8 : n + 1 < 8 := lt_of_lt_of_eq hn N_0
    by_cases h : (n + 1) % 8 = 7
    · exact (step_C H ⟨n + 1, hn⟩ (by simp only; omega) h (ih (Nat.lt_of_succ_lt hn))).1
    · exact step_B H ⟨n + 1, hn⟩ (by simp only; omega) h (ih (Nat.lt_of_succ_lt hn))

theorem row (H : Holds m c I) (hn : 7 < cfg0.N) :
    (outsAt0 m c 7 hn).2.1 = up2 (φ := .f32) (sum8 (upto (fun s => fold512 (blk I s).gr) 7)) :=
  (step_C H ⟨7, hn⟩ (by simp only; omega) (by simp only) (leaves H 6 (Nat.lt_of_succ_lt hn))).2

theorem dg_all : sum8 (upto (fun s => fold512 (blk I s).gr) 7) = fun _ j => I.dg j := by
  funext _ j
  simp only [sum8, upto_apply]
  rw [Finset.sum_comm, Pj.dg, ← sum_blocks]
  refine Finset.sum_congr rfl fun s _ => ?_
  rw [sum_fold512]
  rfl

theorem final_dx (H : Holds m c I) : (dats m 0 c).arrAt 5 cfg0.N = (up2 (φ := .f32) I.dx : Vec Ideal S4096x1024 .f32) := by
  refine (dats m 0 c).arrAt_eq_of_covers 5 _ (by decide +kernel) fun t _ y => ?_
  blk_simp
  rw [after0_5, (leaves H t.val t.isLt).dx]
  have ht := point_lt t
  have hy : (y 0).val < 512 := (y 0).isLt
  have hb (i : Fin 512) (j : Fin 1024) : (blk I t.val).dx i j = I.dx ⟨(512 * t.val + i.val) % 4096, by omega⟩ j := rfl
  refine (hb _ _).trans (congrArg₂ I.dx (Fin.ext ?_) (Fin.ext ?_))
  · blk_simp [idx t]
    simp only
    omega
  · blk_simp [idx t]

theorem final_dg (H : Holds m c I) : (dats m 0 c).arrAt 6 cfg0.N = (up2 (φ := .f32) (fun _ j => I.dg j) : Vec Ideal S1x1024 .f32) := by
  refine (dats m 0 c).arrAt_eq_of_after_last 6 t0_7 (by decide +kernel) _ fun j => ?_
  blk_simp
  rw [after0_6]
  exact congrFun ((row H t0_7.isLt).trans (congrArg (up2 (φ := .f32)) dg_all)) j

end Cert.Proj

end
-- ==== Proof.ProjRef.lean ====
/- The reference's two results of the input projection's backward pass, on matrices. -/
module

public import proofs.«01_k».proof.Proof.Proj
public import proofs.«01_k».proof.Proof.Gen.Reference2Ideal.Run
public import Idealize.ShloMosaic.Lib.Pointwise

@[expose] public section

set_option maxRecDepth 16384

noncomputable section

namespace Cert.ProjRef

open Cert.Reference2Ideal Cert.Reference2Ideal.Gen Cert.Reference2Ideal.Value
open Idealize.ShloMosaic Idealize.ShloMosaic.TcCoe Idealize.SL.Sem Idealize.ShloMosaic.StableHlo
open Cert.Spec Cert.Reals
open Cert.Lift (up1 up2 up3)

/-- The buffers hold the arrays `I`. -/
structure Holds (m : (ℓ : Loc nD τ sig) → Buf (Elt Ideal) ℓ) (c : Dev nD) (I : Pj 4096) : Prop where
  p : m ((c.tc : Thread nD τ).loc main_arg0) = (up2 I.p : FVec Ideal S4096x7168 .bf16)
  w : m ((c.tc : Thread nD τ).loc main_arg1) = (up2 I.w : FVec Ideal S1024x7168 .bf16)
  x : m ((c.tc : Thread nD τ).loc main_arg2) = (up2 I.x : FVec Ideal S4096x1024 .f32)
  t : m ((c.tc : Thread nD τ).loc main_arg3) = (up3 I.t : FVec Ideal S3x4096x1024 .bf16)
  g : m ((c.tc : Thread nD τ).loc main_arg4) = (up2 I.g : FVec Ideal S1x1024 .f32)

variable {m : (ℓ : Loc nD τ sig) → Buf (Elt Ideal) ℓ} {c : Dev nD} {I : Pj 4096}

theorem dh_up (p : Mat 4096 7168) (w : Mat 1024 7168) :
    Host.dotGeneral (φ₁ := .f32) (φ₂ := .f32) dot_S4096x7168_S1024x7168_S4096x1024_1_1_0_0_n_n none (extf .f32 (up2 p : FVec Ideal S4096x7168 .bf16) bitsLt_bf16_f32) (extf .f32 (up2 w : FVec Ideal S1024x7168 .bf16) bitsLt_bf16_f32)
      = (up2 (mmT p w) : FVec Ideal S4096x1024 .f32) := by
  funext i
  idx_vars i
  pointwise [up2]
  rfl

theorem ms_up (x : Mat 4096 1024) :
    addf (Host.divf (broadcastInDim S4096x1 ![0] bcast_S4096_S4096x1_0 (Host.reduceAdd (mulf (up2 x : FVec Ideal S4096x1024 .f32) (up2 x)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
      = (up2 fun i _ => ms x i : FVec Ideal S4096x1 .f32) := by
  funext i
  idx_vars i
  pointwise [up2]
  simp only [zero_add, bits_1024, bits_eps]
  rfl

theorem inv_up (x : Mat 4096 1024) :
    Host.rsqrt (up2 fun i _ => ms x i : FVec Ideal S4096x1 .f32) = up2 fun i _ => inv x i := by
  funext i
  idx_vars i
  pointwise [up2]
  rfl

theorem scl_up (d : Mat 4096 1024) (g : Mat 1 1024) :
    mulf (up2 d : FVec Ideal S4096x1024 .f32) (broadcastInDim S4096x1024 ![0, 1] bcast_S1x1024_S4096x1024_0_1 (up2 g : FVec Ideal S1x1024 .f32)) = up2 (scl d g) := by
  funext i
  idx_vars i
  pointwise [up2]
  rfl

theorem back_up (d x : Mat 4096 1024) :
    broadcastInDim S4096x1024 ![0] bcast_S4096_S4096x1024_0 (Host.reduceAdd (Host.divf (mulf (shapeCast S4096x1 (Host.reduceAdd (mulf (up2 x : FVec Ideal S4096x1024 .f32) (up2 d)) (constant S_ .f32 0x00000000#32) reducesTo_S4096x1024_S4096_d1 h_S_) shapeCasts_S4096_S4096x1)
        (mulf (broadcastInDim S4096x1 ![] bcast_S_S4096x1 (constant S_ .f32 0xBF000000#32)) (Host.divf (up2 fun i _ => inv x i) (up2 fun i _ => ms x i : FVec Ideal S4096x1 .f32)))) (broadcastInDim S4096x1 ![] bcast_S_S4096x1 (constant S_ .f32 0x44800000#32))) (constant S_ .f32 0x00000000#32) reducesTo_S4096x1_S4096_d1 h_S_)
      = (up2 fun i _ => msBack d x i : FVec Ideal S4096x1024 .f32) := by
  funext i
  idx_vars i
  pointwise [up2]
  simp only [zero_add, bits_1024, bits_neg_half]
  simp only [Fin.sum_univ_one]
  rfl

theorem out0 (H : Holds m c I) : res_main_v41 m c = (up2 I.dx : FVec Ideal S4096x1024 .f32) := by
  unfold res_main_v41
  rw [H.p, H.w, H.x, H.t, H.g]
  rw [dh_up, ms_up, inv_up, scl_up, back_up]
  funext i
  idx_vars i
  pointwise [up2, up3]
  rw [add_assoc, add_assoc, ← add_assoc (_ * _)]
  exact congrArg _ (back_eq _ _ _ _)

theorem out1 (H : Holds m c I) : shapeCast S1x1024 (Host.reduceAdd (mulf (mulf (m ((c.tc : Thread nD τ).loc main_arg2)) (broadcastInDim S4096x1024 ![0, 1] bcast_S4096x1_S4096x1024_0_1 (Host.rsqrt (addf (Host.divf (broadcastInDim S4096x1 ![0] bcast_S4096_S4096x1_0 (Host.reduceAdd (mulf (m ((c.tc : Thread nD τ).loc main_arg2)) (m ((c.tc : Thread nD τ).loc main_arg2))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (Host.dotGeneral (φ₁ := .f32) (φ₂ := .f32) dot_S4096x7168_S1024x7168_S4096x1024_1_1_0_0_n_n none (extf .f32 (m ((c.tc : Thread nD τ).loc main_arg0)) bitsLt_bf16_f32) (extf .f32 (m ((c.tc : Thread nD τ).loc main_arg1)) bitsLt_bf16_f32))) (constant S_ .f32 0x00000000#32) reducesTo_S4096x1024_S1024_d0 h_S_) shapeCasts_S1024_S1x1024
      = (up2 fun _ j => I.dg j : FVec Ideal S1x1024 .f32) := by
  rw [H.p, H.w, H.x, dh_up, ms_up, inv_up]
  funext i
  idx_vars i
  pointwise [up2]
  exact Finset.sum_congr rfl fun l _ => EReal.mul_comm _ _

end Cert.ProjRef

end
-- ==== Proof.DwIn.lean ====
/- The first rows of the input projection's weight gradient: the kernel's result and the reference's, over the extended
   reals. -/
module

public import proofs.«01_k».proof.Proof.Inputs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.DwIn

open Idealize.ShloMosaic Idealize.ShloMosaic.TcCoe Idealize.SL.Sem Cert.Spec Cert.Reals
open Cert.Lift (up1 up2 up3)
open Cert.Inputs (ent eq_up2)

section Kernel

open Cert.Kernel3Ideal Cert.Kernel3Ideal.Gen

theorem mm_big (f : Mat 512 4096) (g : Mat 4096 1024) :
    k0_pay1 (F := Ideal) (up2 (φ := .bf16) f) (up2 (φ := .bf16) g) = (up2 (mm f g) : FVec Ideal S512x1024 .bf16) := by
  funext i
  idx_vars i
  pointwise [k0_pay1, up2]
  simp only [zero_add, mm]

theorem out (f : Mat 512 4096) (g : Mat 4096 1024) :
    out0_2 (F := Ideal) (up2 (φ := .bf16) f) (up2 (φ := .bf16) g) = up2 (φ := .bf16) (mm f g) := by
  unfold out0_2
  rw [View.canon_cons_unit_lit' _ _ _ (by decide), View.ld_unit_lit' _ _ (by decide), View.ld_unit_lit' _ _ (by decide), mm_big]

variable {m : (ℓ : Loc nD τ sig) → Buf (Elt Ideal) ℓ} {c : Dev nD} {h : Mat 1024 4096} {d : Mat 4096 7168}

/-- The two argument arrays are the transposed rows and the projection's cotangent. -/
structure Holds (m : (ℓ : Loc nD τ sig) → Buf (Elt Ideal) ℓ) (c : Dev nD) (h : Mat 1024 4096) (d : Mat 4096 7168) : Prop where
  h : m ((c.tc : Thread nD τ).loc main_arg0) = (up2 h : FVec Ideal ⟨2, ![1024, 4096]⟩ .bf16)
  d : m ((c.tc : Thread nD τ).loc main_arg1) = (up2 d : FVec Ideal ⟨2, ![4096, 7168]⟩ .bf16)

theorem idx : ∀ t : Fin cfg0.N, win0_0.index t = ![0, 0] ∧ win0_1.index t = ![0, t.val] ∧ win0_2.index t = ![0, t.val] :=
  (by decide +kernel : ∀ t : Fin grid0.N, _)

theorem point_lt (t : Fin cfg0.N) : t.val < 7 := lt_of_lt_of_eq t.isLt N_0

/-- The first 512 rows, and the 1024 columns of point `n`. -/
def top (h : Mat 1024 4096) : Mat 512 4096 := fun i l => h ⟨i.val, by omega⟩ l
def cols (d : Mat 4096 7168) (n : ℕ) : Mat 4096 1024 := fun l j => d l ⟨(1024 * n + j.val) % 7168, by omega⟩

theorem blk_h (H : Holds m c h d) (t : Fin cfg0.N) : (iblk m c 0 t : Vec Ideal S512x4096 .bf16) = up2 (φ := .bf16) (top h) := by
  funext y
  blk_simp [iblk, V]
  rw [H.h]
  refine congrArg₂ h (Fin.ext ?_) (Fin.ext ?_)
  · blk_simp [idx t]
  · blk_simp [idx t]

theorem blk_d (H : Holds m c h d) (t : Fin cfg0.N) : (iblk m c 1 t : Vec Ideal S4096x1024 .bf16) = up2 (φ := .bf16) (cols d t.val) := by
  funext y
  blk_simp [iblk, V]
  rw [H.d]
  have ht := point_lt t
  have hy : (y 1).val < 1024 := (y 1).isLt
  refine congrArg₂ d (Fin.ext ?_) (Fin.ext ?_)
  · blk_simp [idx t]
  · blk_simp [idx t]
    simp only
    omega

theorem kernel (H : Holds m c h d) : (dats m 0 c).arrAt 2 cfg0.N = (up2 (φ := .bf16) (mm (top h) d) : Vec Ideal S512x7168 .bf16) := by
  refine (dats m 0 c).arrAt_eq_of_covers 2 _ (by decide +kernel) fun t _ y => ?_
  blk_simp
  rw [after0_2, blk_h H, blk_d H, out]
  have ht := point_lt t
  have hy : (y 1).val < 1024 := (y 1).isLt
  have hb (i : Fin 512) (j : Fin 1024) : mm (top h) (cols d t.val) i j = mm (top h) d i ⟨(1024 * t.val + j.val) % 7168, by omega⟩ := rfl
  refine (hb _ _).trans (congrArg₂ (mm (top h) d) (Fin.ext ?_) (Fin.ext ?_))
  · blk_simp [idx t]
  · blk_simp [idx t]
    simp only
    omega

end Kernel

section Reference

open Cert.Reference3Ideal Cert.Reference3Ideal.Gen Idealize.ShloMosaic.StableHlo

theorem reference (h : Mat 1024 4096) (d : Mat 4096 7168) :
    (truncf .bf16 (extractStridedSlice S512x7168 ![0, 0] (transpose S1024x7168 [1, 0] (Host.dotGeneral (φ₁ := .f32) (φ₂ := .f32) dot_S4096x7168_S4096x1024_S7168x1024_0_0_1_1_n_n none (extf .f32 (up2 d : FVec Ideal S4096x7168 .bf16) bitsLt_bf16_f32)
      (transpose S4096x1024 [1, 0] (extf .f32 (up2 h : FVec Ideal S1024x4096 .bf16) bitsLt_bf16_f32) transposes_S1024x4096_S4096x1024_1_0)) transposes_S7168x1024_S1024x7168_1_0) slices_S1024x7168_S512x7168_0_0) bitsLt_bf16_f32 : FVec Ideal S512x7168 .bf16)
      = up2 (mm (top h) d) := by
  funext i
  idx_vars i
  pointwise [up2]
  exact Finset.sum_congr rfl fun l _ => by rw [EReal.mul_comm]; rfl

end Reference

end Cert.DwIn

end
-- ==== Proof.Claims2.lean ====
/- The claims about the input projection's backward calls: each program's frame, and the kernels' results equal to the
   references'. -/
module

public import proofs.«01_k».proof.Defs
public import proofs.«01_k».proof.Proof.ProjArrays
public import proofs.«01_k».proof.Proof.ProjRef
public import proofs.«01_k».proof.Proof.DwIn
public import proofs.«01_k».proof.Proof.Gen.Kernel2.Frame
public import proofs.«01_k».proof.Proof.Gen.Kernel3.Frame
public import Idealize.ShloMosaic.Lib.Claim

@[expose] public section

noncomputable section

namespace Cert.Claims2

open Idealize.ShloMosaic Idealize.SL.Sem Cert.Spec
open Cert.Lift (up2 up3)
open Cert.Inputs (ent eq_up2)

theorem frame_p : @Cert.quiescent_Kernel2 Cert.Kernel2.Gen.facts := fun m ρ _ => Cert.Kernel2.Gen.frame m ρ

theorem frame_pi : @Cert.quiescent_Kernel2Ideal Cert.Kernel2Ideal.Gen.facts := fun m ρ _ => Cert.Kernel2Ideal.Gen.frame m ρ

theorem frame_ri : @Cert.quiescent_Reference2Ideal Cert.Reference2Ideal.Gen.facts := fun m ρ _ =>
  (θ_run Cert.Reference2Ideal.defs _ _).mono
    (fun r h => ⟨fun c => (h c).2.2, Idealize.ShloMosaic.sem_eq_zero_of_no_sems (by decide) r.2⟩)
    (Cert.Reference2Ideal.Value.run (F := Ideal) m ρ)

/-- The entries. -/
def ent3 {φ : FTy} {a b d : ℕ} (x : FVec Ideal ⟨3, ![a, b, d]⟩ φ) : Fin a → Fin b → Fin d → EReal := fun i j k => x (ix3 i j k)

theorem eq_up3 {φ : FTy} {a b d : ℕ} (x : FVec Ideal ⟨3, ![a, b, d]⟩ φ) : x = up3 (ent3 x) := by
  funext i
  exact congrArg x (show i = ix3 (i 0) (i 1) (i 2) by funext k; match k with | ⟨0, _⟩ => rfl | ⟨1, _⟩ => rfl | ⟨2, _⟩ => rfl)

/-- The device's arguments as matrices. -/
def ins (m : (ℓ : Loc Cert.Kernel2Ideal.nD Cert.Kernel2Ideal.τ Cert.Kernel2Ideal.sig) → Buf (Elt Ideal) ℓ) (c : Dev Cert.Kernel2Ideal.nD) : Pj 4096 where
  p := ent (φ := .bf16) (m ((c.tc : Thread Cert.Kernel2Ideal.nD Cert.Kernel2Ideal.τ).loc Cert.Kernel2Ideal.main_arg0))
  w := ent (φ := .bf16) (m ((c.tc : Thread Cert.Kernel2Ideal.nD Cert.Kernel2Ideal.τ).loc Cert.Kernel2Ideal.main_arg1))
  x := ent (φ := .f32) (m ((c.tc : Thread Cert.Kernel2Ideal.nD Cert.Kernel2Ideal.τ).loc Cert.Kernel2Ideal.main_arg2))
  t := ent3 (φ := .bf16) (m ((c.tc : Thread Cert.Kernel2Ideal.nD Cert.Kernel2Ideal.τ).loc Cert.Kernel2Ideal.main_arg3))
  g := ent (φ := .f32) (m ((c.tc : Thread Cert.Kernel2Ideal.nD Cert.Kernel2Ideal.τ).loc Cert.Kernel2Ideal.main_arg4))

theorem holds (m : (ℓ : Loc Cert.Kernel2Ideal.nD Cert.Kernel2Ideal.τ Cert.Kernel2Ideal.sig) → Buf (Elt Ideal) ℓ) (c : Dev Cert.Kernel2Ideal.nD) : Cert.Proj.Holds m c (ins m c) :=
  ⟨eq_up2 (φ := .bf16) _, eq_up2 (φ := .bf16) _, eq_up2 (φ := .f32) _, eq_up3 (φ := .bf16) _, eq_up2 (φ := .f32) _⟩

/-- The kernel's two results are the reference's: both are the same functions of the arguments, infinite entries included. -/
theorem algebraic : @Cert.algebraic_Kernel2Ideal_Reference2Ideal Cert.Kernel2Ideal.Gen.facts Cert.Reference2Ideal.Gen.facts := by
  intro m g m' g' _ hagree
  have H (c : Dev Cert.Kernel2Ideal.nD) := holds m c
  have HV (c : Dev Cert.Reference2Ideal.nD) : Cert.ProjRef.Holds m' c (ins m c) := by
    obtain ⟨h0, h1, h2, h3, h4, _⟩ := hagree c
    exact ⟨h0.trans (H c).p, h1.trans (H c).w, h2.trans (H c).x, h3.trans (H c).t, h4.trans (H c).g⟩
  refine ⟨fun c => (up2 (φ := .f32) (ins m c).dx), fun c => (up2 (φ := .f32) fun _ j => (ins m c).dg j), ?_, ?_⟩
  · refine (θ_run Cert.Kernel2Ideal.defs _ _).mono (fun r h c => ?_) (Cert.Kernel2Ideal.Value.run_blocks (F := Ideal) m g)
    obtain ⟨h0, h1, hk⟩ := h c
    exact ⟨h0.trans (Cert.Proj.final_dx (H c)), h1.trans (Cert.Proj.final_dg (H c)), hk⟩
  · refine (θ_run Cert.Reference2Ideal.defs _ _).mono (fun r h c => ?_) (Cert.Reference2Ideal.Value.run (F := Ideal) m' g')
    obtain ⟨h0, h1, hk⟩ := h c
    exact ⟨h0.trans (Cert.ProjRef.out0 (HV c)), h1.trans (Cert.ProjRef.out1 (HV c)), hk⟩

theorem frame3_p : @Cert.quiescent_Kernel3 Cert.Kernel3.Gen.facts := fun m ρ _ => Cert.Kernel3.Gen.frame m ρ

theorem frame3_pi : @Cert.quiescent_Kernel3Ideal Cert.Kernel3Ideal.Gen.facts := fun m ρ _ => Cert.Kernel3Ideal.Gen.frame m ρ

theorem frame3_ri : @Cert.quiescent_Reference3Ideal Cert.Reference3Ideal.Gen.facts := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The kernel's result is the reference's: the same sums of products, infinite entries included. -/
theorem algebraic3 : @Cert.algebraic_Kernel3Ideal_Reference3Ideal Cert.Kernel3Ideal.Gen.facts Cert.Reference3Ideal.Gen.facts := by
  intro m g m' g' _ hagree
  let h (c : Dev Cert.Kernel3Ideal.nD) := ent (a := 1024) (b := 4096) (φ := .bf16) (m ((c.tc : Thread Cert.Kernel3Ideal.nD Cert.Kernel3Ideal.τ).loc Cert.Kernel3Ideal.main_arg0))
  let d (c : Dev Cert.Kernel3Ideal.nD) := ent (a := 4096) (b := 7168) (φ := .bf16) (m ((c.tc : Thread Cert.Kernel3Ideal.nD Cert.Kernel3Ideal.τ).loc Cert.Kernel3Ideal.main_arg1))
  have H (c : Dev Cert.Kernel3Ideal.nD) : Cert.DwIn.Holds m c (h c) (d c) := ⟨eq_up2 (φ := .bf16) _, eq_up2 (φ := .bf16) _⟩
  refine ⟨fun c => (up2 (φ := .bf16) (mm (Cert.DwIn.top (h c)) (d c))), ?_, ?_⟩
  · refine (θ_run Cert.Kernel3Ideal.defs _ _).mono (fun r k c => ?_) (Cert.Kernel3Ideal.Value.run_blocks (F := Ideal) m g)
    exact ⟨(k c).1.trans (Cert.DwIn.kernel (H c)), (k c).2⟩
  · refine (θ_run Cert.Reference3Ideal.defs _ _).mono (fun r k c => ?_) (Cert.Reference3Ideal.Value.run (F := Ideal) m' g')
    obtain ⟨e0, e1⟩ := hagree c
    refine ⟨(k c).1.trans ?_, (k c).2⟩
    rw [e0.trans (H c).h, e1.trans (H c).d]
    exact Cert.DwIn.reference _ _

end Cert.Claims2

end
-- ==== Proof.Kv.lean ====
/- The memory's projection, forward: the kernel's three results and the reference's, over the extended reals. -/
module

public import proofs.«01_k».proof.Proof.Inputs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.Kv

open Idealize.ShloMosaic Idealize.ShloMosaic.TcCoe Idealize.SL.Sem Cert.Spec Cert.Reals
open Cert.Lift (up1 up2 up3)
open Cert.Inputs (ent eq_up2)

/-- The normalised rows times the gain. -/
def nm (x : Mat 256 1024) (g : Mat 1 1024) : Mat 256 1024 := fun i j => nrm x i j * g 0 j

/-- The first and the second half of the columns, and the transpose. -/
def fst (p : Mat 256 2048) : Mat 256 1024 := fun i j => p i ⟨j.val, by omega⟩
def snd (p : Mat 256 2048) : Mat 256 1024 := fun i j => p i ⟨1024 + j.val, by omega⟩
def flip (p : Mat 256 1024) : Mat 1024 256 := fun i j => p j i

section Kernel

open Cert.Kernel4Ideal Cert.Kernel4Ideal.Gen

theorem nm_up (x : Mat 256 1024) (g : Mat 1 1024) :
    k0_pay1 (F := Ideal) (up2 (φ := .f32) x) (up2 (φ := .f32) g) = (up2 (nm x g) : FVec Ideal S256x1024 .f32) := by
  funext i
  idx_vars i
  pointwise [k0_pay1, up2]
  rw [bits_1024, bits_eps]
  rfl

theorem mm_up (x : Mat 256 1024) (g : Mat 1 1024) (w : Mat 1024 2048) :
    k0_pay2 (F := Ideal) (up2 (φ := .f32) x) (up2 (φ := .f32) g) (up2 (φ := .bf16) w) = (up2 (mm (nm x g) w) : FVec Ideal S256x2048 .f32) := by
  simp -proj only [k0_pay2, nm_up]
  funext i
  idx_vars i
  pointwise [up2]
  rfl

theorem pay3 (x : Mat 256 1024) (g : Mat 1 1024) (w : Mat 1024 2048) :
    k0_pay3 (F := Ideal) (up2 (φ := .f32) x) (up2 (φ := .f32) g) (up2 (φ := .bf16) w) = (up2 (fst (mm (nm x g) w)) : FVec Ideal S256x1024 .bf16) := by
  simp -proj only [k0_pay3, mm_up]
  funext i
  idx_vars i
  pointwise [up2]
  rfl

theorem pay4 (x : Mat 256 1024) (g : Mat 1 1024) (w : Mat 1024 2048) :
    k0_pay4 (F := Ideal) (up2 (φ := .f32) x) (up2 (φ := .f32) g) (up2 (φ := .bf16) w) = (up2 (snd (mm (nm x g) w)) : FVec Ideal S256x1024 .bf16) := by
  simp -proj only [k0_pay4, mm_up]
  funext i
  idx_vars i
  pointwise [up2]
  rfl

theorem pay5 (x : Mat 256 1024) (g : Mat 1 1024) :
    k0_pay5 (F := Ideal) (up2 (φ := .f32) x) (up2 (φ := .f32) g) = (up2 (flip (nm x g)) : FVec Ideal S1024x256 .bf16) := by
  simp -proj only [k0_pay5, nm_up]
  funext i
  idx_vars i
  pointwise [up2]
  rfl

theorem out3 (x : Mat 256 1024) (g : Mat 1 1024) (w : Mat 1024 2048) :
    out0_3 (F := Ideal) (up2 (φ := .f32) x) (up2 (φ := .f32) g) (up2 (φ := .bf16) w) = up2 (φ := .bf16) (fst (mm (nm x g) w)) := by
  unfold out0_3
  rw [View.canon_cons_unit_lit' _ _ _ (by decide), View.ld_unit_lit' _ _ (by decide), View.ld_unit_lit' _ _ (by decide), View.ld_unit_lit' _ _ (by decide), pay3]

theorem out4 (x : Mat 256 1024) (g : Mat 1 1024) (w : Mat 1024 2048) :
    out0_4 (F := Ideal) (up2 (φ := .f32) x) (up2 (φ := .f32) g) (up2 (φ := .bf16) w) = up2 (φ := .bf16) (snd (mm (nm x g) w)) := by
  unfold out0_4
  rw [View.canon_cons_unit_lit' _ _ _ (by decide), View.ld_unit_lit' _ _ (by decide), View.ld_unit_lit' _ _ (by decide), View.ld_unit_lit' _ _ (by decide), pay4]

theorem out5 (x : Mat 256 1024) (g : Mat 1 1024) (w : Mat 1024 2048) :
    out0_5 (F := Ideal) (up2 (φ := .f32) x) (up2 (φ := .f32) g) (up2 (φ := .bf16) w) = up2 (φ := .bf16) (flip (nm x g)) := by
  unfold out0_5
  rw [View.canon_cons_unit_lit' _ _ _ (by decide), View.ld_unit_lit' _ _ (by decide), View.ld_unit_lit' _ _ (by decide), pay5]

variable {m : (ℓ : Loc nD τ sig) → Buf (Elt Ideal) ℓ} {c : Dev nD} {x : Mat 256 1024} {g : Mat 1 1024} {w : Mat 1024 2048}

/-- The argument arrays are the memory's rows, the gain and the weights. -/
structure Holds (m : (ℓ : Loc nD τ sig) → Buf (Elt Ideal) ℓ) (c : Dev nD) (x : Mat 256 1024) (g : Mat 1 1024) (w : Mat 1024 2048) : Prop where
  x : m ((c.tc : Thread nD τ).loc main_arg0) = (up2 x : FVec Ideal ⟨2, ![256, 1024]⟩ .f32)
  g : m ((c.tc : Thread nD τ).loc main_arg1) = (up2 g : FVec Ideal ⟨2, ![1, 1024]⟩ .f32)
  w : m ((c.tc : Thread nD τ).loc main_arg2) = (up2 w : FVec Ideal ⟨2, ![1024, 2048]⟩ .bf16)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

theorem blk_x (H : Holds m c x g w) (t : Fin cfg0.N) : (iblk m c 0 t : Vec Ideal S256x1024 .f32) = up2 (φ := .f32) x := by
  funext y
  blk_simp [iblk, V]
  rw [H.x]
  refine congrArg₂ x (Fin.ext ?_) (Fin.ext ?_)
  · blk_simp [idx t]
  · blk_simp [idx t]

theorem blk_g (H : Holds m c x g w) (t : Fin cfg0.N) : (iblk m c 1 t : Vec Ideal S1x1024 .f32) = up2 (φ := .f32) g := by
  funext y
  blk_simp [iblk, V]
  rw [H.g]
  refine congrArg₂ g (Fin.ext ?_) (Fin.ext ?_)
  · blk_simp [idx t]
  · blk_simp [idx t]

theorem blk_w (H : Holds m c x g w) (t : Fin cfg0.N) : (iblk m c 2 t : Vec Ideal S1024x2048 .bf16) = up2 (φ := .bf16) w := by
  funext y
  blk_simp [iblk, V]
  rw [H.w]
  refine congrArg₂ w (Fin.ext ?_) (Fin.ext ?_)
  · blk_simp [idx t]
  · blk_simp [idx t]

theorem kernel3 (H : Holds m c x g w) : (dats m 0 c).arrAt 3 cfg0.N = (up2 (φ := .bf16) (fst (mm (nm x g) w)) : Vec Ideal S256x1024 .bf16) := by
  refine (dats m 0 c).arrAt_eq_of_covers 3 _ (by decide +kernel) fun t _ y => ?_
  blk_simp
  rw [after0_3, blk_x H, blk_g H, blk_w H, out3]
  refine congrArg₂ (fst (mm (nm x g) w)) (Fin.ext ?_) (Fin.ext ?_)
  · blk_simp [idx t]
  · blk_simp [idx t]

theorem kernel4 (H : Holds m c x g w) : (dats m 0 c).arrAt 4 cfg0.N = (up2 (φ := .bf16) (snd (mm (nm x g) w)) : Vec Ideal S256x1024 .bf16) := by
  refine (dats m 0 c).arrAt_eq_of_covers 4 _ (by decide +kernel) fun t _ y => ?_
  blk_simp
  rw [after0_4, blk_x H, blk_g H, blk_w H, out4]
  refine congrArg₂ (snd (mm (nm x g) w)) (Fin.ext ?_) (Fin.ext ?_)
  · blk_simp [idx t]
  · blk_simp [idx t]

theorem kernel5 (H : Holds m c x g w) : (dats m 0 c).arrAt 5 cfg0.N = (up2 (φ := .bf16) (flip (nm x g)) : Vec Ideal S1024x256 .bf16) := by
  refine (dats m 0 c).arrAt_eq_of_covers 5 _ (by decide +kernel) fun t _ y => ?_
  blk_simp
  rw [after0_5, blk_x H, blk_g H, blk_w H, out5]
  refine congrArg₂ (flip (nm x g)) (Fin.ext ?_) (Fin.ext ?_)
  · blk_simp [idx t]
  · blk_simp [idx t]

end Kernel

section Reference

open Cert.Reference4Ideal Cert.Reference4Ideal.Gen Idealize.ShloMosaic.StableHlo

theorem ref_nm (x : Mat 256 1024) (g : Mat 1 1024) :
    mulf (mulf (up2 x : FVec Ideal S256x1024 .f32) (broadcastInDim S256x1024 ![0, 1] bcast_S256x1_S256x1024_0_1 (Host.rsqrt (addf (Host.divf (broadcastInDim S256x1 ![0] bcast_S256_S256x1_0 (Host.reduceAdd (mulf (up2 x : FVec Ideal S256x1024 .f32) (up2 x)) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (up2 g : FVec Ideal S1x1024 .f32))
      = up2 (nm x g) := by
  funext i
  idx_vars i
  pointwise [up2]
  simp only [zero_add, bits_1024, bits_eps]
  rfl

theorem ref_mm (h : Mat 256 1024) (w : Mat 1024 2048) :
    Host.dotGeneral (φ₁ := .f32) (φ₂ := .f32) dot_S256x1024_S1024x2048_S256x2048_1_0_0_1_n_n none (up2 h : FVec Ideal S256x1024 .f32) (extf .f32 (up2 w : FVec Ideal S1024x2048 .bf16) bitsLt_bf16_f32)
      = (up2 (mm h w) : FVec Ideal S256x2048 .f32) := by
  funext i
  idx_vars i
  pointwise [up2]
  rfl

theorem ref_fst (p : Mat 256 2048) :
    truncf .bf16 (extractStridedSlice S256x1024 ![0, 0] (up2 p : FVec Ideal S256x2048 .f32) slices_S256x2048_S256x1024_0_0) bitsLt_bf16_f32 = (up2 (fst p) : FVec Ideal S256x1024 .bf16) := by
  funext i
  idx_vars i
  pointwise [up2]
  rfl

theorem ref_snd (p : Mat 256 2048) :
    truncf .bf16 (extractStridedSlice S256x1024 ![0, 1024] (up2 p : FVec Ideal S256x2048 .f32) slices_S256x2048_S256x1024_0_1024) bitsLt_bf16_f32 = (up2 (snd p) : FVec Ideal S256x1024 .bf16) := by
  funext i
  idx_vars i
  pointwise [up2]
  rfl

theorem ref_flip (h : Mat 256 1024) :
    truncf .bf16 (transpose S1024x256 [1, 0] (up2 h : FVec Ideal S256x1024 .f32) transposes_S256x1024_S1024x256_1_0) bitsLt_bf16_f32 = (up2 (flip h) : FVec Ideal S1024x256 .bf16) := by
  funext i
  idx_vars i
  pointwise [up2]
  rfl

end Reference

end Cert.Kv

end
-- ==== Proof.KvBack.lean ====
/- The memory's projection, backward: the kernel's two results and the reference's, over the extended reals. -/
module

public import proofs.«01_k».proof.Proof.Kv
public import proofs.«01_k».proof.Proof.Gen.Kernel5Ideal.Value
public import proofs.«01_k».proof.Proof.Gen.Reference5Ideal.Run

@[expose] public section

set_option maxRecDepth 16384

noncomputable section

namespace Cert.KvBack

open Idealize.ShloMosaic Idealize.ShloMosaic.TcCoe Idealize.SL.Sem Cert.Spec Cert.Reals
open Cert.Lift (up1 up2 up3)
open Cert.Inputs (ent eq_up2)
open Cert.Kv (nm)

/-- The two cotangents side by side. -/
def cat (a b : Mat 256 1024) : Mat 256 2048 :=
  ent (φ := .f32) (concatenate Cert.Kernel5Ideal.S256x2048 1 [⟨Cert.Kernel5Ideal.S256x1024, (up2 a : FVec Ideal Cert.Kernel5Ideal.S256x1024 .f32)⟩, ⟨Cert.Kernel5Ideal.S256x1024, (up2 b : FVec Ideal Cert.Kernel5Ideal.S256x1024 .f32)⟩] Cert.Kernel5Ideal.Gen.concatenates_S256x1024_S256x1024_S256x2048_d1)

/-- The cotangent of the weights, and of the gain. -/
def dw (x : Mat 256 1024) (g : Mat 1 1024) (a b : Mat 256 1024) : Mat 1024 2048 := mm (Kv.flip (nm x g)) (cat a b)
def dg (x : Mat 256 1024) (w : Mat 1024 2048) (a b : Mat 256 1024) : Mat 1 1024 := fun _ j => ∑ i, mmT (cat a b) w i j * nrm x i j

section Kernel

open Cert.Kernel5Ideal Cert.Kernel5Ideal.Gen

theorem cat_up (a b : Mat 256 1024) :
    k0_pay1 (F := Ideal) (up2 (φ := .f32) a) (up2 (φ := .f32) b) = (up2 (cat a b) : FVec Ideal S256x2048 .bf16) := by
  simp -proj only [k0_pay1]
  rw [eq_up2 (φ := .f32) (concatenate _ _ _ _)]
  funext i
  idx_vars i
  pointwise [up2]
  rfl

theorem pay2 (a b : Mat 256 1024) (t : Mat 1024 256) :
    k0_pay2 (F := Ideal) (up2 (φ := .f32) a) (up2 (φ := .f32) b) (up2 (φ := .bf16) t) = (up2 (mm t (cat a b)) : FVec Ideal S1024x2048 .bf16) := by
  simp -proj only [k0_pay2, cat_up]
  funext i
  idx_vars i
  pointwise [up2]
  rfl

theorem pay3 (a b : Mat 256 1024) (w : Mat 1024 2048) (x : Mat 256 1024) :
    k0_pay3 (F := Ideal) (up2 (φ := .f32) a) (up2 (φ := .f32) b) (up2 (φ := .bf16) w) (up2 (φ := .f32) x) = (up2 (dg x w a b) : FVec Ideal S1x1024 .f32) := by
  simp -proj only [k0_pay3, cat_up]
  funext i
  idx_vars i
  pointwise [up2]
  rw [bits_1024, bits_eps]
  rfl

theorem out5 (x : Mat 256 1024) (w : Mat 1024 2048) (t : Mat 1024 256) (a b : Mat 256 1024) :
    out0_5 (F := Ideal) (up2 (φ := .f32) x) (up2 (φ := .bf16) w) (up2 (φ := .bf16) t) (up2 (φ := .f32) a) (up2 (φ := .f32) b) = up2 (φ := .bf16) (mm t (cat a b)) := by
  unfold out0_5
  rw [View.canon_cons_unit_lit' _ _ _ (by decide), View.ld_unit_lit' _ _ (by decide), View.ld_unit_lit' _ _ (by decide), View.ld_unit_lit' _ _ (by decide), pay2]

theorem out6 (x : Mat 256 1024) (w : Mat 1024 2048) (t : Mat 1024 256) (a b : Mat 256 1024) :
    out0_6 (F := Ideal) (up2 (φ := .f32) x) (up2 (φ := .bf16) w) (up2 (φ := .bf16) t) (up2 (φ := .f32) a) (up2 (φ := .f32) b) = up2 (φ := .f32) (dg x w a b) := by
  unfold out0_6
  rw [View.canon_cons_unit_lit' _ _ _ (by decide), View.ld_unit_lit' _ _ (by decide), View.ld_unit_lit' _ _ (by decide), View.ld_unit_lit' _ _ (by decide), View.ld_unit_lit' _ _ (by decide), pay3]

variable {m : (ℓ : Loc nD τ sig) → Buf (Elt Ideal) ℓ} {c : Dev nD} {x : Mat 256 1024} {g : Mat 1 1024} {w : Mat 1024 2048} {a b : Mat 256 1024}

/-- The argument arrays are the memory's rows, the gain, the weights and the two cotangents. -/
structure Holds (m : (ℓ : Loc nD τ sig) → Buf (Elt Ideal) ℓ) (c : Dev nD) (x : Mat 256 1024) (g : Mat 1 1024) (w : Mat 1024 2048) (a b : Mat 256 1024) : Prop where
  x : m ((c.tc : Thread nD τ).loc main_arg0) = (up2 x : FVec Ideal ⟨2, ![256, 1024]⟩ .f32)
  g : m ((c.tc : Thread nD τ).loc main_arg1) = (up2 g : FVec Ideal ⟨2, ![1, 1024]⟩ .f32)
  w : m ((c.tc : Thread nD τ).loc main_arg2) = (up2 w : FVec Ideal ⟨2, ![1024, 2048]⟩ .bf16)
  a : m ((c.tc : Thread nD τ).loc main_arg3) = (up2 a : FVec Ideal ⟨2, ![256, 1024]⟩ .f32)
  b : m ((c.tc : Thread nD τ).loc main_arg4) = (up2 b : FVec Ideal ⟨2, ![256, 1024]⟩ .f32)

section Host

open Idealize.ShloMosaic.StableHlo

theorem host_nm (x : Mat 256 1024) (g : Mat 1 1024) :
    mulf (mulf (up2 x : FVec Ideal S256x1024 .f32) (broadcastInDim S256x1024 ![0, 1] bcast_S256x1_S256x1024_0_1 (Host.rsqrt (addf (Host.divf (broadcastInDim S256x1 ![0] bcast_S256_S256x1_0 (Host.reduceAdd (mulf (up2 x : FVec Ideal S256x1024 .f32) (up2 x)) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (up2 g : FVec Ideal S1x1024 .f32))
      = up2 (nm x g) := by
  funext i
  idx_vars i
  pointwise [up2]
  simp only [zero_add, bits_1024, bits_eps]
  rfl

theorem host_flip (h : Mat 256 1024) :
    truncf .bf16 (transpose S1024x256 [1, 0] (up2 h : FVec Ideal S256x1024 .f32) transposes_S256x1024_S1024x256_1_0) bitsLt_bf16_f32 = (up2 (Kv.flip h) : FVec Ideal S1024x256 .bf16) := by
  funext i
  idx_vars i
  pointwise [up2]
  rfl

/-- The host leaves the transposed normalised rows. -/
theorem V_t (H : Holds m c x g w a b) : V m c main_v13 = (up2 (Kv.flip (nm x g)) : FVec Ideal ⟨2, ![1024, 256]⟩ .bf16) := by
  have e : V m c main_v13 = (truncf .bf16 (transpose S1024x256 [1, 0] (mulf (φ := .f32) (mulf (φ := .f32) (m ((c.tc : Thread nD τ).loc main_arg0)) (broadcastInDim S256x1024 ![0, 1] bcast_S256x1_S256x1024_0_1 (Host.rsqrt (addf (Host.divf (broadcastInDim S256x1 ![0] bcast_S256_S256x1_0 (Host.reduceAdd (mulf (φ := .f32) (m ((c.tc : Thread nD τ).loc main_arg0)) (m ((c.tc : Thread nD τ).loc main_arg0))) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))) (broadcastInDim S256x1024 ![0, 1] bcast_S1x1024_S256x1024_0_1 (m ((c.tc : Thread nD τ).loc main_arg1)))) transposes_S256x1024_S1024x256_1_0) bitsLt_bf16_f32 : FVec Ideal S1024x256 .bf16) := by
    after_results
    rfl
  rw [e, H.x, H.g, host_nm, host_flip]

end Host

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem blk_x (H : Holds m c x g w a b) (t : Fin cfg0.N) : (iblk m c 0 t : Vec Ideal S256x1024 .f32) = up2 (φ := .f32) x := by
  funext y
  blk_simp [iblk]
  refine (congrFun ((V_main_arg0 m c).trans H.x) _).trans (congrArg₂ x (Fin.ext ?_) (Fin.ext ?_))
  · blk_simp [idx t]
  · blk_simp [idx t]

theorem blk_w (H : Holds m c x g w a b) (t : Fin cfg0.N) : (iblk m c 1 t : Vec Ideal S1024x2048 .bf16) = up2 (φ := .bf16) w := by
  funext y
  blk_simp [iblk]
  refine (congrFun ((V_main_arg2 m c).trans H.w) _).trans (congrArg₂ w (Fin.ext ?_) (Fin.ext ?_))
  · blk_simp [idx t]
  · blk_simp [idx t]

theorem blk_t (H : Holds m c x g w a b) (t : Fin cfg0.N) : (iblk m c 2 t : Vec Ideal S1024x256 .bf16) = up2 (φ := .bf16) (Kv.flip (nm x g)) := by
  funext y
  blk_simp [iblk]
  refine (congrFun (V_t H) _).trans (congrArg₂ (Kv.flip (nm x g)) (Fin.ext ?_) (Fin.ext ?_))
  · blk_simp [idx t]
  · blk_simp [idx t]

theorem blk_a (H : Holds m c x g w a b) (t : Fin cfg0.N) : (iblk m c 3 t : Vec Ideal S256x1024 .f32) = up2 (φ := .f32) a := by
  funext y
  blk_simp [iblk]
  refine (congrFun ((V_main_arg3 m c).trans H.a) _).trans (congrArg₂ a (Fin.ext ?_) (Fin.ext ?_))
  · blk_simp [idx t]
  · blk_simp [idx t]

theorem blk_b (H : Holds m c x g w a b) (t : Fin cfg0.N) : (iblk m c 4 t : Vec Ideal S256x1024 .f32) = up2 (φ := .f32) b := by
  funext y
  blk_simp [iblk]
  refine (congrFun ((V_main_arg4 m c).trans H.b) _).trans (congrArg₂ b (Fin.ext ?_) (Fin.ext ?_))
  · blk_simp [idx t]
  · blk_simp [idx t]

theorem kernel5 (H : Holds m c x g w a b) : (dats m 0 c).arrAt 5 cfg0.N = (up2 (φ := .bf16) (dw x g a b) : Vec Ideal S1024x2048 .bf16) := by
  refine (dats m 0 c).arrAt_eq_of_covers 5 _ (by decide +kernel) fun t _ y => ?_
  blk_simp
  rw [after0_5, blk_x H, blk_w H, blk_t H, blk_a H, blk_b H, out5]
  refine congrArg₂ (dw x g a b) (Fin.ext ?_) (Fin.ext ?_)
  · blk_simp [idx t]
  · blk_simp [idx t]

theorem kernel6 (H : Holds m c x g w a b) : (dats m 0 c).arrAt 6 cfg0.N = (up2 (φ := .f32) (dg x w a b) : Vec Ideal S1x1024 .f32) := by
  refine (dats m 0 c).arrAt_eq_of_covers 6 _ (by decide +kernel) fun t _ y => ?_
  blk_simp
  rw [after0_6, blk_x H, blk_w H, blk_t H, blk_a H, blk_b H, out6]
  refine congrArg₂ (dg x w a b) (Fin.ext ?_) (Fin.ext ?_)
  · blk_simp [idx t]
  · blk_simp [idx t]

end Kernel

section Reference

open Cert.Reference5Ideal Cert.Reference5Ideal.Gen Idealize.ShloMosaic.StableHlo

theorem ref_nrm (x : Mat 256 1024) :
    mulf (up2 x : FVec Ideal S256x1024 .f32) (broadcastInDim S256x1024 ![0, 1] bcast_S256x1_S256x1024_0_1 (Host.rsqrt (addf (Host.divf (broadcastInDim S256x1 ![0] bcast_S256_S256x1_0 (Host.reduceAdd (mulf (up2 x : FVec Ideal S256x1024 .f32) (up2 x)) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32)))))
      = up2 (nrm x) := by
  funext i
  idx_vars i
  pointwise [up2]
  simp only [zero_add, bits_1024, bits_eps]
  rfl

theorem ref_cat (a b : Mat 256 1024) :
    concatenate S256x2048 1 [⟨S256x1024, (up2 a : FVec Ideal S256x1024 .f32)⟩, ⟨S256x1024, (up2 b : FVec Ideal S256x1024 .f32)⟩] concatenates_S256x1024_S256x1024_S256x2048_d1 = (up2 (cat a b) : FVec Ideal S256x2048 .f32) :=
  eq_up2 (φ := .f32) _

theorem ref_gain (v : Mat 256 1024) (g : Mat 1 1024) :
    mulf (up2 v : FVec Ideal S256x1024 .f32) (broadcastInDim S256x1024 ![0, 1] bcast_S1x1024_S256x1024_0_1 (up2 g : FVec Ideal S1x1024 .f32)) = up2 fun i j => v i j * g 0 j := by
  funext i
  idx_vars i
  pointwise [up2]

theorem ref_dw (x : Mat 256 1024) (g : Mat 1 1024) (a b : Mat 256 1024) :
    truncf .bf16 (transpose S1024x2048 [1, 0] (Host.dotGeneral (φ₁ := .f32) (φ₂ := .f32) dot_S256x2048_S256x1024_S2048x1024_0_0_1_1_n_n none (up2 (cat a b) : FVec Ideal S256x2048 .f32) (up2 (fun i j => nrm x i j * g 0 j) : FVec Ideal S256x1024 .f32)) transposes_S2048x1024_S1024x2048_1_0) bitsLt_bf16_f32
      = (up2 (dw x g a b) : FVec Ideal S1024x2048 .bf16) := by
  funext i
  idx_vars i
  pointwise [up2]
  exact Finset.sum_congr rfl fun l _ => EReal.mul_comm _ _

theorem ref_dg (x : Mat 256 1024) (w : Mat 1024 2048) (a b : Mat 256 1024) :
    shapeCast S1x1024 (Host.reduceAdd (mulf (up2 (nrm x) : FVec Ideal S256x1024 .f32) (Host.dotGeneral (φ₁ := .f32) (φ₂ := .f32) dot_S256x2048_S1024x2048_S256x1024_1_1_0_0_n_n none (up2 (cat a b) : FVec Ideal S256x2048 .f32) (extf .f32 (up2 w : FVec Ideal S1024x2048 .bf16) bitsLt_bf16_f32))) (constant S_ .f32 0x00000000#32) reducesTo_S256x1024_S1024_d0 h_S_) shapeCasts_S1024_S1x1024
      = (up2 (dg x w a b) : FVec Ideal S1x1024 .f32) := by
  funext i
  idx_vars i
  pointwise [up2]
  exact Finset.sum_congr rfl fun l _ => EReal.mul_comm _ _

end Reference

end Cert.KvBack

end
-- ==== Proof.Claims3.lean ====
/- The claims about the memory's two calls: each program's frame, and the kernels' results equal to the references'. -/
module

public import proofs.«01_k».proof.Defs
public import proofs.«01_k».proof.Proof.Kv
public import proofs.«01_k».proof.Proof.KvBack
public import proofs.«01_k».proof.Proof.Gen.Kernel4.Frame
public import proofs.«01_k».proof.Proof.Gen.Kernel5.Frame
public import Idealize.ShloMosaic.Lib.Claim

@[expose] public section

noncomputable section

namespace Cert.Claims3

open Idealize.ShloMosaic Idealize.SL.Sem Cert.Spec
open Cert.Lift (up2)
open Cert.Inputs (ent eq_up2)

theorem frame_p : @Cert.quiescent_Kernel4 Cert.Kernel4.Gen.facts := fun m ρ _ => Cert.Kernel4.Gen.frame m ρ

theorem frame_pi : @Cert.quiescent_Kernel4Ideal Cert.Kernel4Ideal.Gen.facts := fun m ρ _ => Cert.Kernel4Ideal.Gen.frame m ρ

theorem frame_ri : @Cert.quiescent_Reference4Ideal Cert.Reference4Ideal.Gen.facts := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

/-- The keys, the values and the transposed normalised rows are the reference's, infinite entries included. -/
theorem algebraic : @Cert.algebraic_Kernel4Ideal_Reference4Ideal Cert.Kernel4Ideal.Gen.facts Cert.Reference4Ideal.Gen.facts := by
  intro m g m' g' _ hagree
  let x (c : Dev Cert.Kernel4Ideal.nD) := ent (a := 256) (b := 1024) (φ := .f32) (m ((c.tc : Thread Cert.Kernel4Ideal.nD Cert.Kernel4Ideal.τ).loc Cert.Kernel4Ideal.main_arg0))
  let s (c : Dev Cert.Kernel4Ideal.nD) := ent (a := 1) (b := 1024) (φ := .f32) (m ((c.tc : Thread Cert.Kernel4Ideal.nD Cert.Kernel4Ideal.τ).loc Cert.Kernel4Ideal.main_arg1))
  let w (c : Dev Cert.Kernel4Ideal.nD) := ent (a := 1024) (b := 2048) (φ := .bf16) (m ((c.tc : Thread Cert.Kernel4Ideal.nD Cert.Kernel4Ideal.τ).loc Cert.Kernel4Ideal.main_arg2))
  have H (c : Dev Cert.Kernel4Ideal.nD) : Cert.Kv.Holds m c (x c) (s c) (w c) := ⟨eq_up2 (φ := .f32) _, eq_up2 (φ := .f32) _, eq_up2 (φ := .bf16) _⟩
  refine ⟨fun c => (up2 (φ := .bf16) (Cert.Kv.fst (mm (Cert.Kv.nm (x c) (s c)) (w c)))), fun c => (up2 (φ := .bf16) (Cert.Kv.snd (mm (Cert.Kv.nm (x c) (s c)) (w c)))),
    fun c => (up2 (φ := .bf16) (Cert.Kv.flip (Cert.Kv.nm (x c) (s c)))), ?_, ?_⟩
  · refine (θ_run Cert.Kernel4Ideal.defs _ _).mono (fun r k c => ?_) (Cert.Kernel4Ideal.Value.run_blocks (F := Ideal) m g)
    obtain ⟨h0, h1, h2, hk⟩ := k c
    exact ⟨h0.trans (Cert.Kv.kernel3 (H c)), h1.trans (Cert.Kv.kernel4 (H c)), h2.trans (Cert.Kv.kernel5 (H c)), hk⟩
  · refine (θ_run Cert.Reference4Ideal.defs _ _).mono (fun r k c => ?_) (Cert.Reference4Ideal.Value.run (F := Ideal) m' g')
    obtain ⟨e0, e1, e2⟩ := hagree c
    obtain ⟨h0, h1, h2, hk⟩ := k c
    rw [e0.trans (H c).x, e1.trans (H c).g, e2.trans (H c).w, Cert.Kv.ref_nm, Cert.Kv.ref_mm] at h0 h1
    rw [e0.trans (H c).x, e1.trans (H c).g, Cert.Kv.ref_nm] at h2
    exact ⟨h0.trans (Cert.Kv.ref_fst _), h1.trans (Cert.Kv.ref_snd _), h2.trans (Cert.Kv.ref_flip _), hk⟩

theorem frame5_p : @Cert.quiescent_Kernel5 Cert.Kernel5.Gen.facts := fun m ρ _ => Cert.Kernel5.Gen.frame m ρ

theorem frame5_pi : @Cert.quiescent_Kernel5Ideal Cert.Kernel5Ideal.Gen.facts := fun m ρ _ => Cert.Kernel5Ideal.Gen.frame m ρ

theorem frame5_ri : @Cert.quiescent_Reference5Ideal Cert.Reference5Ideal.Gen.facts := fun m ρ _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m ρ)

/-- The cotangents of the weights and of the gain are the reference's, infinite entries included. -/
theorem algebraic5 : @Cert.algebraic_Kernel5Ideal_Reference5Ideal Cert.Kernel5Ideal.Gen.facts Cert.Reference5Ideal.Gen.facts := by
  intro m g m' g' _ hagree
  let x (c : Dev Cert.Kernel5Ideal.nD) := ent (a := 256) (b := 1024) (φ := .f32) (m ((c.tc : Thread Cert.Kernel5Ideal.nD Cert.Kernel5Ideal.τ).loc Cert.Kernel5Ideal.main_arg0))
  let s (c : Dev Cert.Kernel5Ideal.nD) := ent (a := 1) (b := 1024) (φ := .f32) (m ((c.tc : Thread Cert.Kernel5Ideal.nD Cert.Kernel5Ideal.τ).loc Cert.Kernel5Ideal.main_arg1))
  let w (c : Dev Cert.Kernel5Ideal.nD) := ent (a := 1024) (b := 2048) (φ := .bf16) (m ((c.tc : Thread Cert.Kernel5Ideal.nD Cert.Kernel5Ideal.τ).loc Cert.Kernel5Ideal.main_arg2))
  let a (c : Dev Cert.Kernel5Ideal.nD) := ent (a := 256) (b := 1024) (φ := .f32) (m ((c.tc : Thread Cert.Kernel5Ideal.nD Cert.Kernel5Ideal.τ).loc Cert.Kernel5Ideal.main_arg3))
  let b (c : Dev Cert.Kernel5Ideal.nD) := ent (a := 256) (b := 1024) (φ := .f32) (m ((c.tc : Thread Cert.Kernel5Ideal.nD Cert.Kernel5Ideal.τ).loc Cert.Kernel5Ideal.main_arg4))
  have H (c : Dev Cert.Kernel5Ideal.nD) : Cert.KvBack.Holds m c (x c) (s c) (w c) (a c) (b c) :=
    ⟨eq_up2 (φ := .f32) _, eq_up2 (φ := .f32) _, eq_up2 (φ := .bf16) _, eq_up2 (φ := .f32) _, eq_up2 (φ := .f32) _⟩
  refine ⟨fun c => (up2 (φ := .bf16) (Cert.KvBack.dw (x c) (s c) (a c) (b c))), fun c => (up2 (φ := .f32) (Cert.KvBack.dg (x c) (w c) (a c) (b c))), ?_, ?_⟩
  · refine (θ_run Cert.Kernel5Ideal.defs _ _).mono (fun r k c => ?_) (Cert.Kernel5Ideal.Value.run_blocks (F := Ideal) m g)
    obtain ⟨h0, h1, hk⟩ := k c
    exact ⟨h0.trans (Cert.KvBack.kernel5 (H c)), h1.trans (Cert.KvBack.kernel6 (H c)), hk⟩
  · refine (θ_run Cert.Reference5Ideal.defs _ _).mono (fun r k c => ?_) (Cert.Reference5Ideal.Value.run (F := Ideal) m' g')
    obtain ⟨e0, e1, e2, e3, e4⟩ := hagree c
    obtain ⟨h0, h1, hk⟩ := k c
    rw [e0.trans (H c).x, e1.trans (H c).g, e3.trans (H c).a, e4.trans (H c).b, Cert.KvBack.ref_nrm, Cert.KvBack.ref_cat, Cert.KvBack.ref_gain] at h0
    rw [e0.trans (H c).x, e2.trans (H c).w, e3.trans (H c).a, e4.trans (H c).b, Cert.KvBack.ref_nrm, Cert.KvBack.ref_cat] at h1
    exact ⟨h0.trans (Cert.KvBack.ref_dw _ _ _ _), h1.trans (Cert.KvBack.ref_dg _ _ _ _), hk⟩

end Cert.Claims3

end
-- ==== Proof.lean ====
/- The certificate: the programs' stated facts, then the programs' frames, the reading of the kernels over
   the extended reals, and the equations between the kernels' results and the references'. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Claims
public import proofs.«01_k».proof.Proof.Claims2
public import proofs.«01_k».proof.Proof.Claims3
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Claims.frame_p, Cert.Claims.frame_pi, Cert.Claims.frame_ri,
  Cert.Claims2.frame_p, Cert.Claims2.frame_pi, Cert.Claims2.frame_ri,
  Cert.Claims2.frame3_p, Cert.Claims2.frame3_pi, Cert.Claims2.frame3_ri,
  Cert.Claims3.frame_p, Cert.Claims3.frame_pi, Cert.Claims3.frame_ri,
  Cert.Claims3.frame5_p, Cert.Claims3.frame5_pi, Cert.Claims3.frame5_ri,
  trivial, Cert.Claims.algebraic, trivial, Cert.Claims2.algebraic, trivial, Cert.Claims2.algebraic3,
  trivial, Cert.Claims3.algebraic, trivial, Cert.Claims3.algebraic5⟩

end Cert.Proof

end
